-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4x2560 : Shape := ⟨3, ![512, 4, 2560]⟩
abbrev S512x4 : Shape := ⟨2, ![512, 4]⟩
abbrev S2560x4096 : Shape := ⟨2, ![2560, 4096]⟩
abbrev S4096 : Shape := ⟨1, ![4096]⟩
abbrev S4x128 : Shape := ⟨2, ![4, 128]⟩
abbrev S4 : Shape := ⟨1, ![4]⟩
abbrev S2048x2560 : Shape := ⟨2, ![2048, 2560]⟩
abbrev S1x4096 : Shape := ⟨2, ![1, 4096]⟩
abbrev S1x4 : Shape := ⟨2, ![1, 4]⟩
abbrev S4x257 : Shape := ⟨2, ![4, 257]⟩
abbrev S256x128 : Shape := ⟨2, ![256, 128]⟩
abbrev S1024x128 : Shape := ⟨2, ![1024, 128]⟩
abbrev S256x512 : Shape := ⟨2, ![256, 512]⟩
abbrev S8 : Shape := ⟨1, ![8]⟩
abbrev S1 : Shape := ⟨1, ![1]⟩
abbrev S_ : Shape := ⟨0, ![]⟩
abbrev S256x2560 : Shape := ⟨2, ![256, 2560]⟩
abbrev S2560x512 : Shape := ⟨2, ![2560, 512]⟩
abbrev S8x128 : Shape := ⟨2, ![8, 128]⟩
abbrev S8x128x1 : Shape := ⟨3, ![8, 128, 1]⟩
abbrev S4x1 : Shape := ⟨2, ![4, 1]⟩
abbrev S4x127 : Shape := ⟨2, ![4, 127]⟩
abbrev S1x128 : Shape := ⟨2, ![1, 128]⟩
abbrev S64x4 : Shape := ⟨2, ![64, 4]⟩
abbrev S64x1 : Shape := ⟨2, ![64, 1]⟩
abbrev S64x128 : Shape := ⟨2, ![64, 128]⟩
abbrev S1x512 : Shape := ⟨2, ![1, 512]⟩
abbrev S8x1 : Shape := ⟨2, ![8, 1]⟩
abbrev S128 : Shape := ⟨1, ![128]⟩

abbrev nBuf : Space → Nat
  | .hbm => 14
  | .vmem => 20
  | .smem => 2
  | _ => 0

abbrev bufTy : (tb : Table) → Fin (tcTables nBuf tb) → BufTy
  | .hbm, ⟨0, _⟩ => ⟨S512x4x2560, .fp8e4m3⟩
  | .hbm, ⟨1, _⟩ => ⟨S512x4, .f32⟩
  | .hbm, ⟨2, _⟩ => ⟨S2560x4096, .fp8e4m3⟩
  | .hbm, ⟨3, _⟩ => ⟨S4096, .f32⟩
  | .hbm, ⟨4, _⟩ => ⟨S4096, .f32⟩
  | .hbm, ⟨5, _⟩ => ⟨S4x128, .i32⟩
  | .hbm, ⟨6, _⟩ => ⟨S4, .i32⟩
  | .hbm, ⟨7, _⟩ => ⟨S4, .i32⟩
  | .hbm, ⟨8, _⟩ => ⟨S2048x2560, .fp8e4m3⟩
  | .hbm, ⟨9, _⟩ => ⟨S1x4096, .f32⟩
  | .hbm, ⟨10, _⟩ => ⟨S1x4096, .f32⟩
  | .hbm, ⟨11, _⟩ => ⟨S1x4, .f32⟩
  | .hbm, ⟨12, _⟩ => ⟨S512x4, .f32⟩
  | .hbm, ⟨13, _⟩ => ⟨S4x257, .f32⟩
  | .local _ .vmem, ⟨0, _⟩ => ⟨S512x4, .f32⟩
  | .local _ .vmem, ⟨1, _⟩ => ⟨S1x4096, .f32⟩
  | .local _ .vmem, ⟨2, _⟩ => ⟨S1x4096, .f32⟩
  | .local _ .vmem, ⟨3, _⟩ => ⟨S4x128, .i32⟩
  | .local _ .vmem, ⟨4, _⟩ => ⟨S1x4, .f32⟩
  | .local _ .vmem, ⟨5, _⟩ => ⟨S512x4, .f32⟩
  | .local _ .vmem, ⟨6, _⟩ => ⟨S4x257, .f32⟩
  | .local _ .vmem, ⟨7, _⟩ => ⟨S2048x2560, .fp8e4m3⟩
  | .local _ .vmem, ⟨8, _⟩ => ⟨S2560x4096, .fp8e4m3⟩
  | .local _ .vmem, ⟨9, _⟩ => ⟨S1x4096, .f32⟩
  | .local _ .vmem, ⟨10, _⟩ => ⟨S1x4096, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S1024x128, .f32⟩
  | .local _ .vmem, ⟨18, _⟩ => ⟨S256x128, .f32⟩
  | .local _ .vmem, ⟨19, _⟩ => ⟨S256x512, .f32⟩
  | .local _ .smem, ⟨0, _⟩ => ⟨S4, .i32⟩
  | .local _ .smem, ⟨1, _⟩ => ⟨S4, .i32⟩
  | _, _ => ⟨S512x4x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_scratch12 : Ref sig .tc := ⟨.vmem, 19, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_233 : BitVec 32 := 0#32
  let c32_i32_234 : BitVec 32 := 32#32
  let v535 : BitVec 32 := Scalar.addi c0_i32_233 c32_i32_234
  let c1_i32_235 : BitVec 32 := 1#32
  ⟨c0_i32_233, v535, c1_i32_235⟩
def k0_mult1 (k0_t1 : Fin k0_t1_loop.trips) : BitVec 32 :=
  let c0_i32_233 : BitVec 32 := 0#32
  let c1_i32_235 : BitVec 32 := 1#32
  let arg26 : BitVec 32 := Scf.iv c0_i32_233 c1_i32_235 k0_t1
  let c8_i32_600 : BitVec 32 := 8#32
  let v1644 : BitVec 32 := Scalar.muli arg26 c8_i32_600
  v1644
def k0_off1 (k0_t1 : Fin k0_t1_loop.trips) : Fin 2 → Nat :=
  let c0_i32_233 : BitVec 32 := 0#32
  let c1_i32_235 : BitVec 32 := 1#32
  let arg26 : BitVec 32 := Scf.iv c0_i32_233 c1_i32_235 k0_t1
  let c8_i32_600 : BitVec 32 := 8#32
  let v1644 : BitVec 32 := Scalar.muli arg26 c8_i32_600
  let v1645 : BitVec 32 := v1644
  let v1646 : Index := Scalar.indexCast v1645
  let c0_601 : Index := 0#32
  ![v1646.toNat, 0]
def k0_off2 (k0_t1 : Fin k0_t1_loop.trips) : Fin 2 → Nat :=
  let c0_i32_233 : BitVec 32 := 0#32
  let c1_i32_235 : BitVec 32 := 1#32
  let arg26 : BitVec 32 := Scf.iv c0_i32_233 c1_i32_235 k0_t1
  let c8_i32_600 : BitVec 32 := 8#32
  let v1644 : BitVec 32 := Scalar.muli arg26 c8_i32_600
  let v1645 : BitVec 32 := v1644
  let v1648 : Index := Scalar.indexCast v1645
  let c0_602 : Index := 0#32
  ![v1648.toNat, 0]
def k0_off3 (k0_t1 : Fin k0_t1_loop.trips) : Fin 2 → Nat :=
  let c0_i32_233 : BitVec 32 := 0#32
  let c1_i32_235 : BitVec 32 := 1#32
  let arg26 : BitVec 32 := Scf.iv c0_i32_233 c1_i32_235 k0_t1
  let c8_i32_600 : BitVec 32 := 8#32
  let v1644 : BitVec 32 := Scalar.muli arg26 c8_i32_600
  let v1645 : BitVec 32 := v1644
  let v1657 : Index := Scalar.indexCast v1645
  let c128_603 : Index := 128#32
  ![v1657.toNat, 128]
def k0_off4 (k0_t1 : Fin k0_t1_loop.trips) : Fin 2 → Nat :=
  let c0_i32_233 : BitVec 32 := 0#32
  let c1_i32_235 : BitVec 32 := 1#32
  let arg26 : BitVec 32 := Scf.iv c0_i32_233 c1_i32_235 k0_t1
  let c8_i32_600 : BitVec 32 := 8#32
  let v1644 : BitVec 32 := Scalar.muli arg26 c8_i32_600
  let v1645 : BitVec 32 := v1644
  let v1666 : Index := Scalar.indexCast v1645
  let c256_604 : Index := 256#32
  ![v1666.toNat, 256]
def k0_off5 (k0_t1 : Fin k0_t1_loop.trips) : Fin 2 → Nat :=
  let c0_i32_233 : BitVec 32 := 0#32
  let c1_i32_235 : BitVec 32 := 1#32
  let arg26 : BitVec 32 := Scf.iv c0_i32_233 c1_i32_235 k0_t1
  let c8_i32_600 : BitVec 32 := 8#32
  let v1644 : BitVec 32 := Scalar.muli arg26 c8_i32_600
  let v1645 : BitVec 32 := v1644
  let v1675 : Index := Scalar.indexCast v1645
  let c384 : Index := 384#32
  ![v1675.toNat, 384]
@[reducible] def k0_t2_loop : Scf.Loop 32 :=
  let c1_i32_237 : BitVec 32 := 1#32
  let c7_i32_238 : BitVec 32 := 7#32
  let v536 : BitVec 32 := Scalar.addi c1_i32_237 c7_i32_238
  let c1_i32_239 : BitVec 32 := 1#32
  ⟨c1_i32_237, v536, c1_i32_239⟩
def k0_off6 (k0_t2 : Fin k0_t2_loop.trips) : Fin 1 → Nat :=
  let c1_i32_237 : BitVec 32 := 1#32
  let c1_i32_239 : BitVec 32 := 1#32
  let arg26 : BitVec 32 := Scf.iv c1_i32_237 c1_i32_239 k0_t2
  ![arg26.toNat]
def k0_off7 (k0_t2 : Fin k0_t2_loop.trips) : Fin 2 → Nat :=
  let c0_i32_601 : BitVec 32 := 0#32
  let c1_i32_237 : BitVec 32 := 1#32
  let c1_i32_239 : BitVec 32 := 1#32
  let arg26 : BitVec 32 := Scf.iv c1_i32_237 c1_i32_239 k0_t2
  let c512_i32_600 : BitVec 32 := 512#32
  let v1644 : BitVec 32 := Scalar.muli arg26 c512_i32_600
  ![0, v1644.toNat]
def k0_mult2 (k0_t2 : Fin k0_t2_loop.trips) : BitVec 32 :=
  let c1_i32_237 : BitVec 32 := 1#32
  let c1_i32_239 : BitVec 32 := 1#32
  let arg26 : BitVec 32 := Scf.iv c1_i32_237 c1_i32_239 k0_t2
  let c512_i32_605 : BitVec 32 := 512#32
  let v1650 : BitVec 32 := Scalar.muli arg26 c512_i32_605
  v1650
def k0_off8 (k0_t2 : Fin k0_t2_loop.trips) : Fin 2 → Nat :=
  let c0_606 : Index := 0#32
  let c1_i32_237 : BitVec 32 := 1#32
  let c1_i32_239 : BitVec 32 := 1#32
  let arg26 : BitVec 32 := Scf.iv c1_i32_237 c1_i32_239 k0_t2
  let c512_i32_605 : BitVec 32 := 512#32
  let v1650 : BitVec 32 := Scalar.muli arg26 c512_i32_605
  let v1651 : BitVec 32 := v1650
  let v1652 : Index := Scalar.indexCast v1651
  ![0, v1652.toNat]
def k0_off9 (k0_t2 : Fin k0_t2_loop.trips) : Fin 2 → Nat :=
  let c0_610 : Index := 0#32
  let c1_i32_237 : BitVec 32 := 1#32
  let c1_i32_239 : BitVec 32 := 1#32
  let arg26 : BitVec 32 := Scf.iv c1_i32_237 c1_i32_239 k0_t2
  let c512_i32_605 : BitVec 32 := 512#32
  let v1650 : BitVec 32 := Scalar.muli arg26 c512_i32_605
  let v1651 : BitVec 32 := v1650
  let v1658 : Index := Scalar.indexCast v1651
  ![0, v1658.toNat]
@[reducible] def k0_t3_loop : Scf.Loop 32 :=
  let c0_i32_612 : BitVec 32 := 0#32
  let c32_i32_613 : BitVec 32 := 32#32
  let v1662 : BitVec 32 := Scalar.addi c0_i32_612 c32_i32_613
  let c1_i32_614 : BitVec 32 := 1#32
  ⟨c0_i32_612, v1662, c1_i32_614⟩
def k0_mult3 (k0_t3 : Fin k0_t3_loop.trips) : BitVec 32 :=
  let c0_i32_612 : BitVec 32 := 0#32
  let c1_i32_614 : BitVec 32 := 1#32
  let arg27 : BitVec 32 := Scf.iv c0_i32_612 c1_i32_614 k0_t3
  let c8_i32_616 : BitVec 32 := 8#32
  let v1663 : BitVec 32 := Scalar.muli arg27 c8_i32_616
  v1663
def k0_off10 (k0_t3 : Fin k0_t3_loop.trips) : Fin 2 → Nat :=
  let c0_i32_612 : BitVec 32 := 0#32
  let c1_i32_614 : BitVec 32 := 1#32
  let arg27 : BitVec 32 := Scf.iv c0_i32_612 c1_i32_614 k0_t3
  let c8_i32_616 : BitVec 32 := 8#32
  let v1663 : BitVec 32 := Scalar.muli arg27 c8_i32_616
  let v1664 : BitVec 32 := v1663
  let v1665 : Index := Scalar.indexCast v1664
  let c0_617 : Index := 0#32
  ![v1665.toNat, 0]
def k0_off11 (k0_t3 : Fin k0_t3_loop.trips) : Fin 2 → Nat :=
  let c0_i32_612 : BitVec 32 := 0#32
  let c1_i32_614 : BitVec 32 := 1#32
  let arg27 : BitVec 32 := Scf.iv c0_i32_612 c1_i32_614 k0_t3
  let c8_i32_616 : BitVec 32 := 8#32
  let v1663 : BitVec 32 := Scalar.muli arg27 c8_i32_616
  let v1664 : BitVec 32 := v1663
  let v1667 : Index := Scalar.indexCast v1664
  let c0_618 : Index := 0#32
  ![v1667.toNat, 0]
def k0_off12 (k0_t3 : Fin k0_t3_loop.trips) : Fin 2 → Nat :=
  let c0_i32_612 : BitVec 32 := 0#32
  let c1_i32_614 : BitVec 32 := 1#32
  let arg27 : BitVec 32 := Scf.iv c0_i32_612 c1_i32_614 k0_t3
  let c8_i32_616 : BitVec 32 := 8#32
  let v1663 : BitVec 32 := Scalar.muli arg27 c8_i32_616
  let v1664 : BitVec 32 := v1663
  let v1676 : Index := Scalar.indexCast v1664
  let c128_619 : Index := 128#32
  ![v1676.toNat, 128]
def k0_off13 (k0_t3 : Fin k0_t3_loop.trips) : Fin 2 → Nat :=
  let c0_i32_612 : BitVec 32 := 0#32
  let c1_i32_614 : BitVec 32 := 1#32
  let arg27 : BitVec 32 := Scf.iv c0_i32_612 c1_i32_614 k0_t3
  let c8_i32_616 : BitVec 32 := 8#32
  let v1663 : BitVec 32 := Scalar.muli arg27 c8_i32_616
  let v1664 : BitVec 32 := v1663
  let v1685 : Index := Scalar.indexCast v1664
  let c256_620 : Index := 256#32
  ![v1685.toNat, 256]
def k0_off14 (k0_t3 : Fin k0_t3_loop.trips) : Fin 2 → Nat :=
  let c0_i32_612 : BitVec 32 := 0#32
  let c1_i32_614 : BitVec 32 := 1#32
  let arg27 : BitVec 32 := Scf.iv c0_i32_612 c1_i32_614 k0_t3
  let c8_i32_616 : BitVec 32 := 8#32
  let v1663 : BitVec 32 := Scalar.muli arg27 c8_i32_616
  let v1664 : BitVec 32 := v1663
  let v1694 : Index := Scalar.indexCast v1664
  let c384 : Index := 384#32
  ![v1694.toNat, 384]
@[reducible] def k0_t4_loop : Scf.Loop 32 :=
  let c0_i32_241 : BitVec 32 := 0#32
  let c32_i32_242 : BitVec 32 := 32#32
  let v537 : BitVec 32 := Scalar.addi c0_i32_241 c32_i32_242
  let c1_i32_243 : BitVec 32 := 1#32
  ⟨c0_i32_241, v537, c1_i32_243⟩
def k0_mult4 (k0_t4 : Fin k0_t4_loop.trips) : BitVec 32 :=
  let c0_i32_241 : BitVec 32 := 0#32
  let c1_i32_243 : BitVec 32 := 1#32
  let arg26 : BitVec 32 := Scf.iv c0_i32_241 c1_i32_243 k0_t4
  let c8_i32_600 : BitVec 32 := 8#32
  let v1644 : BitVec 32 := Scalar.muli arg26 c8_i32_600
  v1644
def k0_off15 (k0_t4 : Fin k0_t4_loop.trips) : Fin 2 → Nat :=
  let c0_i32_241 : BitVec 32 := 0#32
  let c1_i32_243 : BitVec 32 := 1#32
  let arg26 : BitVec 32 := Scf.iv c0_i32_241 c1_i32_243 k0_t4
  let c8_i32_600 : BitVec 32 := 8#32
  let v1644 : BitVec 32 := Scalar.muli arg26 c8_i32_600
  let v1645 : BitVec 32 := v1644
  let v1646 : Index := Scalar.indexCast v1645
  let c0_601 : Index := 0#32
  ![v1646.toNat, 0]
def k0_mult5 (k0_t4 : Fin k0_t4_loop.trips) : BitVec 32 :=
  let c2_i32_615 : BitVec 32 := 2#32
  let c0_i32_241 : BitVec 32 := 0#32
  let c1_i32_243 : BitVec 32 := 1#32
  let arg26 : BitVec 32 := Scf.iv c0_i32_241 c1_i32_243 k0_t4
  let v1698 : BitVec 32 := Scalar.muli c2_i32_615 arg26
  let c0_i32_616 : BitVec 32 := 0#32
  let v1699 : BitVec 32 := Scalar.addi v1698 c0_i32_616
  let c2_i32_617 : BitVec 32 := 2#32
  let v1700 : BitVec 32 := Scalar.muli v1699 c2_i32_617
  let c8_i32_618 : BitVec 32 := 8#32
  let v1701 : BitVec 32 := Scalar.muli v1700 c8_i32_618
  let c0_i32_619 : BitVec 32 := 0#32
  let v1702 : BitVec 32 := Scalar.addi v1701 c0_i32_619
  v1702
def k0_off16 (k0_t4 : Fin k0_t4_loop.trips) (c0_i32_616 : BitVec 32) (c0_i32_619 : BitVec 32) : Fin 2 → Nat :=
  let c2_i32_615 : BitVec 32 := 2#32
  let c0_i32_241 : BitVec 32 := 0#32
  let c1_i32_243 : BitVec 32 := 1#32
  let arg26 : BitVec 32 := Scf.iv c0_i32_241 c1_i32_243 k0_t4
  let v1698 : BitVec 32 := Scalar.muli c2_i32_615 arg26
  let v1699 : BitVec 32 := Scalar.addi v1698 c0_i32_616
  let c2_i32_617 : BitVec 32 := 2#32
  let v1700 : BitVec 32 := Scalar.muli v1699 c2_i32_617
  let c8_i32_618 : BitVec 32 := 8#32
  let v1701 : BitVec 32 := Scalar.muli v1700 c8_i32_618
  let v1702 : BitVec 32 := Scalar.addi v1701 c0_i32_619
  let v1703 : BitVec 32 := v1702
  let v1704 : Index := Scalar.indexCast v1703
  let c0_620 : Index := 0#32
  ![v1704.toNat, 0]
def k0_mult6 (k0_t4 : Fin k0_t4_loop.trips) : BitVec 32 :=
  let c2_i32_624 : BitVec 32 := 2#32
  let c0_i32_241 : BitVec 32 := 0#32
  let c1_i32_243 : BitVec 32 := 1#32
  let arg26 : BitVec 32 := Scf.iv c0_i32_241 c1_i32_243 k0_t4
  let v1718 : BitVec 32 := Scalar.muli c2_i32_624 arg26
  let c0_i32_625 : BitVec 32 := 0#32
  let v1719 : BitVec 32 := Scalar.addi v1718 c0_i32_625
  let c2_i32_626 : BitVec 32 := 2#32
  let v1720 : BitVec 32 := Scalar.muli v1719 c2_i32_626
  let c8_i32_627 : BitVec 32 := 8#32
  let v1721 : BitVec 32 := Scalar.muli v1720 c8_i32_627
  let c8_i32_628 : BitVec 32 := 8#32
  let v1722 : BitVec 32 := Scalar.addi v1721 c8_i32_628
  v1722
def k0_mult7 (k0_t4 : Fin k0_t4_loop.trips) : BitVec 32 :=
  let c2_i32_635 : BitVec 32 := 2#32
  let c0_i32_241 : BitVec 32 := 0#32
  let c1_i32_243 : BitVec 32 := 1#32
  let arg26 : BitVec 32 := Scf.iv c0_i32_241 c1_i32_243 k0_t4
  let v1746 : BitVec 32 := Scalar.muli c2_i32_635 arg26
  let c1_i32_636 : BitVec 32 := 1#32
  let v1747 : BitVec 32 := Scalar.addi v1746 c1_i32_636
  let c2_i32_637 : BitVec 32 := 2#32
  let v1748 : BitVec 32 := Scalar.muli v1747 c2_i32_637
  let c8_i32_638 : BitVec 32 := 8#32
  let v1749 : BitVec 32 := Scalar.muli v1748 c8_i32_638
  let c0_i32_639 : BitVec 32 := 0#32
  let v1750 : BitVec 32 := Scalar.addi v1749 c0_i32_639
  v1750
def k0_mult8 (k0_t4 : Fin k0_t4_loop.trips) : BitVec 32 :=
  let c2_i32_644 : BitVec 32 := 2#32
  let c0_i32_241 : BitVec 32 := 0#32
  let c1_i32_243 : BitVec 32 := 1#32
  let arg26 : BitVec 32 := Scf.iv c0_i32_241 c1_i32_243 k0_t4
  let v1766 : BitVec 32 := Scalar.muli c2_i32_644 arg26
  let c1_i32_645 : BitVec 32 := 1#32
  let v1767 : BitVec 32 := Scalar.addi v1766 c1_i32_645
  let c2_i32_646 : BitVec 32 := 2#32
  let v1768 : BitVec 32 := Scalar.muli v1767 c2_i32_646
  let c8_i32_647 : BitVec 32 := 8#32
  let v1769 : BitVec 32 := Scalar.muli v1768 c8_i32_647
  let c8_i32_648 : BitVec 32 := 8#32
  let v1770 : BitVec 32 := Scalar.addi v1769 c8_i32_648
  v1770
@[reducible] def k0_t5_loop : Scf.Loop 32 :=
  let c1_i32_262 : BitVec 32 := 1#32
  let c7_i32_263 : BitVec 32 := 7#32
  let v565 : BitVec 32 := Scalar.addi c1_i32_262 c7_i32_263
  let c1_i32_264 : BitVec 32 := 1#32
  ⟨c1_i32_262, v565, c1_i32_264⟩
def k0_off17 (k0_t5 : Fin k0_t5_loop.trips) : Fin 1 → Nat :=
  let c1_i32_262 : BitVec 32 := 1#32
  let c1_i32_264 : BitVec 32 := 1#32
  let arg26 : BitVec 32 := Scf.iv c1_i32_262 c1_i32_264 k0_t5
  ![arg26.toNat]
def k0_off18 (k0_t5 : Fin k0_t5_loop.trips) : Fin 2 → Nat :=
  let c1_i32_262 : BitVec 32 := 1#32
  let c1_i32_264 : BitVec 32 := 1#32
  let arg26 : BitVec 32 := Scf.iv c1_i32_262 c1_i32_264 k0_t5
  let c256_i32_600 : BitVec 32 := 256#32
  let v1644 : BitVec 32 := Scalar.muli arg26 c256_i32_600
  let c0_i32_601 : BitVec 32 := 0#32
  ![v1644.toNat, 0]
def k0_off19 (k0_t5 : Fin k0_t5_loop.trips) : Fin 2 → Nat :=
  let c1_i32_262 : BitVec 32 := 1#32
  let c1_i32_264 : BitVec 32 := 1#32
  let arg26 : BitVec 32 := Scf.iv c1_i32_262 c1_i32_264 k0_t5
  let c64_i32 : BitVec 32 := 64#32
  let v1649 : BitVec 32 := Scalar.muli arg26 c64_i32
  let v1650 : Index := Scalar.indexCast v1649
  let c0_603 : Index := 0#32
  ![v1650.toNat, 0]
def k0_off20 (k0_t5 : Fin k0_t5_loop.trips) : Fin 2 → Nat :=
  let c1_i32_262 : BitVec 32 := 1#32
  let c1_i32_264 : BitVec 32 := 1#32
  let arg26 : BitVec 32 := Scf.iv c1_i32_262 c1_i32_264 k0_t5
  let c256_i32_612 : BitVec 32 := 256#32
  let v1676 : BitVec 32 := Scalar.muli arg26 c256_i32_612
  let v1677 : Index := Scalar.indexCast v1676
  let c0_613 : Index := 0#32
  ![v1677.toNat, 0]
@[reducible] def k0_t6_loop : Scf.Loop 32 :=
  let c0_i32_623 : BitVec 32 := 0#32
  let c32_i32_624 : BitVec 32 := 32#32
  let v1686 : BitVec 32 := Scalar.addi c0_i32_623 c32_i32_624
  let c1_i32_625 : BitVec 32 := 1#32
  ⟨c0_i32_623, v1686, c1_i32_625⟩
def k0_mult9 (k0_t6 : Fin k0_t6_loop.trips) : BitVec 32 :=
  let c0_i32_623 : BitVec 32 := 0#32
  let c1_i32_625 : BitVec 32 := 1#32
  let arg33 : BitVec 32 := Scf.iv c0_i32_623 c1_i32_625 k0_t6
  let c8_i32_833 : BitVec 32 := 8#32
  let v2307 : BitVec 32 := Scalar.muli arg33 c8_i32_833
  v2307
def k0_off21 (k0_t6 : Fin k0_t6_loop.trips) : Fin 2 → Nat :=
  let c0_i32_623 : BitVec 32 := 0#32
  let c1_i32_625 : BitVec 32 := 1#32
  let arg33 : BitVec 32 := Scf.iv c0_i32_623 c1_i32_625 k0_t6
  let c8_i32_833 : BitVec 32 := 8#32
  let v2307 : BitVec 32 := Scalar.muli arg33 c8_i32_833
  let v2308 : BitVec 32 := v2307
  let v2309 : Index := Scalar.indexCast v2308
  let c0_834 : Index := 0#32
  ![v2309.toNat, 0]
def k0_off22 (k0_t6 : Fin k0_t6_loop.trips) : Fin 2 → Nat :=
  let c0_i32_623 : BitVec 32 := 0#32
  let c1_i32_625 : BitVec 32 := 1#32
  let arg33 : BitVec 32 := Scf.iv c0_i32_623 c1_i32_625 k0_t6
  let c8_i32_833 : BitVec 32 := 8#32
  let v2307 : BitVec 32 := Scalar.muli arg33 c8_i32_833
  let v2308 : BitVec 32 := v2307
  let v2311 : Index := Scalar.indexCast v2308
  let c0_835 : Index := 0#32
  ![v2311.toNat, 0]
def k0_off23 (k0_t6 : Fin k0_t6_loop.trips) : Fin 2 → Nat :=
  let c0_i32_623 : BitVec 32 := 0#32
  let c1_i32_625 : BitVec 32 := 1#32
  let arg33 : BitVec 32 := Scf.iv c0_i32_623 c1_i32_625 k0_t6
  let c8_i32_833 : BitVec 32 := 8#32
  let v2307 : BitVec 32 := Scalar.muli arg33 c8_i32_833
  let v2308 : BitVec 32 := v2307
  let v2320 : Index := Scalar.indexCast v2308
  let c128_836 : Index := 128#32
  ![v2320.toNat, 128]
def k0_off24 (k0_t6 : Fin k0_t6_loop.trips) : Fin 2 → Nat :=
  let c0_i32_623 : BitVec 32 := 0#32
  let c1_i32_625 : BitVec 32 := 1#32
  let arg33 : BitVec 32 := Scf.iv c0_i32_623 c1_i32_625 k0_t6
  let c8_i32_833 : BitVec 32 := 8#32
  let v2307 : BitVec 32 := Scalar.muli arg33 c8_i32_833
  let v2308 : BitVec 32 := v2307
  let v2329 : Index := Scalar.indexCast v2308
  let c256_837 : Index := 256#32
  ![v2329.toNat, 256]
def k0_off25 (k0_t6 : Fin k0_t6_loop.trips) : Fin 2 → Nat :=
  let c0_i32_623 : BitVec 32 := 0#32
  let c1_i32_625 : BitVec 32 := 1#32
  let arg33 : BitVec 32 := Scf.iv c0_i32_623 c1_i32_625 k0_t6
  let c8_i32_833 : BitVec 32 := 8#32
  let v2307 : BitVec 32 := Scalar.muli arg33 c8_i32_833
  let v2308 : BitVec 32 := v2307
  let v2338 : Index := Scalar.indexCast v2308
  let c384 : Index := 384#32
  ![v2338.toNat, 384]
@[reducible] def k0_t7_loop : Scf.Loop 32 :=
  let c1_i32_627 : BitVec 32 := 1#32
  let c7_i32_628 : BitVec 32 := 7#32
  let v1687 : BitVec 32 := Scalar.addi c1_i32_627 c7_i32_628
  let c1_i32_629 : BitVec 32 := 1#32
  ⟨c1_i32_627, v1687, c1_i32_629⟩
def k0_off26 (k0_t5 : Fin k0_t5_loop.trips) : Fin 2 → Nat :=
  let c1_i32_262 : BitVec 32 := 1#32
  let c1_i32_264 : BitVec 32 := 1#32
  let arg26 : BitVec 32 := Scf.iv c1_i32_262 c1_i32_264 k0_t5
  let c256_i32_833 : BitVec 32 := 256#32
  let v2307 : BitVec 32 := Scalar.muli arg26 c256_i32_833
  let v2308 : Index := Scalar.indexCast v2307
  let c0_834 : Index := 0#32
  ![v2308.toNat, 0]
def k0_mult10 (k0_t7 : Fin k0_t7_loop.trips) : BitVec 32 :=
  let c1_i32_627 : BitVec 32 := 1#32
  let c1_i32_629 : BitVec 32 := 1#32
  let arg33 : BitVec 32 := Scf.iv c1_i32_627 c1_i32_629 k0_t7
  let c512_i32_835 : BitVec 32 := 512#32
  let v2310 : BitVec 32 := Scalar.muli arg33 c512_i32_835
  v2310
def k0_off27 (k0_t7 : Fin k0_t7_loop.trips) : Fin 2 → Nat :=
  let c0_836 : Index := 0#32
  let c1_i32_627 : BitVec 32 := 1#32
  let c1_i32_629 : BitVec 32 := 1#32
  let arg33 : BitVec 32 := Scf.iv c1_i32_627 c1_i32_629 k0_t7
  let c512_i32_835 : BitVec 32 := 512#32
  let v2310 : BitVec 32 := Scalar.muli arg33 c512_i32_835
  let v2311 : BitVec 32 := v2310
  let v2312 : Index := Scalar.indexCast v2311
  ![0, v2312.toNat]
def k0_off28 (k0_t7 : Fin k0_t7_loop.trips) : Fin 2 → Nat :=
  let c0_840 : Index := 0#32
  let c1_i32_627 : BitVec 32 := 1#32
  let c1_i32_629 : BitVec 32 := 1#32
  let arg33 : BitVec 32 := Scf.iv c1_i32_627 c1_i32_629 k0_t7
  let c512_i32_835 : BitVec 32 := 512#32
  let v2310 : BitVec 32 := Scalar.muli arg33 c512_i32_835
  let v2311 : BitVec 32 := v2310
  let v2318 : Index := Scalar.indexCast v2311
  ![0, v2318.toNat]
@[reducible] def k0_t8_loop : Scf.Loop 32 :=
  let c0_i32_842 : BitVec 32 := 0#32
  let c32_i32_843 : BitVec 32 := 32#32
  let v2322 : BitVec 32 := Scalar.addi c0_i32_842 c32_i32_843
  let c1_i32_844 : BitVec 32 := 1#32
  ⟨c0_i32_842, v2322, c1_i32_844⟩
def k0_mult11 (k0_t8 : Fin k0_t8_loop.trips) : BitVec 32 :=
  let c0_i32_842 : BitVec 32 := 0#32
  let c1_i32_844 : BitVec 32 := 1#32
  let arg34 : BitVec 32 := Scf.iv c0_i32_842 c1_i32_844 k0_t8
  let c8_i32_846 : BitVec 32 := 8#32
  let v2323 : BitVec 32 := Scalar.muli arg34 c8_i32_846
  v2323
def k0_off29 (k0_t8 : Fin k0_t8_loop.trips) : Fin 2 → Nat :=
  let c0_i32_842 : BitVec 32 := 0#32
  let c1_i32_844 : BitVec 32 := 1#32
  let arg34 : BitVec 32 := Scf.iv c0_i32_842 c1_i32_844 k0_t8
  let c8_i32_846 : BitVec 32 := 8#32
  let v2323 : BitVec 32 := Scalar.muli arg34 c8_i32_846
  let v2324 : BitVec 32 := v2323
  let v2325 : Index := Scalar.indexCast v2324
  let c0_847 : Index := 0#32
  ![v2325.toNat, 0]
def k0_off30 (k0_t8 : Fin k0_t8_loop.trips) : Fin 2 → Nat :=
  let c0_i32_842 : BitVec 32 := 0#32
  let c1_i32_844 : BitVec 32 := 1#32
  let arg34 : BitVec 32 := Scf.iv c0_i32_842 c1_i32_844 k0_t8
  let c8_i32_846 : BitVec 32 := 8#32
  let v2323 : BitVec 32 := Scalar.muli arg34 c8_i32_846
  let v2324 : BitVec 32 := v2323
  let v2327 : Index := Scalar.indexCast v2324
  let c0_848 : Index := 0#32
  ![v2327.toNat, 0]
def k0_off31 (k0_t8 : Fin k0_t8_loop.trips) : Fin 2 → Nat :=
  let c0_i32_842 : BitVec 32 := 0#32
  let c1_i32_844 : BitVec 32 := 1#32
  let arg34 : BitVec 32 := Scf.iv c0_i32_842 c1_i32_844 k0_t8
  let c8_i32_846 : BitVec 32 := 8#32
  let v2323 : BitVec 32 := Scalar.muli arg34 c8_i32_846
  let v2324 : BitVec 32 := v2323
  let v2336 : Index := Scalar.indexCast v2324
  let c128_849 : Index := 128#32
  ![v2336.toNat, 128]
def k0_off32 (k0_t8 : Fin k0_t8_loop.trips) : Fin 2 → Nat :=
  let c0_i32_842 : BitVec 32 := 0#32
  let c1_i32_844 : BitVec 32 := 1#32
  let arg34 : BitVec 32 := Scf.iv c0_i32_842 c1_i32_844 k0_t8
  let c8_i32_846 : BitVec 32 := 8#32
  let v2323 : BitVec 32 := Scalar.muli arg34 c8_i32_846
  let v2324 : BitVec 32 := v2323
  let v2345 : Index := Scalar.indexCast v2324
  let c256_850 : Index := 256#32
  ![v2345.toNat, 256]
def k0_off33 (k0_t8 : Fin k0_t8_loop.trips) : Fin 2 → Nat :=
  let c0_i32_842 : BitVec 32 := 0#32
  let c1_i32_844 : BitVec 32 := 1#32
  let arg34 : BitVec 32 := Scf.iv c0_i32_842 c1_i32_844 k0_t8
  let c8_i32_846 : BitVec 32 := 8#32
  let v2323 : BitVec 32 := Scalar.muli arg34 c8_i32_846
  let v2324 : BitVec 32 := v2323
  let v2354 : Index := Scalar.indexCast v2324
  let c384 : Index := 384#32
  ![v2354.toNat, 384]
@[reducible] def k0_t9_loop : Scf.Loop 32 :=
  let c0_i32_658 : BitVec 32 := 0#32
  let c11_i32_659 : BitVec 32 := 11#32
  let v1785 : BitVec 32 := Scalar.addi c0_i32_658 c11_i32_659
  let c1_i32_660 : BitVec 32 := 1#32
  ⟨c0_i32_658, v1785, c1_i32_660⟩
def k0_off34 (k0_t9 : Fin k0_t9_loop.trips) : Fin 2 → Nat :=
  let c4_i32_833 : BitVec 32 := 4#32
  let c0_i32_658 : BitVec 32 := 0#32
  let c1_i32_660 : BitVec 32 := 1#32
  let arg33 : BitVec 32 := Scf.iv c0_i32_658 c1_i32_660 k0_t9
  let v2307 : BitVec 32 := Scalar.muli c4_i32_833 arg33
  let v2308 : Index := Scalar.indexCast v2307
  let c0_834 : Index := 0#32
  ![v2308.toNat, 0]
def k0_off35 (k0_t9 : Fin k0_t9_loop.trips) (c1_i32_836 : BitVec 32) : Fin 2 → Nat :=
  let c4_i32_835 : BitVec 32 := 4#32
  let c0_i32_658 : BitVec 32 := 0#32
  let c1_i32_660 : BitVec 32 := 1#32
  let arg33 : BitVec 32 := Scf.iv c0_i32_658 c1_i32_660 k0_t9
  let v2312 : BitVec 32 := Scalar.muli c4_i32_835 arg33
  let v2313 : BitVec 32 := Scalar.addi v2312 c1_i32_836
  let v2314 : Index := Scalar.indexCast v2313
  let c0_837 : Index := 0#32
  ![v2314.toNat, 0]
def k0_mult12 (k0_t9 : Fin k0_t9_loop.trips) : BitVec 32 :=
  let c0_i32_658 : BitVec 32 := 0#32
  let c1_i32_660 : BitVec 32 := 1#32
  let arg33 : BitVec 32 := Scf.iv c0_i32_658 c1_i32_660 k0_t9
  let c2_i32_851 : BitVec 32 := 2#32
  let v2345 : BitVec 32 := Scalar.muli arg33 c2_i32_851
  let c8_i32_852 : BitVec 32 := 8#32
  let v2346 : BitVec 32 := Scalar.muli v2345 c8_i32_852
  let c0_i32_853 : BitVec 32 := 0#32
  let v2347 : BitVec 32 := Scalar.addi v2346 c0_i32_853
  v2347
def k0_off36 (k0_t9 : Fin k0_t9_loop.trips) (c0_i32_853 : BitVec 32) : Fin 2 → Nat :=
  let c0_i32_658 : BitVec 32 := 0#32
  let c1_i32_660 : BitVec 32 := 1#32
  let arg33 : BitVec 32 := Scf.iv c0_i32_658 c1_i32_660 k0_t9
  let c2_i32_851 : BitVec 32 := 2#32
  let v2345 : BitVec 32 := Scalar.muli arg33 c2_i32_851
  let c8_i32_852 : BitVec 32 := 8#32
  let v2346 : BitVec 32 := Scalar.muli v2345 c8_i32_852
  let v2347 : BitVec 32 := Scalar.addi v2346 c0_i32_853
  let v2348 : BitVec 32 := v2347
  let v2349 : Index := Scalar.indexCast v2348
  let c0_854 : Index := 0#32
  ![v2349.toNat, 0]
def k0_mult13 (k0_t9 : Fin k0_t9_loop.trips) : BitVec 32 :=
  let c0_i32_658 : BitVec 32 := 0#32
  let c1_i32_660 : BitVec 32 := 1#32
  let arg33 : BitVec 32 := Scf.iv c0_i32_658 c1_i32_660 k0_t9
  let c2_i32_860 : BitVec 32 := 2#32
  let v2381 : BitVec 32 := Scalar.muli arg33 c2_i32_860
  let c8_i32_861 : BitVec 32 := 8#32
  let v2382 : BitVec 32 := Scalar.muli v2381 c8_i32_861
  let c8_i32_862 : BitVec 32 := 8#32
  let v2383 : BitVec 32 := Scalar.addi v2382 c8_i32_862
  v2383
@[reducible] def k0_t10_loop : Scf.Loop 32 :=
  let c11_i32_688 : BitVec 32 := 11#32
  let c11_i32_689 : BitVec 32 := 11#32
  let v1883 : BitVec 32 := Scalar.addi c11_i32_688 c11_i32_689
  let c1_i32_690 : BitVec 32 := 1#32
  ⟨c11_i32_688, v1883, c1_i32_690⟩
def k0_off37 (k0_t10 : Fin k0_t10_loop.trips) : Fin 2 → Nat :=
  let c4_i32_833 : BitVec 32 := 4#32
  let c11_i32_688 : BitVec 32 := 11#32
  let c1_i32_690 : BitVec 32 := 1#32
  let arg33 : BitVec 32 := Scf.iv c11_i32_688 c1_i32_690 k0_t10
  let v2307 : BitVec 32 := Scalar.muli c4_i32_833 arg33
  let v2308 : Index := Scalar.indexCast v2307
  let c0_834 : Index := 0#32
  ![v2308.toNat, 0]
def k0_off38 (k0_t10 : Fin k0_t10_loop.trips) (c1_i32_836 : BitVec 32) : Fin 2 → Nat :=
  let c4_i32_835 : BitVec 32 := 4#32
  let c11_i32_688 : BitVec 32 := 11#32
  let c1_i32_690 : BitVec 32 := 1#32
  let arg33 : BitVec 32 := Scf.iv c11_i32_688 c1_i32_690 k0_t10
  let v2312 : BitVec 32 := Scalar.muli c4_i32_835 arg33
  let v2313 : BitVec 32 := Scalar.addi v2312 c1_i32_836
  let v2314 : Index := Scalar.indexCast v2313
  let c0_837 : Index := 0#32
  ![v2314.toNat, 0]
def k0_mult14 (k0_t10 : Fin k0_t10_loop.trips) : BitVec 32 :=
  let c11_i32_688 : BitVec 32 := 11#32
  let c1_i32_690 : BitVec 32 := 1#32
  let arg33 : BitVec 32 := Scf.iv c11_i32_688 c1_i32_690 k0_t10
  let c2_i32_851 : BitVec 32 := 2#32
  let v2345 : BitVec 32 := Scalar.muli arg33 c2_i32_851
  let c8_i32_852 : BitVec 32 := 8#32
  let v2346 : BitVec 32 := Scalar.muli v2345 c8_i32_852
  let c0_i32_853 : BitVec 32 := 0#32
  let v2347 : BitVec 32 := Scalar.addi v2346 c0_i32_853
  v2347
def k0_off39 (k0_t10 : Fin k0_t10_loop.trips) (c0_i32_853 : BitVec 32) : Fin 2 → Nat :=
  let c11_i32_688 : BitVec 32 := 11#32
  let c1_i32_690 : BitVec 32 := 1#32
  let arg33 : BitVec 32 := Scf.iv c11_i32_688 c1_i32_690 k0_t10
  let c2_i32_851 : BitVec 32 := 2#32
  let v2345 : BitVec 32 := Scalar.muli arg33 c2_i32_851
  let c8_i32_852 : BitVec 32 := 8#32
  let v2346 : BitVec 32 := Scalar.muli v2345 c8_i32_852
  let v2347 : BitVec 32 := Scalar.addi v2346 c0_i32_853
  let v2348 : BitVec 32 := v2347
  let v2349 : Index := Scalar.indexCast v2348
  let c0_854 : Index := 0#32
  ![v2349.toNat, 0]
def k0_mult15 (k0_t10 : Fin k0_t10_loop.trips) : BitVec 32 :=
  let c11_i32_688 : BitVec 32 := 11#32
  let c1_i32_690 : BitVec 32 := 1#32
  let arg33 : BitVec 32 := Scf.iv c11_i32_688 c1_i32_690 k0_t10
  let c2_i32_860 : BitVec 32 := 2#32
  let v2381 : BitVec 32 := Scalar.muli arg33 c2_i32_860
  let c8_i32_861 : BitVec 32 := 8#32
  let v2382 : BitVec 32 := Scalar.muli v2381 c8_i32_861
  let c8_i32_862 : BitVec 32 := 8#32
  let v2383 : BitVec 32 := Scalar.addi v2382 c8_i32_862
  v2383
@[reducible] def k0_t11_loop : Scf.Loop 32 :=
  let c22_i32_718 : BitVec 32 := 22#32
  let c11_i32_719 : BitVec 32 := 11#32
  let v1981 : BitVec 32 := Scalar.addi c22_i32_718 c11_i32_719
  let c1_i32_720 : BitVec 32 := 1#32
  ⟨c22_i32_718, v1981, c1_i32_720⟩
def k0_off40 (k0_t11 : Fin k0_t11_loop.trips) : Fin 2 → Nat :=
  let c4_i32_833 : BitVec 32 := 4#32
  let c22_i32_718 : BitVec 32 := 22#32
  let c1_i32_720 : BitVec 32 := 1#32
  let arg33 : BitVec 32 := Scf.iv c22_i32_718 c1_i32_720 k0_t11
  let v2307 : BitVec 32 := Scalar.muli c4_i32_833 arg33
  let v2308 : Index := Scalar.indexCast v2307
  let c0_834 : Index := 0#32
  ![v2308.toNat, 0]
def k0_off41 (k0_t11 : Fin k0_t11_loop.trips) (c1_i32_836 : BitVec 32) : Fin 2 → Nat :=
  let c4_i32_835 : BitVec 32 := 4#32
  let c22_i32_718 : BitVec 32 := 22#32
  let c1_i32_720 : BitVec 32 := 1#32
  let arg33 : BitVec 32 := Scf.iv c22_i32_718 c1_i32_720 k0_t11
  let v2312 : BitVec 32 := Scalar.muli c4_i32_835 arg33
  let v2313 : BitVec 32 := Scalar.addi v2312 c1_i32_836
  let v2314 : Index := Scalar.indexCast v2313
  let c0_837 : Index := 0#32
  ![v2314.toNat, 0]
def k0_mult16 (k0_t11 : Fin k0_t11_loop.trips) : BitVec 32 :=
  let c22_i32_718 : BitVec 32 := 22#32
  let c1_i32_720 : BitVec 32 := 1#32
  let arg33 : BitVec 32 := Scf.iv c22_i32_718 c1_i32_720 k0_t11
  let c2_i32_851 : BitVec 32 := 2#32
  let v2345 : BitVec 32 := Scalar.muli arg33 c2_i32_851
  let c8_i32_852 : BitVec 32 := 8#32
  let v2346 : BitVec 32 := Scalar.muli v2345 c8_i32_852
  let c0_i32_853 : BitVec 32 := 0#32
  let v2347 : BitVec 32 := Scalar.addi v2346 c0_i32_853
  v2347
def k0_off42 (k0_t11 : Fin k0_t11_loop.trips) (c0_i32_853 : BitVec 32) : Fin 2 → Nat :=
  let c22_i32_718 : BitVec 32 := 22#32
  let c1_i32_720 : BitVec 32 := 1#32
  let arg33 : BitVec 32 := Scf.iv c22_i32_718 c1_i32_720 k0_t11
  let c2_i32_851 : BitVec 32 := 2#32
  let v2345 : BitVec 32 := Scalar.muli arg33 c2_i32_851
  let c8_i32_852 : BitVec 32 := 8#32
  let v2346 : BitVec 32 := Scalar.muli v2345 c8_i32_852
  let v2347 : BitVec 32 := Scalar.addi v2346 c0_i32_853
  let v2348 : BitVec 32 := v2347
  let v2349 : Index := Scalar.indexCast v2348
  let c0_854 : Index := 0#32
  ![v2349.toNat, 0]
def k0_mult17 (k0_t11 : Fin k0_t11_loop.trips) : BitVec 32 :=
  let c22_i32_718 : BitVec 32 := 22#32
  let c1_i32_720 : BitVec 32 := 1#32
  let arg33 : BitVec 32 := Scf.iv c22_i32_718 c1_i32_720 k0_t11
  let c2_i32_860 : BitVec 32 := 2#32
  let v2381 : BitVec 32 := Scalar.muli arg33 c2_i32_860
  let c8_i32_861 : BitVec 32 := 8#32
  let v2382 : BitVec 32 := Scalar.muli v2381 c8_i32_861
  let c8_i32_862 : BitVec 32 := 8#32
  let v2383 : BitVec 32 := Scalar.addi v2382 c8_i32_862
  v2383
@[reducible] def k0_t12_loop : Scf.Loop 32 :=
  let c33_i32_748 : BitVec 32 := 33#32
  let c11_i32_749 : BitVec 32 := 11#32
  let v2079 : BitVec 32 := Scalar.addi c33_i32_748 c11_i32_749
  let c1_i32_750 : BitVec 32 := 1#32
  ⟨c33_i32_748, v2079, c1_i32_750⟩
def k0_off43 (k0_t12 : Fin k0_t12_loop.trips) : Fin 2 → Nat :=
  let c4_i32_833 : BitVec 32 := 4#32
  let c33_i32_748 : BitVec 32 := 33#32
  let c1_i32_750 : BitVec 32 := 1#32
  let arg33 : BitVec 32 := Scf.iv c33_i32_748 c1_i32_750 k0_t12
  let v2307 : BitVec 32 := Scalar.muli c4_i32_833 arg33
  let v2308 : Index := Scalar.indexCast v2307
  let c0_834 : Index := 0#32
  ![v2308.toNat, 0]
def k0_off44 (k0_t12 : Fin k0_t12_loop.trips) (c1_i32_836 : BitVec 32) : Fin 2 → Nat :=
  let c4_i32_835 : BitVec 32 := 4#32
  let c33_i32_748 : BitVec 32 := 33#32
  let c1_i32_750 : BitVec 32 := 1#32
  let arg33 : BitVec 32 := Scf.iv c33_i32_748 c1_i32_750 k0_t12
  let v2312 : BitVec 32 := Scalar.muli c4_i32_835 arg33
  let v2313 : BitVec 32 := Scalar.addi v2312 c1_i32_836
  let v2314 : Index := Scalar.indexCast v2313
  let c0_837 : Index := 0#32
  ![v2314.toNat, 0]
def k0_mult18 (k0_t12 : Fin k0_t12_loop.trips) : BitVec 32 :=
  let c33_i32_748 : BitVec 32 := 33#32
  let c1_i32_750 : BitVec 32 := 1#32
  let arg33 : BitVec 32 := Scf.iv c33_i32_748 c1_i32_750 k0_t12
  let c2_i32_851 : BitVec 32 := 2#32
  let v2345 : BitVec 32 := Scalar.muli arg33 c2_i32_851
  let c8_i32_852 : BitVec 32 := 8#32
  let v2346 : BitVec 32 := Scalar.muli v2345 c8_i32_852
  let c0_i32_853 : BitVec 32 := 0#32
  let v2347 : BitVec 32 := Scalar.addi v2346 c0_i32_853
  v2347
def k0_off45 (k0_t12 : Fin k0_t12_loop.trips) (c0_i32_853 : BitVec 32) : Fin 2 → Nat :=
  let c33_i32_748 : BitVec 32 := 33#32
  let c1_i32_750 : BitVec 32 := 1#32
  let arg33 : BitVec 32 := Scf.iv c33_i32_748 c1_i32_750 k0_t12
  let c2_i32_851 : BitVec 32 := 2#32
  let v2345 : BitVec 32 := Scalar.muli arg33 c2_i32_851
  let c8_i32_852 : BitVec 32 := 8#32
  let v2346 : BitVec 32 := Scalar.muli v2345 c8_i32_852
  let v2347 : BitVec 32 := Scalar.addi v2346 c0_i32_853
  let v2348 : BitVec 32 := v2347
  let v2349 : Index := Scalar.indexCast v2348
  let c0_854 : Index := 0#32
  ![v2349.toNat, 0]
def k0_mult19 (k0_t12 : Fin k0_t12_loop.trips) : BitVec 32 :=
  let c33_i32_748 : BitVec 32 := 33#32
  let c1_i32_750 : BitVec 32 := 1#32
  let arg33 : BitVec 32 := Scf.iv c33_i32_748 c1_i32_750 k0_t12
  let c2_i32_860 : BitVec 32 := 2#32
  let v2381 : BitVec 32 := Scalar.muli arg33 c2_i32_860
  let c8_i32_861 : BitVec 32 := 8#32
  let v2382 : BitVec 32 := Scalar.muli v2381 c8_i32_861
  let c8_i32_862 : BitVec 32 := 8#32
  let v2383 : BitVec 32 := Scalar.addi v2382 c8_i32_862
  v2383
@[reducible] def k0_t13_loop : Scf.Loop 32 :=
  let c44_i32_778 : BitVec 32 := 44#32
  let c10_i32_779 : BitVec 32 := 10#32
  let v2177 : BitVec 32 := Scalar.addi c44_i32_778 c10_i32_779
  let c1_i32_780 : BitVec 32 := 1#32
  ⟨c44_i32_778, v2177, c1_i32_780⟩
def k0_off46 (k0_t13 : Fin k0_t13_loop.trips) : Fin 2 → Nat :=
  let c4_i32_833 : BitVec 32 := 4#32
  let c44_i32_778 : BitVec 32 := 44#32
  let c1_i32_780 : BitVec 32 := 1#32
  let arg33 : BitVec 32 := Scf.iv c44_i32_778 c1_i32_780 k0_t13
  let v2307 : BitVec 32 := Scalar.muli c4_i32_833 arg33
  let v2308 : Index := Scalar.indexCast v2307
  let c0_834 : Index := 0#32
  ![v2308.toNat, 0]
def k0_off47 (k0_t13 : Fin k0_t13_loop.trips) (c1_i32_836 : BitVec 32) : Fin 2 → Nat :=
  let c4_i32_835 : BitVec 32 := 4#32
  let c44_i32_778 : BitVec 32 := 44#32
  let c1_i32_780 : BitVec 32 := 1#32
  let arg33 : BitVec 32 := Scf.iv c44_i32_778 c1_i32_780 k0_t13
  let v2312 : BitVec 32 := Scalar.muli c4_i32_835 arg33
  let v2313 : BitVec 32 := Scalar.addi v2312 c1_i32_836
  let v2314 : Index := Scalar.indexCast v2313
  let c0_837 : Index := 0#32
  ![v2314.toNat, 0]
def k0_mult20 (k0_t13 : Fin k0_t13_loop.trips) : BitVec 32 :=
  let c44_i32_778 : BitVec 32 := 44#32
  let c1_i32_780 : BitVec 32 := 1#32
  let arg33 : BitVec 32 := Scf.iv c44_i32_778 c1_i32_780 k0_t13
  let c2_i32_851 : BitVec 32 := 2#32
  let v2345 : BitVec 32 := Scalar.muli arg33 c2_i32_851
  let c8_i32_852 : BitVec 32 := 8#32
  let v2346 : BitVec 32 := Scalar.muli v2345 c8_i32_852
  let c0_i32_853 : BitVec 32 := 0#32
  let v2347 : BitVec 32 := Scalar.addi v2346 c0_i32_853
  v2347
def k0_off48 (k0_t13 : Fin k0_t13_loop.trips) (c0_i32_853 : BitVec 32) : Fin 2 → Nat :=
  let c44_i32_778 : BitVec 32 := 44#32
  let c1_i32_780 : BitVec 32 := 1#32
  let arg33 : BitVec 32 := Scf.iv c44_i32_778 c1_i32_780 k0_t13
  let c2_i32_851 : BitVec 32 := 2#32
  let v2345 : BitVec 32 := Scalar.muli arg33 c2_i32_851
  let c8_i32_852 : BitVec 32 := 8#32
  let v2346 : BitVec 32 := Scalar.muli v2345 c8_i32_852
  let v2347 : BitVec 32 := Scalar.addi v2346 c0_i32_853
  let v2348 : BitVec 32 := v2347
  let v2349 : Index := Scalar.indexCast v2348
  let c0_854 : Index := 0#32
  ![v2349.toNat, 0]
def k0_mult21 (k0_t13 : Fin k0_t13_loop.trips) : BitVec 32 :=
  let c44_i32_778 : BitVec 32 := 44#32
  let c1_i32_780 : BitVec 32 := 1#32
  let arg33 : BitVec 32 := Scf.iv c44_i32_778 c1_i32_780 k0_t13
  let c2_i32_860 : BitVec 32 := 2#32
  let v2381 : BitVec 32 := Scalar.muli arg33 c2_i32_860
  let c8_i32_861 : BitVec 32 := 8#32
  let v2382 : BitVec 32 := Scalar.muli v2381 c8_i32_861
  let c8_i32_862 : BitVec 32 := 8#32
  let v2383 : BitVec 32 := Scalar.addi v2382 c8_i32_862
  v2383
@[reducible] def k0_t14_loop : Scf.Loop 32 :=
  let c54_i32_808 : BitVec 32 := 54#32
  let c10_i32_809 : BitVec 32 := 10#32
  let v2275 : BitVec 32 := Scalar.addi c54_i32_808 c10_i32_809
  let c1_i32_810 : BitVec 32 := 1#32
  ⟨c54_i32_808, v2275, c1_i32_810⟩
def k0_off49 (k0_t14 : Fin k0_t14_loop.trips) : Fin 2 → Nat :=
  let c4_i32_833 : BitVec 32 := 4#32
  let c54_i32_808 : BitVec 32 := 54#32
  let c1_i32_810 : BitVec 32 := 1#32
  let arg33 : BitVec 32 := Scf.iv c54_i32_808 c1_i32_810 k0_t14
  let v2307 : BitVec 32 := Scalar.muli c4_i32_833 arg33
  let v2308 : Index := Scalar.indexCast v2307
  let c0_834 : Index := 0#32
  ![v2308.toNat, 0]
def k0_off50 (k0_t14 : Fin k0_t14_loop.trips) (c1_i32_836 : BitVec 32) : Fin 2 → Nat :=
  let c4_i32_835 : BitVec 32 := 4#32
  let c54_i32_808 : BitVec 32 := 54#32
  let c1_i32_810 : BitVec 32 := 1#32
  let arg33 : BitVec 32 := Scf.iv c54_i32_808 c1_i32_810 k0_t14
  let v2312 : BitVec 32 := Scalar.muli c4_i32_835 arg33
  let v2313 : BitVec 32 := Scalar.addi v2312 c1_i32_836
  let v2314 : Index := Scalar.indexCast v2313
  let c0_837 : Index := 0#32
  ![v2314.toNat, 0]
def k0_mult22 (k0_t14 : Fin k0_t14_loop.trips) : BitVec 32 :=
  let c54_i32_808 : BitVec 32 := 54#32
  let c1_i32_810 : BitVec 32 := 1#32
  let arg33 : BitVec 32 := Scf.iv c54_i32_808 c1_i32_810 k0_t14
  let c2_i32_851 : BitVec 32 := 2#32
  let v2345 : BitVec 32 := Scalar.muli arg33 c2_i32_851
  let c8_i32_852 : BitVec 32 := 8#32
  let v2346 : BitVec 32 := Scalar.muli v2345 c8_i32_852
  let c0_i32_853 : BitVec 32 := 0#32
  let v2347 : BitVec 32 := Scalar.addi v2346 c0_i32_853
  v2347
def k0_off51 (k0_t14 : Fin k0_t14_loop.trips) (c0_i32_853 : BitVec 32) : Fin 2 → Nat :=
  let c54_i32_808 : BitVec 32 := 54#32
  let c1_i32_810 : BitVec 32 := 1#32
  let arg33 : BitVec 32 := Scf.iv c54_i32_808 c1_i32_810 k0_t14
  let c2_i32_851 : BitVec 32 := 2#32
  let v2345 : BitVec 32 := Scalar.muli arg33 c2_i32_851
  let c8_i32_852 : BitVec 32 := 8#32
  let v2346 : BitVec 32 := Scalar.muli v2345 c8_i32_852
  let v2347 : BitVec 32 := Scalar.addi v2346 c0_i32_853
  let v2348 : BitVec 32 := v2347
  let v2349 : Index := Scalar.indexCast v2348
  let c0_854 : Index := 0#32
  ![v2349.toNat, 0]
def k0_mult23 (k0_t14 : Fin k0_t14_loop.trips) : BitVec 32 :=
  let c54_i32_808 : BitVec 32 := 54#32
  let c1_i32_810 : BitVec 32 := 1#32
  let arg33 : BitVec 32 := Scf.iv c54_i32_808 c1_i32_810 k0_t14
  let c2_i32_860 : BitVec 32 := 2#32
  let v2381 : BitVec 32 := Scalar.muli arg33 c2_i32_860
  let c8_i32_861 : BitVec 32 := 8#32
  let v2382 : BitVec 32 := Scalar.muli v2381 c8_i32_861
  let c8_i32_862 : BitVec 32 := 8#32
  let v2383 : BitVec 32 := Scalar.addi v2382 c8_i32_862
  v2383
@[reducible] def k0_t15_loop : Scf.Loop 32 :=
  let c0_i32_812 : BitVec 32 := 0#32
  let c32_i32_813 : BitVec 32 := 32#32
  let v2277 : BitVec 32 := Scalar.addi c0_i32_812 c32_i32_813
  let c1_i32_814 : BitVec 32 := 1#32
  ⟨c0_i32_812, v2277, c1_i32_814⟩
def k0_mult24 (k0_t15 : Fin k0_t15_loop.trips) : BitVec 32 :=
  let c0_i32_812 : BitVec 32 := 0#32
  let c1_i32_814 : BitVec 32 := 1#32
  let arg33 : BitVec 32 := Scf.iv c0_i32_812 c1_i32_814 k0_t15
  let c8_i32_833 : BitVec 32 := 8#32
  let v2307 : BitVec 32 := Scalar.muli arg33 c8_i32_833
  v2307
def k0_off52 (k0_t15 : Fin k0_t15_loop.trips) : Fin 2 → Nat :=
  let c0_i32_812 : BitVec 32 := 0#32
  let c1_i32_814 : BitVec 32 := 1#32
  let arg33 : BitVec 32 := Scf.iv c0_i32_812 c1_i32_814 k0_t15
  let c8_i32_833 : BitVec 32 := 8#32
  let v2307 : BitVec 32 := Scalar.muli arg33 c8_i32_833
  let v2308 : BitVec 32 := v2307
  let v2309 : Index := Scalar.indexCast v2308
  let c0_834 : Index := 0#32
  ![v2309.toNat, 0]
def k0_mult25 (k0_t15 : Fin k0_t15_loop.trips) : BitVec 32 :=
  let c2_i32_848 : BitVec 32 := 2#32
  let c0_i32_812 : BitVec 32 := 0#32
  let c1_i32_814 : BitVec 32 := 1#32
  let arg33 : BitVec 32 := Scf.iv c0_i32_812 c1_i32_814 k0_t15
  let v2361 : BitVec 32 := Scalar.muli c2_i32_848 arg33
  let c0_i32_849 : BitVec 32 := 0#32
  let v2362 : BitVec 32 := Scalar.addi v2361 c0_i32_849
  let c2_i32_850 : BitVec 32 := 2#32
  let v2363 : BitVec 32 := Scalar.muli v2362 c2_i32_850
  let c8_i32_851 : BitVec 32 := 8#32
  let v2364 : BitVec 32 := Scalar.muli v2363 c8_i32_851
  let c0_i32_852 : BitVec 32 := 0#32
  let v2365 : BitVec 32 := Scalar.addi v2364 c0_i32_852
  v2365
def k0_off53 (k0_t15 : Fin k0_t15_loop.trips) (c0_i32_849 : BitVec 32) (c0_i32_852 : BitVec 32) : Fin 2 → Nat :=
  let c2_i32_848 : BitVec 32 := 2#32
  let c0_i32_812 : BitVec 32 := 0#32
  let c1_i32_814 : BitVec 32 := 1#32
  let arg33 : BitVec 32 := Scf.iv c0_i32_812 c1_i32_814 k0_t15
  let v2361 : BitVec 32 := Scalar.muli c2_i32_848 arg33
  let v2362 : BitVec 32 := Scalar.addi v2361 c0_i32_849
  let c2_i32_850 : BitVec 32 := 2#32
  let v2363 : BitVec 32 := Scalar.muli v2362 c2_i32_850
  let c8_i32_851 : BitVec 32 := 8#32
  let v2364 : BitVec 32 := Scalar.muli v2363 c8_i32_851
  let v2365 : BitVec 32 := Scalar.addi v2364 c0_i32_852
  let v2366 : BitVec 32 := v2365
  let v2367 : Index := Scalar.indexCast v2366
  let c0_853 : Index := 0#32
  ![v2367.toNat, 0]
def k0_mult26 (k0_t15 : Fin k0_t15_loop.trips) : BitVec 32 :=
  let c2_i32_857 : BitVec 32 := 2#32
  let c0_i32_812 : BitVec 32 := 0#32
  let c1_i32_814 : BitVec 32 := 1#32
  let arg33 : BitVec 32 := Scf.iv c0_i32_812 c1_i32_814 k0_t15
  let v2381 : BitVec 32 := Scalar.muli c2_i32_857 arg33
  let c0_i32_858 : BitVec 32 := 0#32
  let v2382 : BitVec 32 := Scalar.addi v2381 c0_i32_858
  let c2_i32_859 : BitVec 32 := 2#32
  let v2383 : BitVec 32 := Scalar.muli v2382 c2_i32_859
  let c8_i32_860 : BitVec 32 := 8#32
  let v2384 : BitVec 32 := Scalar.muli v2383 c8_i32_860
  let c8_i32_861 : BitVec 32 := 8#32
  let v2385 : BitVec 32 := Scalar.addi v2384 c8_i32_861
  v2385
def k0_mult27 (k0_t15 : Fin k0_t15_loop.trips) : BitVec 32 :=
  let c2_i32_868 : BitVec 32 := 2#32
  let c0_i32_812 : BitVec 32 := 0#32
  let c1_i32_814 : BitVec 32 := 1#32
  let arg33 : BitVec 32 := Scf.iv c0_i32_812 c1_i32_814 k0_t15
  let v2409 : BitVec 32 := Scalar.muli c2_i32_868 arg33
  let c1_i32_869 : BitVec 32 := 1#32
  let v2410 : BitVec 32 := Scalar.addi v2409 c1_i32_869
  let c2_i32_870 : BitVec 32 := 2#32
  let v2411 : BitVec 32 := Scalar.muli v2410 c2_i32_870
  let c8_i32_871 : BitVec 32 := 8#32
  let v2412 : BitVec 32 := Scalar.muli v2411 c8_i32_871
  let c0_i32_872 : BitVec 32 := 0#32
  let v2413 : BitVec 32 := Scalar.addi v2412 c0_i32_872
  v2413
def k0_mult28 (k0_t15 : Fin k0_t15_loop.trips) : BitVec 32 :=
  let c2_i32_877 : BitVec 32 := 2#32
  let c0_i32_812 : BitVec 32 := 0#32
  let c1_i32_814 : BitVec 32 := 1#32
  let arg33 : BitVec 32 := Scf.iv c0_i32_812 c1_i32_814 k0_t15
  let v2429 : BitVec 32 := Scalar.muli c2_i32_877 arg33
  let c1_i32_878 : BitVec 32 := 1#32
  let v2430 : BitVec 32 := Scalar.addi v2429 c1_i32_878
  let c2_i32_879 : BitVec 32 := 2#32
  let v2431 : BitVec 32 := Scalar.muli v2430 c2_i32_879
  let c8_i32_880 : BitVec 32 := 8#32
  let v2432 : BitVec 32 := Scalar.muli v2431 c8_i32_880
  let c8_i32_881 : BitVec 32 := 8#32
  let v2433 : BitVec 32 := Scalar.addi v2432 c8_i32_881
  v2433
@[reducible] def k0_t16_loop : Scf.Loop 32 :=
  let c0_i32_291 : BitVec 32 := 0#32
  let c11_i32 : BitVec 32 := 11#32
  let v663 : BitVec 32 := Scalar.addi c0_i32_291 c11_i32
  let c1_i32_292 : BitVec 32 := 1#32
  ⟨c0_i32_291, v663, c1_i32_292⟩
def k0_off54 (k0_t16 : Fin k0_t16_loop.trips) : Fin 2 → Nat :=
  let c4_i32_600 : BitVec 32 := 4#32
  let c0_i32_291 : BitVec 32 := 0#32
  let c1_i32_292 : BitVec 32 := 1#32
  let arg26 : BitVec 32 := Scf.iv c0_i32_291 c1_i32_292 k0_t16
  let v1644 : BitVec 32 := Scalar.muli c4_i32_600 arg26
  let v1645 : Index := Scalar.indexCast v1644
  let c0_601 : Index := 0#32
  ![v1645.toNat, 0]
def k0_off55 (k0_t16 : Fin k0_t16_loop.trips) (c1_i32_603 : BitVec 32) : Fin 2 → Nat :=
  let c4_i32_602 : BitVec 32 := 4#32
  let c0_i32_291 : BitVec 32 := 0#32
  let c1_i32_292 : BitVec 32 := 1#32
  let arg26 : BitVec 32 := Scf.iv c0_i32_291 c1_i32_292 k0_t16
  let v1649 : BitVec 32 := Scalar.muli c4_i32_602 arg26
  let v1650 : BitVec 32 := Scalar.addi v1649 c1_i32_603
  let v1651 : Index := Scalar.indexCast v1650
  let c0_604 : Index := 0#32
  ![v1651.toNat, 0]
def k0_mult29 (k0_t16 : Fin k0_t16_loop.trips) : BitVec 32 :=
  let c0_i32_291 : BitVec 32 := 0#32
  let c1_i32_292 : BitVec 32 := 1#32
  let arg26 : BitVec 32 := Scf.iv c0_i32_291 c1_i32_292 k0_t16
  let c2_i32_618 : BitVec 32 := 2#32
  let v1682 : BitVec 32 := Scalar.muli arg26 c2_i32_618
  let c8_i32_619 : BitVec 32 := 8#32
  let v1683 : BitVec 32 := Scalar.muli v1682 c8_i32_619
  let c0_i32_620 : BitVec 32 := 0#32
  let v1684 : BitVec 32 := Scalar.addi v1683 c0_i32_620
  v1684
def k0_off56 (k0_t16 : Fin k0_t16_loop.trips) (c0_i32_620 : BitVec 32) : Fin 2 → Nat :=
  let c0_i32_291 : BitVec 32 := 0#32
  let c1_i32_292 : BitVec 32 := 1#32
  let arg26 : BitVec 32 := Scf.iv c0_i32_291 c1_i32_292 k0_t16
  let c2_i32_618 : BitVec 32 := 2#32
  let v1682 : BitVec 32 := Scalar.muli arg26 c2_i32_618
  let c8_i32_619 : BitVec 32 := 8#32
  let v1683 : BitVec 32 := Scalar.muli v1682 c8_i32_619
  let v1684 : BitVec 32 := Scalar.addi v1683 c0_i32_620
  let v1685 : BitVec 32 := v1684
  let v1686 : Index := Scalar.indexCast v1685
  let c0_621 : Index := 0#32
  ![v1686.toNat, 0]
def k0_mult30 (k0_t16 : Fin k0_t16_loop.trips) : BitVec 32 :=
  let c0_i32_291 : BitVec 32 := 0#32
  let c1_i32_292 : BitVec 32 := 1#32
  let arg26 : BitVec 32 := Scf.iv c0_i32_291 c1_i32_292 k0_t16
  let c2_i32_627 : BitVec 32 := 2#32
  let v1718 : BitVec 32 := Scalar.muli arg26 c2_i32_627
  let c8_i32_628 : BitVec 32 := 8#32
  let v1719 : BitVec 32 := Scalar.muli v1718 c8_i32_628
  let c8_i32_629 : BitVec 32 := 8#32
  let v1720 : BitVec 32 := Scalar.addi v1719 c8_i32_629
  v1720
@[reducible] def k0_t17_loop : Scf.Loop 32 :=
  let c11_i32_320 : BitVec 32 := 11#32
  let c11_i32_321 : BitVec 32 := 11#32
  let v761 : BitVec 32 := Scalar.addi c11_i32_320 c11_i32_321
  let c1_i32_322 : BitVec 32 := 1#32
  ⟨c11_i32_320, v761, c1_i32_322⟩
def k0_off57 (k0_t17 : Fin k0_t17_loop.trips) : Fin 2 → Nat :=
  let c4_i32_600 : BitVec 32 := 4#32
  let c11_i32_320 : BitVec 32 := 11#32
  let c1_i32_322 : BitVec 32 := 1#32
  let arg26 : BitVec 32 := Scf.iv c11_i32_320 c1_i32_322 k0_t17
  let v1644 : BitVec 32 := Scalar.muli c4_i32_600 arg26
  let v1645 : Index := Scalar.indexCast v1644
  let c0_601 : Index := 0#32
  ![v1645.toNat, 0]
def k0_off58 (k0_t17 : Fin k0_t17_loop.trips) (c1_i32_603 : BitVec 32) : Fin 2 → Nat :=
  let c4_i32_602 : BitVec 32 := 4#32
  let c11_i32_320 : BitVec 32 := 11#32
  let c1_i32_322 : BitVec 32 := 1#32
  let arg26 : BitVec 32 := Scf.iv c11_i32_320 c1_i32_322 k0_t17
  let v1649 : BitVec 32 := Scalar.muli c4_i32_602 arg26
  let v1650 : BitVec 32 := Scalar.addi v1649 c1_i32_603
  let v1651 : Index := Scalar.indexCast v1650
  let c0_604 : Index := 0#32
  ![v1651.toNat, 0]
def k0_mult31 (k0_t17 : Fin k0_t17_loop.trips) : BitVec 32 :=
  let c11_i32_320 : BitVec 32 := 11#32
  let c1_i32_322 : BitVec 32 := 1#32
  let arg26 : BitVec 32 := Scf.iv c11_i32_320 c1_i32_322 k0_t17
  let c2_i32_618 : BitVec 32 := 2#32
  let v1682 : BitVec 32 := Scalar.muli arg26 c2_i32_618
  let c8_i32_619 : BitVec 32 := 8#32
  let v1683 : BitVec 32 := Scalar.muli v1682 c8_i32_619
  let c0_i32_620 : BitVec 32 := 0#32
  let v1684 : BitVec 32 := Scalar.addi v1683 c0_i32_620
  v1684
def k0_off59 (k0_t17 : Fin k0_t17_loop.trips) (c0_i32_620 : BitVec 32) : Fin 2 → Nat :=
  let c11_i32_320 : BitVec 32 := 11#32
  let c1_i32_322 : BitVec 32 := 1#32
  let arg26 : BitVec 32 := Scf.iv c11_i32_320 c1_i32_322 k0_t17
  let c2_i32_618 : BitVec 32 := 2#32
  let v1682 : BitVec 32 := Scalar.muli arg26 c2_i32_618
  let c8_i32_619 : BitVec 32 := 8#32
  let v1683 : BitVec 32 := Scalar.muli v1682 c8_i32_619
  let v1684 : BitVec 32 := Scalar.addi v1683 c0_i32_620
  let v1685 : BitVec 32 := v1684
  let v1686 : Index := Scalar.indexCast v1685
  let c0_621 : Index := 0#32
  ![v1686.toNat, 0]
def k0_mult32 (k0_t17 : Fin k0_t17_loop.trips) : BitVec 32 :=
  let c11_i32_320 : BitVec 32 := 11#32
  let c1_i32_322 : BitVec 32 := 1#32
  let arg26 : BitVec 32 := Scf.iv c11_i32_320 c1_i32_322 k0_t17
  let c2_i32_627 : BitVec 32 := 2#32
  let v1718 : BitVec 32 := Scalar.muli arg26 c2_i32_627
  let c8_i32_628 : BitVec 32 := 8#32
  let v1719 : BitVec 32 := Scalar.muli v1718 c8_i32_628
  let c8_i32_629 : BitVec 32 := 8#32
  let v1720 : BitVec 32 := Scalar.addi v1719 c8_i32_629
  v1720
@[reducible] def k0_t18_loop : Scf.Loop 32 :=
  let c22_i32 : BitVec 32 := 22#32
  let c11_i32_350 : BitVec 32 := 11#32
  let v859 : BitVec 32 := Scalar.addi c22_i32 c11_i32_350
  let c1_i32_351 : BitVec 32 := 1#32
  ⟨c22_i32, v859, c1_i32_351⟩
def k0_off60 (k0_t18 : Fin k0_t18_loop.trips) : Fin 2 → Nat :=
  let c4_i32_600 : BitVec 32 := 4#32
  let c22_i32 : BitVec 32 := 22#32
  let c1_i32_351 : BitVec 32 := 1#32
  let arg26 : BitVec 32 := Scf.iv c22_i32 c1_i32_351 k0_t18
  let v1644 : BitVec 32 := Scalar.muli c4_i32_600 arg26
  let v1645 : Index := Scalar.indexCast v1644
  let c0_601 : Index := 0#32
  ![v1645.toNat, 0]
def k0_off61 (k0_t18 : Fin k0_t18_loop.trips) (c1_i32_603 : BitVec 32) : Fin 2 → Nat :=
  let c4_i32_602 : BitVec 32 := 4#32
  let c22_i32 : BitVec 32 := 22#32
  let c1_i32_351 : BitVec 32 := 1#32
  let arg26 : BitVec 32 := Scf.iv c22_i32 c1_i32_351 k0_t18
  let v1649 : BitVec 32 := Scalar.muli c4_i32_602 arg26
  let v1650 : BitVec 32 := Scalar.addi v1649 c1_i32_603
  let v1651 : Index := Scalar.indexCast v1650
  let c0_604 : Index := 0#32
  ![v1651.toNat, 0]
def k0_mult33 (k0_t18 : Fin k0_t18_loop.trips) : BitVec 32 :=
  let c22_i32 : BitVec 32 := 22#32
  let c1_i32_351 : BitVec 32 := 1#32
  let arg26 : BitVec 32 := Scf.iv c22_i32 c1_i32_351 k0_t18
  let c2_i32_618 : BitVec 32 := 2#32
  let v1682 : BitVec 32 := Scalar.muli arg26 c2_i32_618
  let c8_i32_619 : BitVec 32 := 8#32
  let v1683 : BitVec 32 := Scalar.muli v1682 c8_i32_619
  let c0_i32_620 : BitVec 32 := 0#32
  let v1684 : BitVec 32 := Scalar.addi v1683 c0_i32_620
  v1684
def k0_off62 (k0_t18 : Fin k0_t18_loop.trips) (c0_i32_620 : BitVec 32) : Fin 2 → Nat :=
  let c22_i32 : BitVec 32 := 22#32
  let c1_i32_351 : BitVec 32 := 1#32
  let arg26 : BitVec 32 := Scf.iv c22_i32 c1_i32_351 k0_t18
  let c2_i32_618 : BitVec 32 := 2#32
  let v1682 : BitVec 32 := Scalar.muli arg26 c2_i32_618
  let c8_i32_619 : BitVec 32 := 8#32
  let v1683 : BitVec 32 := Scalar.muli v1682 c8_i32_619
  let v1684 : BitVec 32 := Scalar.addi v1683 c0_i32_620
  let v1685 : BitVec 32 := v1684
  let v1686 : Index := Scalar.indexCast v1685
  let c0_621 : Index := 0#32
  ![v1686.toNat, 0]
def k0_mult34 (k0_t18 : Fin k0_t18_loop.trips) : BitVec 32 :=
  let c22_i32 : BitVec 32 := 22#32
  let c1_i32_351 : BitVec 32 := 1#32
  let arg26 : BitVec 32 := Scf.iv c22_i32 c1_i32_351 k0_t18
  let c2_i32_627 : BitVec 32 := 2#32
  let v1718 : BitVec 32 := Scalar.muli arg26 c2_i32_627
  let c8_i32_628 : BitVec 32 := 8#32
  let v1719 : BitVec 32 := Scalar.muli v1718 c8_i32_628
  let c8_i32_629 : BitVec 32 := 8#32
  let v1720 : BitVec 32 := Scalar.addi v1719 c8_i32_629
  v1720
@[reducible] def k0_t19_loop : Scf.Loop 32 :=
  let c33_i32 : BitVec 32 := 33#32
  let c11_i32_379 : BitVec 32 := 11#32
  let v957 : BitVec 32 := Scalar.addi c33_i32 c11_i32_379
  let c1_i32_380 : BitVec 32 := 1#32
  ⟨c33_i32, v957, c1_i32_380⟩
def k0_off63 (k0_t19 : Fin k0_t19_loop.trips) : Fin 2 → Nat :=
  let c4_i32_600 : BitVec 32 := 4#32
  let c33_i32 : BitVec 32 := 33#32
  let c1_i32_380 : BitVec 32 := 1#32
  let arg26 : BitVec 32 := Scf.iv c33_i32 c1_i32_380 k0_t19
  let v1644 : BitVec 32 := Scalar.muli c4_i32_600 arg26
  let v1645 : Index := Scalar.indexCast v1644
  let c0_601 : Index := 0#32
  ![v1645.toNat, 0]
def k0_off64 (k0_t19 : Fin k0_t19_loop.trips) (c1_i32_603 : BitVec 32) : Fin 2 → Nat :=
  let c4_i32_602 : BitVec 32 := 4#32
  let c33_i32 : BitVec 32 := 33#32
  let c1_i32_380 : BitVec 32 := 1#32
  let arg26 : BitVec 32 := Scf.iv c33_i32 c1_i32_380 k0_t19
  let v1649 : BitVec 32 := Scalar.muli c4_i32_602 arg26
  let v1650 : BitVec 32 := Scalar.addi v1649 c1_i32_603
  let v1651 : Index := Scalar.indexCast v1650
  let c0_604 : Index := 0#32
  ![v1651.toNat, 0]
def k0_mult35 (k0_t19 : Fin k0_t19_loop.trips) : BitVec 32 :=
  let c33_i32 : BitVec 32 := 33#32
  let c1_i32_380 : BitVec 32 := 1#32
  let arg26 : BitVec 32 := Scf.iv c33_i32 c1_i32_380 k0_t19
  let c2_i32_618 : BitVec 32 := 2#32
  let v1682 : BitVec 32 := Scalar.muli arg26 c2_i32_618
  let c8_i32_619 : BitVec 32 := 8#32
  let v1683 : BitVec 32 := Scalar.muli v1682 c8_i32_619
  let c0_i32_620 : BitVec 32 := 0#32
  let v1684 : BitVec 32 := Scalar.addi v1683 c0_i32_620
  v1684
def k0_off65 (k0_t19 : Fin k0_t19_loop.trips) (c0_i32_620 : BitVec 32) : Fin 2 → Nat :=
  let c33_i32 : BitVec 32 := 33#32
  let c1_i32_380 : BitVec 32 := 1#32
  let arg26 : BitVec 32 := Scf.iv c33_i32 c1_i32_380 k0_t19
  let c2_i32_618 : BitVec 32 := 2#32
  let v1682 : BitVec 32 := Scalar.muli arg26 c2_i32_618
  let c8_i32_619 : BitVec 32 := 8#32
  let v1683 : BitVec 32 := Scalar.muli v1682 c8_i32_619
  let v1684 : BitVec 32 := Scalar.addi v1683 c0_i32_620
  let v1685 : BitVec 32 := v1684
  let v1686 : Index := Scalar.indexCast v1685
  let c0_621 : Index := 0#32
  ![v1686.toNat, 0]
def k0_mult36 (k0_t19 : Fin k0_t19_loop.trips) : BitVec 32 :=
  let c33_i32 : BitVec 32 := 33#32
  let c1_i32_380 : BitVec 32 := 1#32
  let arg26 : BitVec 32 := Scf.iv c33_i32 c1_i32_380 k0_t19
  let c2_i32_627 : BitVec 32 := 2#32
  let v1718 : BitVec 32 := Scalar.muli arg26 c2_i32_627
  let c8_i32_628 : BitVec 32 := 8#32
  let v1719 : BitVec 32 := Scalar.muli v1718 c8_i32_628
  let c8_i32_629 : BitVec 32 := 8#32
  let v1720 : BitVec 32 := Scalar.addi v1719 c8_i32_629
  v1720
@[reducible] def k0_t20_loop : Scf.Loop 32 :=
  let c44_i32 : BitVec 32 := 44#32
  let c10_i32 : BitVec 32 := 10#32
  let v1055 : BitVec 32 := Scalar.addi c44_i32 c10_i32
  let c1_i32_408 : BitVec 32 := 1#32
  ⟨c44_i32, v1055, c1_i32_408⟩
def k0_off66 (k0_t20 : Fin k0_t20_loop.trips) : Fin 2 → Nat :=
  let c4_i32_600 : BitVec 32 := 4#32
  let c44_i32 : BitVec 32 := 44#32
  let c1_i32_408 : BitVec 32 := 1#32
  let arg26 : BitVec 32 := Scf.iv c44_i32 c1_i32_408 k0_t20
  let v1644 : BitVec 32 := Scalar.muli c4_i32_600 arg26
  let v1645 : Index := Scalar.indexCast v1644
  let c0_601 : Index := 0#32
  ![v1645.toNat, 0]
def k0_off67 (k0_t20 : Fin k0_t20_loop.trips) (c1_i32_603 : BitVec 32) : Fin 2 → Nat :=
  let c4_i32_602 : BitVec 32 := 4#32
  let c44_i32 : BitVec 32 := 44#32
  let c1_i32_408 : BitVec 32 := 1#32
  let arg26 : BitVec 32 := Scf.iv c44_i32 c1_i32_408 k0_t20
  let v1649 : BitVec 32 := Scalar.muli c4_i32_602 arg26
  let v1650 : BitVec 32 := Scalar.addi v1649 c1_i32_603
  let v1651 : Index := Scalar.indexCast v1650
  let c0_604 : Index := 0#32
  ![v1651.toNat, 0]
def k0_mult37 (k0_t20 : Fin k0_t20_loop.trips) : BitVec 32 :=
  let c44_i32 : BitVec 32 := 44#32
  let c1_i32_408 : BitVec 32 := 1#32
  let arg26 : BitVec 32 := Scf.iv c44_i32 c1_i32_408 k0_t20
  let c2_i32_618 : BitVec 32 := 2#32
  let v1682 : BitVec 32 := Scalar.muli arg26 c2_i32_618
  let c8_i32_619 : BitVec 32 := 8#32
  let v1683 : BitVec 32 := Scalar.muli v1682 c8_i32_619
  let c0_i32_620 : BitVec 32 := 0#32
  let v1684 : BitVec 32 := Scalar.addi v1683 c0_i32_620
  v1684
def k0_off68 (k0_t20 : Fin k0_t20_loop.trips) (c0_i32_620 : BitVec 32) : Fin 2 → Nat :=
  let c44_i32 : BitVec 32 := 44#32
  let c1_i32_408 : BitVec 32 := 1#32
  let arg26 : BitVec 32 := Scf.iv c44_i32 c1_i32_408 k0_t20
  let c2_i32_618 : BitVec 32 := 2#32
  let v1682 : BitVec 32 := Scalar.muli arg26 c2_i32_618
  let c8_i32_619 : BitVec 32 := 8#32
  let v1683 : BitVec 32 := Scalar.muli v1682 c8_i32_619
  let v1684 : BitVec 32 := Scalar.addi v1683 c0_i32_620
  let v1685 : BitVec 32 := v1684
  let v1686 : Index := Scalar.indexCast v1685
  let c0_621 : Index := 0#32
  ![v1686.toNat, 0]
def k0_mult38 (k0_t20 : Fin k0_t20_loop.trips) : BitVec 32 :=
  let c44_i32 : BitVec 32 := 44#32
  let c1_i32_408 : BitVec 32 := 1#32
  let arg26 : BitVec 32 := Scf.iv c44_i32 c1_i32_408 k0_t20
  let c2_i32_627 : BitVec 32 := 2#32
  let v1718 : BitVec 32 := Scalar.muli arg26 c2_i32_627
  let c8_i32_628 : BitVec 32 := 8#32
  let v1719 : BitVec 32 := Scalar.muli v1718 c8_i32_628
  let c8_i32_629 : BitVec 32 := 8#32
  let v1720 : BitVec 32 := Scalar.addi v1719 c8_i32_629
  v1720
@[reducible] def k0_t21_loop : Scf.Loop 32 :=
  let c54_i32 : BitVec 32 := 54#32
  let c10_i32_436 : BitVec 32 := 10#32
  let v1153 : BitVec 32 := Scalar.addi c54_i32 c10_i32_436
  let c1_i32_437 : BitVec 32 := 1#32
  ⟨c54_i32, v1153, c1_i32_437⟩
def k0_off69 (k0_t21 : Fin k0_t21_loop.trips) : Fin 2 → Nat :=
  let c4_i32_600 : BitVec 32 := 4#32
  let c54_i32 : BitVec 32 := 54#32
  let c1_i32_437 : BitVec 32 := 1#32
  let arg26 : BitVec 32 := Scf.iv c54_i32 c1_i32_437 k0_t21
  let v1644 : BitVec 32 := Scalar.muli c4_i32_600 arg26
  let v1645 : Index := Scalar.indexCast v1644
  let c0_601 : Index := 0#32
  ![v1645.toNat, 0]
def k0_off70 (k0_t21 : Fin k0_t21_loop.trips) (c1_i32_603 : BitVec 32) : Fin 2 → Nat :=
  let c4_i32_602 : BitVec 32 := 4#32
  let c54_i32 : BitVec 32 := 54#32
  let c1_i32_437 : BitVec 32 := 1#32
  let arg26 : BitVec 32 := Scf.iv c54_i32 c1_i32_437 k0_t21
  let v1649 : BitVec 32 := Scalar.muli c4_i32_602 arg26
  let v1650 : BitVec 32 := Scalar.addi v1649 c1_i32_603
  let v1651 : Index := Scalar.indexCast v1650
  let c0_604 : Index := 0#32
  ![v1651.toNat, 0]
def k0_mult39 (k0_t21 : Fin k0_t21_loop.trips) : BitVec 32 :=
  let c54_i32 : BitVec 32 := 54#32
  let c1_i32_437 : BitVec 32 := 1#32
  let arg26 : BitVec 32 := Scf.iv c54_i32 c1_i32_437 k0_t21
  let c2_i32_618 : BitVec 32 := 2#32
  let v1682 : BitVec 32 := Scalar.muli arg26 c2_i32_618
  let c8_i32_619 : BitVec 32 := 8#32
  let v1683 : BitVec 32 := Scalar.muli v1682 c8_i32_619
  let c0_i32_620 : BitVec 32 := 0#32
  let v1684 : BitVec 32 := Scalar.addi v1683 c0_i32_620
  v1684
def k0_off71 (k0_t21 : Fin k0_t21_loop.trips) (c0_i32_620 : BitVec 32) : Fin 2 → Nat :=
  let c54_i32 : BitVec 32 := 54#32
  let c1_i32_437 : BitVec 32 := 1#32
  let arg26 : BitVec 32 := Scf.iv c54_i32 c1_i32_437 k0_t21
  let c2_i32_618 : BitVec 32 := 2#32
  let v1682 : BitVec 32 := Scalar.muli arg26 c2_i32_618
  let c8_i32_619 : BitVec 32 := 8#32
  let v1683 : BitVec 32 := Scalar.muli v1682 c8_i32_619
  let v1684 : BitVec 32 := Scalar.addi v1683 c0_i32_620
  let v1685 : BitVec 32 := v1684
  let v1686 : Index := Scalar.indexCast v1685
  let c0_621 : Index := 0#32
  ![v1686.toNat, 0]
def k0_mult40 (k0_t21 : Fin k0_t21_loop.trips) : BitVec 32 :=
  let c54_i32 : BitVec 32 := 54#32
  let c1_i32_437 : BitVec 32 := 1#32
  let arg26 : BitVec 32 := Scf.iv c54_i32 c1_i32_437 k0_t21
  let c2_i32_627 : BitVec 32 := 2#32
  let v1718 : BitVec 32 := Scalar.muli arg26 c2_i32_627
  let c8_i32_628 : BitVec 32 := 8#32
  let v1719 : BitVec 32 := Scalar.muli v1718 c8_i32_628
  let c8_i32_629 : BitVec 32 := 8#32
  let v1720 : BitVec 32 := Scalar.addi v1719 c8_i32_629
  v1720
abbrev stage0_0 : Fin 1 → Memref sig .tc .vmem S512x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S4 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x257 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S512x4x2560 : Shape := ⟨3, ![512, 4, 2560]⟩
abbrev S512x4 : Shape := ⟨2, ![512, 4]⟩
abbrev S2560x4096 : Shape := ⟨2, ![2560, 4096]⟩
abbrev S4096 : Shape := ⟨1, ![4096]⟩
abbrev S4x128 : Shape := ⟨2, ![4, 128]⟩
abbrev S4 : Shape := ⟨1, ![4]⟩
abbrev S2048x2560 : Shape := ⟨2, ![2048, 2560]⟩
abbrev S2048x4096 : Shape := ⟨2, ![2048, 4096]⟩
abbrev S512x4x4096 : Shape := ⟨3, ![512, 4, 4096]⟩
abbrev S512x4x1 : Shape := ⟨3, ![512, 4, 1]⟩
abbrev S1x1x4096 : Shape := ⟨3, ![1, 1, 4096]⟩

abbrev nBuf : Space → Nat
  | .hbm => 9
  | .vmem => 6
  | .smem => 0
  | _ => 0

abbrev bufTy : (tb : Table) → Fin (tcTables nBuf tb) → BufTy
  | .hbm, ⟨0, _⟩ => ⟨S512x4x2560, .fp8e4m3⟩
  | .hbm, ⟨1, _⟩ => ⟨S512x4, .f32⟩
  | .hbm, ⟨2, _⟩ => ⟨S2560x4096, .fp8e4m3⟩
  | .hbm, ⟨3, _⟩ => ⟨S4096, .f32⟩
  | .hbm, ⟨4, _⟩ => ⟨S4096, .f32⟩
  | .hbm, ⟨5, _⟩ => ⟨S4x128, .i32⟩
  | .hbm, ⟨6, _⟩ => ⟨S4, .i32⟩
  | .hbm, ⟨7, _⟩ => ⟨S4, .i32⟩
  | .hbm, ⟨8, _⟩ => ⟨S512x4, .f32⟩
  | .local _ .vmem, ⟨0, _⟩ => ⟨S512x4x2560, .fp8e4m3⟩
  | .local _ .vmem, ⟨1, _⟩ => ⟨S512x4, .f32⟩
  | .local _ .vmem, ⟨2, _⟩ => ⟨S2560x4096, .fp8e4m3⟩
  | .local _ .vmem, ⟨3, _⟩ => ⟨S4096, .f32⟩
  | .local _ .vmem, ⟨4, _⟩ => ⟨S4096, .f32⟩
  | .local _ .vmem, ⟨5, _⟩ => ⟨S512x4, .f32⟩
  | _, _ => ⟨S512x4x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x4x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Base.lean ====
/-
  The frame kit of `cc0_ctc_head` at the algebra of a body that starts transfers of its own: @main up to the region,
  the buffers and cells the body holds, and the frame claim's postcondition from the run's.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The body's operands -/

/-- The scratch buffers: the two staged matrices, the two row vectors, the row scales, the running maximum, the running
    sum, the picked entries, the base, the finished sums, the two emission tables and the dot product's accumulator. -/
abbrev mX : Memref sig .tc .vmem S2048x2560 .fp8e4m3 := Memref.whole cc0_scratch0
abbrev mW : Memref sig .tc .vmem S2560x4096 .fp8e4m3 := Memref.whole cc0_scratch1
abbrev mWs : Memref sig .tc .vmem S1x4096 .f32 := Memref.whole cc0_scratch2
abbrev mBias : Memref sig .tc .vmem S1x4096 .f32 := Memref.whole cc0_scratch3
abbrev mXs : Memref sig .tc .vmem S256x128 .f32 := Memref.whole cc0_scratch4
abbrev mM : Memref sig .tc .vmem S256x128 .f32 := Memref.whole cc0_scratch5
abbrev mS : Memref sig .tc .vmem S256x128 .f32 := Memref.whole cc0_scratch6
abbrev mG : Memref sig .tc .vmem S256x128 .f32 := Memref.whole cc0_scratch7
abbrev mBl : Memref sig .tc .vmem S256x128 .f32 := Memref.whole cc0_scratch8
abbrev mLse : Memref sig .tc .vmem S256x128 .f32 := Memref.whole cc0_scratch9
abbrev mE : Memref sig .tc .vmem S1024x128 .f32 := Memref.whole cc0_scratch10
abbrev mEb : Memref sig .tc .vmem S256x128 .f32 := Memref.whole cc0_scratch11
abbrev mAcc : Memref sig .tc .vmem S256x512 .f32 := Memref.whole cc0_scratch12
/-- The two matrices left in HBM. -/
abbrev hX : Memref sig .tc .hbm S2048x2560 .fp8e4m3 := Memref.whole main_v0
abbrev hW : Memref sig .tc .hbm S2560x4096 .fp8e4m3 := Memref.whole main_arg2

/-- The contents of a buffer on core `c`, and the buffer held whole at them. -/
abbrev HbBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : HbBuf (F := F) c M) : sProp 𝕄 :=
  M.view.loc (c : Thread nD τ) ↦[M.view.set]{fullShare} f
abbrev hbPt (c : Dev nD) {sp : Space} {S : Shape} {e : EltTy} (M : Memref sig .tc sp S e) (f : HbBuf (F := F) c M) : sProp 𝕄 :=
  M.view.loc (c : Thread nD τ) ↦{fullShare} f

/-- The body's sixteen DMA cells: one per row block of the left matrix, then one per column block of the right one. -/
abbrev osem0 : Fin 16 → SemLoc sig := fun j =>
  (![SemLoc.dma 9, SemLoc.dma 10, SemLoc.dma 11, SemLoc.dma 12, SemLoc.dma 13, SemLoc.dma 14, SemLoc.dma 15, SemLoc.dma 16,
     SemLoc.dma 17, SemLoc.dma 18, SemLoc.dma 19, SemLoc.dma 20, SemLoc.dma 21, SemLoc.dma 22, SemLoc.dma 23, SemLoc.dma 24] : Fin 16 → SemLoc sig) j
theorem ownSemFacts0 : Pipeline.OwnSemFacts spec0 osem0 := by decide
/-- A cell's counter at zero. -/
abbrev sv (c : Dev nD) (j : DmaSem sig) : sProp 𝕄 := semVal ((c : Thread nD τ), SemLoc.dma j) 0
abbrev semsPt (c : Dev nD) : sProp 𝕄 :=
  iprop(sv c 9 ∗ sv c 10 ∗ sv c 11 ∗ sv c 12 ∗ sv c 13 ∗ sv c 14 ∗ sv c 15 ∗ sv c 16
    ∗ sv c 17 ∗ sv c 18 ∗ sv c 19 ∗ sv c 20 ∗ sv c 21 ∗ sv c 22 ∗ sv c 23 ∗ sv c 24)
theorem ownSems00_eq (c : Dev nD) :
    (Pipeline.ownSems0 (Ix := Unit) (Name := ℕ) (U := Pipeline.UD sig nD τ) (Lvl := ℕ) (Val := Elt F) (τ := τ) osem0 c : sProp 𝕄) = semsPt c := by
  rw [Pipeline.ownSems0_eq_of_list c osem0 [0, 1, 2, 3, 4, 5, 6, 7, 8, 9, 10, 11, 12, 13, 14, 15] (by decide) (by decide)]; rfl
/-- The HBM operands the body's transfers read. -/
def H0 : Finset (Ref sig .tc) := {main_v0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c hX (V m c main_v0) ∗ hbPt c hW (V m c main_arg2)) := by
  rw [BI.bigSep_eq_bigSepL_of_eq [main_v0, main_arg2] (by decide) (by decide)]; rfl

/-- Every scratch buffer whole at some contents. -/
abbrev scrPt (c : Dev nD) : sProp 𝕄 :=
  iprop((∃ f, hbPt (F := F) c mX f) ∗ (∃ f, hbPt (F := F) c mW f) ∗ (∃ f, hbPt (F := F) c mWs f) ∗ (∃ f, hbPt (F := F) c mBias f)
    ∗ (∃ f, hbPt (F := F) c mXs f) ∗ (∃ f, hbPt (F := F) c mM f) ∗ (∃ f, hbPt (F := F) c mS f) ∗ (∃ f, hbPt (F := F) c mG f)
    ∗ (∃ f, hbPt (F := F) c mBl f) ∗ (∃ f, hbPt (F := F) c mLse f) ∗ (∃ f, hbPt (F := F) c mE f) ∗ (∃ f, hbPt (F := F) c mEb f)
    ∗ (∃ f, hbPt (F := F) c mAcc f))

theorem PhiD0_eq (c : Dev nD) :
    (Pipeline.ΦD osem0 spec0 H0 (V m) c : sProp 𝕄)
      = iprop(scrPt c ∗ (∃ r, prngReg c r) ∗ semsPt c
          ∗ iprop(hbPt c hX (V m c main_v0) ∗ hbPt c hW (V m c main_arg2))) := by
  rw [Pipeline.ΦD_eq, scopedRest0_eq, ownSems00_eq, hbmPts0_eq]; try rfl

end Cert.Kernel.Hand

end
-- ==== Proof.Kernel.Scans.lean ====
/-
  The loops over frames of `cc0_ctc_head`: which buffers a trip reads. Every buffer is held whole at some contents.
-/
module

public import proofs.«01_k».proof.Proof.Kernel.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The buffers the loops over frames read. -/
abbrev scanPt (c : Dev nD) : sProp 𝕄 := iprop((∃ f, hbPt (F := F) c mE f) ∗ (∃ f, hbPt (F := F) c mEb f))

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def loop9 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (arg28 : FVec F S8x128 .f32) (arg30 : FVec F S8x128 .f32) (arg31 : FVec F S8x128 .f32) (arg32 : FVec F S8x128 .f32) (v1688 : BitVec 32) (v1727 : FVec F S8x128 .f32) (v1736 : FVec F S8x128 .f32) (v1742 : IVec S8x128 32) (v1752 : FVec F S8x128 .f32) (v1760 : IVec S8x128x1 32) (init : FVec F S8x128 FTy.f32 × FVec F S8x128 FTy.f32 × FVec F S8x128 FTy.f32 × FVec F S8x128 FTy.f32 × FVec F S8x128 FTy.f32 × FVec F S8x128 FTy.f32) :
    LoopInvTy_k0_t9 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 arg28 arg30 arg31 arg32 v1688 v1727 v1736 v1742 v1752 v1760 init where
  inv _ _ := scanPt (F := F) c
  step k acc := by
    have hk := Nat.lt_of_lt_of_le k.isLt k0_t9_abs.2.1
    unfold k0_t9_body
    iintro ⟨⟨%f1, H1⟩, ⟨%f2, H2⟩⟩
    sl_exec
    sl_step
    sl_close

set_option warn.classDefReducibility false in
@[sl_loop] def loop10 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (v1688 : BitVec 32) (v1786_1 : FVec F S8x128 .f32) (v1786_3 : FVec F S8x128 .f32) (v1786_4 : FVec F S8x128 .f32) (v1786_5 : FVec F S8x128 .f32) (v1825 : FVec F S8x128 .f32) (v1834 : FVec F S8x128 .f32) (v1840 : IVec S8x128 32) (v1850 : FVec F S8x128 .f32) (v1852 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t10 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 v1688 v1786_1 v1786_3 v1786_4 v1786_5 v1825 v1834 v1840 v1850 v1852 init where
  inv _ _ := scanPt (F := F) c
  step k acc := by
    have hk := Nat.lt_of_lt_of_le k.isLt k0_t10_abs.2.1
    unfold k0_t10_body
    iintro ⟨⟨%f1, H1⟩, ⟨%f2, H2⟩⟩
    sl_exec
    sl_step
    sl_close

set_option warn.classDefReducibility false in
@[sl_loop] def loop11 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (v1688 : BitVec 32) (v1884_1 : FVec F S8x128 .f32) (v1884_3 : FVec F S8x128 .f32) (v1884_4 : FVec F S8x128 .f32) (v1884_5 : FVec F S8x128 .f32) (v1923 : FVec F S8x128 .f32) (v1932 : FVec F S8x128 .f32) (v1938 : IVec S8x128 32) (v1940 : IVec S8x128 32) (v1942 : IVec S8x128 1) (v1943 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t11 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 v1688 v1884_1 v1884_3 v1884_4 v1884_5 v1923 v1932 v1938 v1940 v1942 v1943 init where
  inv _ _ := scanPt (F := F) c
  step k acc := by
    have hk := Nat.lt_of_lt_of_le k.isLt k0_t11_abs.2.1
    unfold k0_t11_body
    iintro ⟨⟨%f1, H1⟩, ⟨%f2, H2⟩⟩
    sl_exec
    sl_step
    sl_close

set_option warn.classDefReducibility false in
@[sl_loop] def loop12 (v121 : IVec S8x128 32) (v137 : IVec S8x128 32) (v243 : IVec S8x128 32) (v259 : IVec S8x128 32) (v435 : IVec S8x128 1) (v439 : IVec S8x128 1) (v472 : IVec S8x128 32) (v474 : IVec S8x128 1) (v1688 : BitVec 32) (v1982_1 : FVec F S8x128 .f32) (v1982_3 : FVec F S8x128 .f32) (v1982_4 : FVec F S8x128 .f32) (v1982_5 : FVec F S8x128 .f32) (v2021 : FVec F S8x128 .f32) (v2030 : FVec F S8x128 .f32) (v2036 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t12 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v243 v259 v435 v439 v472 v474 v1688 v1982_1 v1982_3 v1982_4 v1982_5 v2021 v2030 v2036 init where
  inv _ _ := scanPt (F := F) c
  step k acc := by
    have hk := Nat.lt_of_lt_of_le k.isLt k0_t12_abs.2.1
    unfold k0_t12_body
    iintro ⟨⟨%f1, H1⟩, ⟨%f2, H2⟩⟩
    sl_exec
    sl_step
    sl_close

set_option warn.classDefReducibility false in
@[sl_loop] def loop13 (v121 : IVec S8x128 32) (v137 : IVec S8x128 32) (v217 : IVec S8x128 32) (v259 : IVec S8x128 32) (v435 : IVec S8x128 1) (v439 : IVec S8x128 1) (v472 : IVec S8x128 32) (v474 : IVec S8x128 1) (v1688 : BitVec 32) (v2080_3 : FVec F S8x128 .f32) (v2080_4 : FVec F S8x128 .f32) (v2080_5 : FVec F S8x128 .f32) (v2119 : FVec F S8x128 .f32) (v2128 : FVec F S8x128 .f32) (v2158 : IVec S8x128 1) (v2167 : FVec F S8x128 .f32) (v2175 : FVec F S8x128 .f32) (init : FVec F S8x128 FTy.f32 × FVec F S8x128 FTy.f32 × FVec F S8x128 FTy.f32 × FVec F S8x128 FTy.f32 × FVec F S8x128 FTy.f32 × FVec F S8x128 FTy.f32) :
    LoopInvTy_k0_t13 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v1688 v2080_3 v2080_4 v2080_5 v2119 v2128 v2158 v2167 v2175 init where
  inv _ _ := scanPt (F := F) c
  step k acc := by
    have hk := Nat.lt_of_lt_of_le k.isLt k0_t13_abs.2.1
    unfold k0_t13_body
    iintro ⟨⟨%f1, H1⟩, ⟨%f2, H2⟩⟩
    sl_exec
    sl_step
    sl_close

set_option warn.classDefReducibility false in
@[sl_loop] def loop14 (v121 : IVec S8x128 32) (v262 : IVec S8x128 1) (v270 : IVec S8x128 32) (v273 : IVec S8x128 1) (v281 : IVec S8x128 32) (v286 : IVec S8x128 32) (v291 : IVec S8x128 32) (v435 : IVec S8x128 1) (v439 : IVec S8x128 1) (v472 : IVec S8x128 32) (v474 : IVec S8x128 1) (v1688 : BitVec 32) (v2178_3 : FVec F S8x128 .f32) (v2178_4 : FVec F S8x128 .f32) (v2178_5 : FVec F S8x128 .f32) (v2217 : FVec F S8x128 .f32) (v2226 : FVec F S8x128 .f32) (v2232 : IVec S8x128 32) (v2252 : FVec F S8x128 .f32) (v2256 : IVec S8x128 1) (v2265 : FVec F S8x128 .f32) (v2266 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t14 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v262 v270 v273 v281 v286 v291 v435 v439 v472 v474 v1688 v2178_3 v2178_4 v2178_5 v2217 v2226 v2232 v2252 v2256 v2265 v2266 init where
  inv _ _ := scanPt (F := F) c
  step k acc := by
    have hk := Nat.lt_of_lt_of_le k.isLt k0_t14_abs.2.1
    unfold k0_t14_body
    iintro ⟨⟨%f1, H1⟩, ⟨%f2, H2⟩⟩
    sl_exec
    sl_step
    sl_close

set_option warn.classDefReducibility false in
@[sl_loop] def loop16 (v121 : IVec S8x128 32) (v137 : IVec S8x128 32) (v243 : IVec S8x128 32) (v259 : IVec S8x128 32) (v435 : IVec S8x128 1) (v439 : IVec S8x128 1) (v472 : IVec S8x128 32) (v474 : IVec S8x128 1) (v566_1 : FVec F S8x128 .f32) (v566_3 : FVec F S8x128 .f32) (v566_4 : FVec F S8x128 .f32) (v566_5 : FVec F S8x128 .f32) (v605 : FVec F S8x128 .f32) (v614 : FVec F S8x128 .f32) (v620 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t16 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v243 v259 v435 v439 v472 v474 v566_1 v566_3 v566_4 v566_5 v605 v614 v620 init where
  inv _ _ := scanPt (F := F) c
  step k acc := by
    have hk := Nat.lt_of_lt_of_le k.isLt k0_t16_abs.2.1
    unfold k0_t16_body
    iintro ⟨⟨%f1, H1⟩, ⟨%f2, H2⟩⟩
    sl_exec
    sl_step
    sl_close

set_option warn.classDefReducibility false in
@[sl_loop] def loop17 (v121 : IVec S8x128 32) (v137 : IVec S8x128 32) (v217 : IVec S8x128 32) (v259 : IVec S8x128 32) (v435 : IVec S8x128 1) (v439 : IVec S8x128 1) (v472 : IVec S8x128 32) (v474 : IVec S8x128 1) (v664_3 : FVec F S8x128 .f32) (v664_4 : FVec F S8x128 .f32) (v664_5 : FVec F S8x128 .f32) (v703 : FVec F S8x128 .f32) (v712 : FVec F S8x128 .f32) (v742 : IVec S8x128 1) (v751 : FVec F S8x128 .f32) (v759 : FVec F S8x128 .f32) (init : FVec F S8x128 FTy.f32 × FVec F S8x128 FTy.f32 × FVec F S8x128 FTy.f32 × FVec F S8x128 FTy.f32 × FVec F S8x128 FTy.f32 × FVec F S8x128 FTy.f32) :
    LoopInvTy_k0_t17 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v664_3 v664_4 v664_5 v703 v712 v742 v751 v759 init where
  inv _ _ := scanPt (F := F) c
  step k acc := by
    have hk := Nat.lt_of_lt_of_le k.isLt k0_t17_abs.2.1
    unfold k0_t17_body
    iintro ⟨⟨%f1, H1⟩, ⟨%f2, H2⟩⟩
    sl_exec
    sl_step
    sl_close

set_option warn.classDefReducibility false in
@[sl_loop] def loop18 (v121 : IVec S8x128 32) (v137 : IVec S8x128 32) (v217 : IVec S8x128 32) (v259 : IVec S8x128 32) (v435 : IVec S8x128 1) (v439 : IVec S8x128 1) (v472 : IVec S8x128 32) (v474 : IVec S8x128 1) (v762_3 : FVec F S8x128 .f32) (v762_4 : FVec F S8x128 .f32) (v762_5 : FVec F S8x128 .f32) (v801 : FVec F S8x128 .f32) (v810 : FVec F S8x128 .f32) (v816 : IVec S8x128 32) (v836 : FVec F S8x128 .f32) (v840 : IVec S8x128 1) (v849 : FVec F S8x128 .f32) (v850 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t18 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v762_3 v762_4 v762_5 v801 v810 v816 v836 v840 v849 v850 init where
  inv _ _ := scanPt (F := F) c
  step k acc := by
    have hk := Nat.lt_of_lt_of_le k.isLt k0_t18_abs.2.1
    unfold k0_t18_body
    iintro ⟨⟨%f1, H1⟩, ⟨%f2, H2⟩⟩
    sl_exec
    sl_step
    sl_close

set_option warn.classDefReducibility false in
@[sl_loop] def loop19 (v121 : IVec S8x128 32) (v137 : IVec S8x128 32) (v217 : IVec S8x128 32) (v259 : IVec S8x128 32) (v435 : IVec S8x128 1) (v439 : IVec S8x128 1) (v472 : IVec S8x128 32) (v474 : IVec S8x128 1) (v860_1 : FVec F S8x128 .f32) (v860_3 : FVec F S8x128 .f32) (v860_4 : FVec F S8x128 .f32) (v860_5 : FVec F S8x128 .f32) (v899 : FVec F S8x128 .f32) (v908 : FVec F S8x128 .f32) (v914 : IVec S8x128 32) (v924 : FVec F S8x128 .f32) (v934 : FVec F S8x128 .f32) (v938 : IVec S8x128 1) (v940 : IVec S8x128 1) (v941 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t19 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v860_1 v860_3 v860_4 v860_5 v899 v908 v914 v924 v934 v938 v940 v941 init where
  inv _ _ := scanPt (F := F) c
  step k acc := by
    have hk := Nat.lt_of_lt_of_le k.isLt k0_t19_abs.2.1
    unfold k0_t19_body
    iintro ⟨⟨%f1, H1⟩, ⟨%f2, H2⟩⟩
    sl_exec
    sl_step
    sl_close

set_option warn.classDefReducibility false in
@[sl_loop] def loop20 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (v958_1 : FVec F S8x128 .f32) (v958_3 : FVec F S8x128 .f32) (v958_4 : FVec F S8x128 .f32) (v958_5 : FVec F S8x128 .f32) (v997 : FVec F S8x128 .f32) (v1006 : FVec F S8x128 .f32) (v1012 : IVec S8x128 32) (v1022 : FVec F S8x128 .f32) (v1032 : FVec F S8x128 .f32) (v1033 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t20 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 v958_1 v958_3 v958_4 v958_5 v997 v1006 v1012 v1022 v1032 v1033 init where
  inv _ _ := scanPt (F := F) c
  step k acc := by
    have hk := Nat.lt_of_lt_of_le k.isLt k0_t20_abs.2.1
    unfold k0_t20_body
    iintro ⟨⟨%f1, H1⟩, ⟨%f2, H2⟩⟩
    sl_exec
    sl_step
    sl_close

set_option warn.classDefReducibility false in
@[sl_loop] def loop21 (v64 : IVec S8x128 32) (v121 : IVec S8x128 32) (v137 : IVec S8x128 32) (v243 : IVec S8x128 32) (v435 : IVec S8x128 1) (v439 : IVec S8x128 1) (v472 : IVec S8x128 32) (v474 : IVec S8x128 1) (v1056_1 : FVec F S8x128 .f32) (v1056_3 : FVec F S8x128 .f32) (v1056_4 : FVec F S8x128 .f32) (v1056_5 : FVec F S8x128 .f32) (v1095 : FVec F S8x128 .f32) (v1104 : FVec F S8x128 .f32) (v1110 : IVec S8x128 32) (v1120 : FVec F S8x128 .f32) (v1122 : IVec S8x128 32) (v1124 : IVec S8x128 1) (c8_i32_430 : BitVec 32) (init : FVec F S8x128 FTy.f32 × FVec F S8x128 FTy.f32 × FVec F S8x128 FTy.f32 × FVec F S8x128 FTy.f32 × FVec F S8x128 FTy.f32 × FVec F S8x128 FTy.f32) :
    LoopInvTy_k0_t21 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v64 v121 v137 v243 v435 v439 v472 v474 v1056_1 v1056_3 v1056_4 v1056_5 v1095 v1104 v1110 v1120 v1122 v1124 c8_i32_430 init where
  inv _ _ := scanPt (F := F) c
  step k acc := by
    have hk := Nat.lt_of_lt_of_le k.isLt k0_t21_abs.2.1
    unfold k0_t21_body
    iintro ⟨⟨%f1, H1⟩, ⟨%f2, H2⟩⟩
    sl_exec
    sl_step
    sl_close

end

end Cert.Kernel.Hand

end
-- ==== Proof.Kernel.Loops.lean ====
/-
  The counted loops of `cc0_ctc_head` that hold no transfer, those over frames apart: which buffers a trip touches. Every buffer is held whole at
  some contents.
-/
module

public import proofs.«01_k».proof.Proof.Kernel.Scans

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The buffers the group loop of a chunk touches: the row scales and the dot product, and the running maximum, sum,
    picked entries and base it updates. -/
abbrev chunkPt (c : Dev nD) : sProp 𝕄 :=
  iprop((∃ f, hbPt (F := F) c mXs f) ∗ (∃ f, hbPt (F := F) c mAcc f) ∗ (∃ f, hbPt (F := F) c mM f) ∗ (∃ f, hbPt (F := F) c mS f)
    ∗ (∃ f, hbPt (F := F) c mG f))
abbrev chunk0Pt (c : Dev nD) : sProp 𝕄 := iprop(chunkPt (F := F) c ∗ (∃ f, hbPt (F := F) c mBl f))
/-- The buffers the finishing loop touches. -/
abbrev finPt (c : Dev nD) : sProp 𝕄 :=
  iprop((∃ f, hbPt (F := F) c mM f) ∗ (∃ f, hbPt (F := F) c mS f) ∗ (∃ f, hbPt (F := F) c mG f) ∗ (∃ f, hbPt (F := F) c mBl f)
    ∗ (∃ f, hbPt (F := F) c mLse f) ∗ (∃ f, hbPt (F := F) c mE f) ∗ (∃ f, hbPt (F := F) c mEb f))
section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def loop1 (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) (v533 : Vec F S1x512 .f32) (v534 : Vec F S1x512 .f32) :
    LoopInvTy_k0_t1 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 v533 v534 where
  inv _ _ := chunk0Pt (F := F) c
  step k acc := by
    have hk := Nat.lt_of_lt_of_le k.isLt k0_t1_abs.2.1
    unfold k0_t1_body
    iintro ⟨⟨⟨%f1, H1⟩, ⟨%f2, H2⟩, ⟨%f3, H3⟩, ⟨%f4, H4⟩, ⟨%f5, H5⟩⟩, ⟨%f6, H6⟩⟩
    sl_exec
    sl_step
    sl_close

set_option warn.classDefReducibility false in
@[sl_loop] def loop3 (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) (k0_t2 : Fin k0_t2_loop.trips) (arg26 : BitVec 32) (v1659 : Vec F S1x512 .f32) (v1661 : Vec F S1x512 .f32) :
    LoopInvTy_k0_t3 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 k0_t2 arg26 v1659 v1661 where
  inv _ _ := chunkPt (F := F) c
  step k acc := by
    have hk := Nat.lt_of_lt_of_le k.isLt k0_t3_abs.2.1
    unfold k0_t3_body
    iintro ⟨⟨%f1, H1⟩, ⟨%f2, H2⟩, ⟨%f3, H3⟩, ⟨%f4, H4⟩, ⟨%f5, H5⟩⟩
    sl_exec
    sl_step
    sl_close

set_option warn.classDefReducibility false in
@[sl_loop] def loop4 (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) :
    LoopInvTy_k0_t4 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 where
  inv _ _ := finPt (F := F) c
  step k acc := by
    have hk := Nat.lt_of_lt_of_le k.isLt k0_t4_abs.2.1
    unfold k0_t4_body
    iintro ⟨⟨%f1, H1⟩, ⟨%f2, H2⟩, ⟨%f3, H3⟩, ⟨%f4, H4⟩, ⟨%f5, H5⟩, ⟨%f6, H6⟩, ⟨%f7, H7⟩⟩
    sl_exec
    sl_step
    sl_close

set_option warn.classDefReducibility false in
@[sl_loop] def loop6 (v121 : IVec S8x128 32) (v137 : IVec S8x128 32) (v175 : IVec S8x128 32) (v191 : IVec S8x128 32) (v217 : IVec S8x128 32) (v259 : IVec S8x128 32) (k0_t5 : Fin k0_t5_loop.trips) (arg28 : FVec F S8x128 .f32) (arg26 : BitVec 32) (v1678 : Vec F S256x2560 .fp8e4m3) (v1679 : Vec F S2560x512 .fp8e4m3) (cst_616 : FVec F S256x512 .f32) (v1684 : Vec F S1x512 .f32) (v1685 : Vec F S1x512 .f32) :
    LoopInvTy_k0_t6 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v259 k0_t5 arg28 arg26 v1678 v1679 cst_616 v1684 v1685 where
  inv _ _ := chunk0Pt (F := F) c
  step k acc := by
    have hk := Nat.lt_of_lt_of_le k.isLt k0_t6_abs.2.1
    unfold k0_t6_body
    iintro ⟨⟨⟨%f1, H1⟩, ⟨%f2, H2⟩, ⟨%f3, H3⟩, ⟨%f4, H4⟩, ⟨%f5, H5⟩⟩, ⟨%f6, H6⟩⟩
    sl_exec
    sl_step
    sl_close

set_option warn.classDefReducibility false in
@[sl_loop] def loop8 (v121 : IVec S8x128 32) (v137 : IVec S8x128 32) (v175 : IVec S8x128 32) (v191 : IVec S8x128 32) (v217 : IVec S8x128 32) (v259 : IVec S8x128 32) (k0_t5 : Fin k0_t5_loop.trips) (arg28 : FVec F S8x128 .f32) (arg26 : BitVec 32) (v1678 : Vec F S256x2560 .fp8e4m3) (v1679 : Vec F S2560x512 .fp8e4m3) (cst_616 : FVec F S256x512 .f32) (k0_t7 : Fin k0_t7_loop.trips) (arg33 : BitVec 32) (v2319 : Vec F S1x512 .f32) (v2321 : Vec F S1x512 .f32) :
    LoopInvTy_k0_t8 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v259 k0_t5 arg28 arg26 v1678 v1679 cst_616 k0_t7 arg33 v2319 v2321 where
  inv _ _ := chunkPt (F := F) c
  step k acc := by
    have hk := Nat.lt_of_lt_of_le k.isLt k0_t8_abs.2.1
    unfold k0_t8_body
    iintro ⟨⟨%f1, H1⟩, ⟨%f2, H2⟩, ⟨%f3, H3⟩, ⟨%f4, H4⟩, ⟨%f5, H5⟩⟩
    sl_exec
    sl_step
    sl_close

set_option warn.classDefReducibility false in
@[sl_loop] def loop15 (v121 : IVec S8x128 32) (v262 : IVec S8x128 1) (v270 : IVec S8x128 32) (v273 : IVec S8x128 1) (v281 : IVec S8x128 32) (v286 : IVec S8x128 32) (v291 : IVec S8x128 32) (v435 : IVec S8x128 1) (v439 : IVec S8x128 1) (v472 : IVec S8x128 32) (v474 : IVec S8x128 1) (v1688 : BitVec 32) (v2178_3 : FVec F S8x128 .f32) (v2178_4 : FVec F S8x128 .f32) (v2178_5 : FVec F S8x128 .f32) (v2217 : FVec F S8x128 .f32) (v2226 : FVec F S8x128 .f32) (v2232 : IVec S8x128 32) (v2252 : FVec F S8x128 .f32) (v2256 : IVec S8x128 1) (v2265 : FVec F S8x128 .f32) (v2266 : IVec S8x128 32) :
    LoopInvTy_k0_t15 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v262 v270 v273 v281 v286 v291 v435 v439 v472 v474 v1688 v2178_3 v2178_4 v2178_5 v2217 v2226 v2232 v2252 v2256 v2265 v2266 where
  inv _ _ := finPt (F := F) c
  step k acc := by
    have hk := Nat.lt_of_lt_of_le k.isLt k0_t15_abs.2.1
    unfold k0_t15_body
    iintro ⟨⟨%f1, H1⟩, ⟨%f2, H2⟩, ⟨%f3, H3⟩, ⟨%f4, H4⟩, ⟨%f5, H5⟩, ⟨%f6, H6⟩, ⟨%f7, H7⟩⟩
    sl_exec
    sl_step
    sl_close

end

end Cert.Kernel.Hand

end
-- ==== Proof.Kernel.Blocks.lean ====
/-
  The two matrices cut into the blocks the transfers move: the right one by columns, the left one by rows. A buffer held
  whole is the conjunction of its blocks, at one contents.
-/
module

public import proofs.«01_k».proof.Proof.Kernel.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The column blocks of the right matrix and the row blocks of the left one. -/
abbrev wOff (b : Fin 8) : Fin 2 → ℕ := ![0, 512 * b.val]
abbrev xOff (b : Fin 8) : Fin 2 → ℕ := ![256 * b.val, 0]
theorem wOff_inb (b : Fin 8) : ∀ a, wOff b a + S2560x512.size a ≤ S2560x4096.size a := by
  intro a; fin_cases a <;> simp [wOff, S2560x512, S2560x4096, Shape.ofList] <;> omega
theorem xOff_inb (b : Fin 8) : ∀ a, xOff b a + S256x2560.size a ≤ S2048x2560.size a := by
  intro a; fin_cases a <;> simp [xOff, S256x2560, S2048x2560] <;> omega
abbrev wRect (b : Fin 8) : Rect S2560x4096 := Rect.unit (s := S2560x4096) (wOff b) S2560x512.size (wOff_inb b)
abbrev xRect (b : Fin 8) : Rect S2048x2560 := Rect.unit (s := S2048x2560) (xOff b) S256x2560.size (xOff_inb b)
abbrev wB (b : Fin 8) : Memref sig .tc .vmem S2560x512 .fp8e4m3 := mW.slice (wRect b) (fun _ => rfl)
abbrev whB (b : Fin 8) : Memref sig .tc .hbm S2560x512 .fp8e4m3 := hW.slice (wRect b) (fun _ => rfl)
abbrev xB (b : Fin 8) : Memref sig .tc .vmem S256x2560 .fp8e4m3 := mX.slice (xRect b) (fun _ => rfl)
abbrev xhB (b : Fin 8) : Memref sig .tc .hbm S256x2560 .fp8e4m3 := hX.slice (xRect b) (fun _ => rfl)

theorem wRect_disjoint (b b' : Fin 8) (h : b ≠ b') : Disjoint (wRect b).set (wRect b').set :=
  Ring.lead_disjoint (s := S2560x4096) (1 : Fin 2) 512 wOff S2560x512.size wOff_inb (fun b => rfl) rfl b b' h
theorem xRect_disjoint (b b' : Fin 8) (h : b ≠ b') : Disjoint (xRect b).set (xRect b').set :=
  Ring.lead_disjoint (s := S2048x2560) (0 : Fin 2) 256 xOff S256x2560.size xOff_inb (fun b => rfl) rfl b b' h
theorem wRect_cover : Finset.univ.biUnion (fun b => (wRect b).set) = Finset.univ :=
  Ring.lead_cover (s := S2560x4096) (1 : Fin 2) 512 wOff S2560x512.size wOff_inb (fun b => rfl)
    (fun b a h => by fin_cases a <;> [rfl; exact absurd rfl h]) rfl (fun a h => by fin_cases a <;> [rfl; exact absurd rfl h]) rfl
theorem xRect_cover : Finset.univ.biUnion (fun b => (xRect b).set) = Finset.univ :=
  Ring.lead_cover (s := S2048x2560) (0 : Fin 2) 256 xOff S256x2560.size xOff_inb (fun b => rfl)
    (fun b a h => by fin_cases a <;> [exact absurd rfl h; rfl]) rfl (fun a h => by fin_cases a <;> [exact absurd rfl h; rfl]) rfl

/-- A matrix held whole is its eight blocks. -/
theorem w_blocks (c : Dev nD) (f : HbBuf (F := F) c mW) :
    (hbPt c mW f : sProp 𝕄) = bigSep Finset.univ fun b => pt (F := F) c (wB b) f := by
  refine (Ring.pointsTo_blocks (ℓ := (c : Thread nD τ).loc cc0_scratch1) (fun b => (wRect b).set) wRect_disjoint wRect_cover f).trans ?_
  refine congrArg (bigSep Finset.univ) (funext fun b => ?_)
  change _ = ((c : Thread nD τ).loc cc0_scratch1 ↦[((View.whole cc0_scratch1).slice (wRect b)).set]{fullShare} f : sProp 𝕄)
  rw [View.set_slice_whole]
theorem wh_blocks (c : Dev nD) (f : HbBuf (F := F) c hW) :
    (hbPt c hW f : sProp 𝕄) = bigSep Finset.univ fun b => pt (F := F) c (whB b) f := by
  refine (Ring.pointsTo_blocks (ℓ := (c : Thread nD τ).loc main_arg2) (fun b => (wRect b).set) wRect_disjoint wRect_cover f).trans ?_
  refine congrArg (bigSep Finset.univ) (funext fun b => ?_)
  change _ = ((c : Thread nD τ).loc main_arg2 ↦[((View.whole main_arg2).slice (wRect b)).set]{fullShare} f : sProp 𝕄)
  rw [View.set_slice_whole]
theorem x_blocks (c : Dev nD) (f : HbBuf (F := F) c mX) :
    (hbPt c mX f : sProp 𝕄) = bigSep Finset.univ fun b => pt (F := F) c (xB b) f := by
  refine (Ring.pointsTo_blocks (ℓ := (c : Thread nD τ).loc cc0_scratch0) (fun b => (xRect b).set) xRect_disjoint xRect_cover f).trans ?_
  refine congrArg (bigSep Finset.univ) (funext fun b => ?_)
  change _ = ((c : Thread nD τ).loc cc0_scratch0 ↦[((View.whole cc0_scratch0).slice (xRect b)).set]{fullShare} f : sProp 𝕄)
  rw [View.set_slice_whole]
theorem xh_blocks (c : Dev nD) (f : HbBuf (F := F) c hX) :
    (hbPt c hX f : sProp 𝕄) = bigSep Finset.univ fun b => pt (F := F) c (xhB b) f := by
  refine (Ring.pointsTo_blocks (ℓ := (c : Thread nD τ).loc main_v0) (fun b => (xRect b).set) xRect_disjoint xRect_cover f).trans ?_
  refine congrArg (bigSep Finset.univ) (funext fun b => ?_)
  change _ = ((c : Thread nD τ).loc main_v0 ↦[((View.whole main_v0).slice (xRect b)).set]{fullShare} f : sProp 𝕄)
  rw [View.set_slice_whole]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

end Cert.Kernel.Hand

end
-- ==== Proof.Kernel.Flights.lean ====
/-
  The transfers of the two matrices. A transfer in flight delivers its block of the scratch buffer at the matrix's own values, and
  the block it was read from; the blocks from `k` on are in flight and those before it have landed.
-/
module

public import proofs.«01_k».proof.Proof.Kernel.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The matrix in HBM, as contents of the scratch buffer of its shape. -/
abbrev toW {c : Dev nD} (f : HbBuf (F := F) c hW) : HbBuf (F := F) c mW := fun i => f i
abbrev toX {c : Dev nD} (f : HbBuf (F := F) c hX) : HbBuf (F := F) c mX := fun i => f i

/-- Writing through a view what it reads of `f` leaves `f` on its elements. -/
theorem landed {κ : Kind} {sp : Space} {S : Shape} {e : EltTy} (v : View sig κ sp S e) (f g : v.ty.Contents (Elt F)) :
    ∀ i ∈ v.set, v.writes (Elt F) g [⟨Rect.whole S, v.read (Elt F) f⟩] i = f i := by
  intro i hi
  obtain ⟨y, -, rfl⟩ := Finset.mem_map.mp hi
  have h := congrFun (View.read_writes_whole v g (v.read (Elt F) f)) y
  rw [View.read_apply, View.read_apply] at h
  exact cast_inj _ |>.mp h

theorem w_read (c : Dev nD) (j : Fin 8) (f : HbBuf (F := F) c hW) : (whB j).view.read (Elt F) f = (wB j).view.read (Elt F) (toW f) := by
  funext y; rw [View.read_apply, View.read_apply]; rfl
theorem x_read (c : Dev nD) (j : Fin 8) (f : HbBuf (F := F) c hX) : (xhB j).view.read (Elt F) f = (xB j).view.read (Elt F) (toX f) := by
  funext y; rw [View.read_apply, View.read_apply]; rfl

theorem w_landed (c : Dev nD) (j : Fin 8) (f : HbBuf (F := F) c hW) (g : HbBuf (F := F) c mW) :
    (pt c (wB j) ((wB j).view.writes (Elt F) g [⟨Rect.whole S2560x512, (whB j).view.read (Elt F) f⟩]) : sProp 𝕄) = pt c (wB j) (toW f) := by
  rw [w_read]; exact pointsTo_congr (landed (wB j).view (toW f) g)
theorem x_landed (c : Dev nD) (j : Fin 8) (f : HbBuf (F := F) c hX) (g : HbBuf (F := F) c mX) :
    (pt c (xB j) ((xB j).view.writes (Elt F) g [⟨Rect.whole S256x2560, (xhB j).view.read (Elt F) f⟩]) : sProp 𝕄) = pt c (xB j) (toX f) := by
  rw [x_read]; exact pointsTo_congr (landed (xB j).view (toX f) g)

/-- The DMA cell of a column block of the right matrix, and of a row block of the left one. -/
abbrev wcell (j : Fin 8) : DmaSem sig := ⟨17 + j.val, by have := j.isLt; show _ < 25; omega⟩
abbrev xcell (j : Fin 8) : DmaSem sig := ⟨9 + j.val, by have := j.isLt; show _ < 25; omega⟩

/-- A block in flight. -/
abbrev wFly (c : Dev nD) (f : HbBuf (F := F) c hW) (j : Fin 8) : sProp 𝕄 :=
  Transfers.Flight countersEmb (c : Thread nD τ) (SemLoc.dma (wcell j)) default 40960 iprop(pt c (wB j) (toW f) ∗ pt c (whB j) f)
abbrev xFly (c : Dev nD) (f : HbBuf (F := F) c hX) (j : Fin 8) : sProp 𝕄 :=
  Transfers.Flight countersEmb (c : Thread nD τ) (SemLoc.dma (xcell j)) default 20480 iprop(pt c (xB j) (toX f) ∗ pt c (xhB j) f)
/-- A block that has landed. -/
abbrev wLand (c : Dev nD) (f : HbBuf (F := F) c hW) (j : Fin 8) : sProp 𝕄 :=
  iprop(pt c (wB j) (toW f) ∗ pt c (whB j) f ∗ sv (F := F) c (wcell j))
abbrev xLand (c : Dev nD) (f : HbBuf (F := F) c hX) (j : Fin 8) : sProp 𝕄 :=
  iprop(pt c (xB j) (toX f) ∗ pt c (xhB j) f ∗ sv (F := F) c (xcell j))

theorem wFly_mono (c : Dev nD) (f : HbBuf (F := F) c hW) (j : Fin 8) (g : HbBuf (F := F) c mW) :
    Transfers.Flight countersEmb (c : Thread nD τ) (SemLoc.dma (wcell j)) default 40960
      iprop(pt c (wB j) ((wB j).view.writes (Elt F) g [⟨Rect.whole S2560x512, (whB j).view.read (Elt F) f⟩]) ∗ pt c (whB j) f) ⊢ wFly c f j :=
  Transfers.Flight_mono _ _ (Entails.of_eq (congrArg (fun P : sProp 𝕄 => iprop(P ∗ pt c (whB j) f)) (w_landed c j f g)))
theorem xFly_mono (c : Dev nD) (f : HbBuf (F := F) c hX) (j : Fin 8) (g : HbBuf (F := F) c mX) :
    Transfers.Flight countersEmb (c : Thread nD τ) (SemLoc.dma (xcell j)) default 20480
      iprop(pt c (xB j) ((xB j).view.writes (Elt F) g [⟨Rect.whole S256x2560, (xhB j).view.read (Elt F) f⟩]) ∗ pt c (xhB j) f) ⊢ xFly c f j :=
  Transfers.Flight_mono _ _ (Entails.of_eq (congrArg (fun P : sProp 𝕄 => iprop(P ∗ pt c (xhB j) f)) (x_landed c j f g)))

/-- The blocks below `k` landed and those from `k` on in flight. -/
@[irreducible] def wState (c : Dev nD) (f : HbBuf (F := F) c hW) (k : ℕ) : sProp 𝕄 :=
  iprop(bigSep (Ring.rangeSet 8 0 k) (wLand c f) ∗ bigSep (Ring.rangeSet 8 k 8) (wFly c f))
@[irreducible] def xState (c : Dev nD) (f : HbBuf (F := F) c hX) (k : ℕ) : sProp 𝕄 :=
  iprop(bigSep (Ring.rangeSet 8 0 k) (xLand c f) ∗ bigSep (Ring.rangeSet 8 k 8) (xFly c f))

theorem range1 (Φ : Fin 8 → sProp 𝕄) : bigSep (Ring.rangeSet 8 1 8) Φ = iprop(Φ 1 ∗ Φ 2 ∗ Φ 3 ∗ Φ 4 ∗ Φ 5 ∗ Φ 6 ∗ Φ 7) :=
  BI.bigSep_eq_bigSepL_of_eq [(1 : Fin 8), 2, 3, 4, 5, 6, 7] (by decide) (by decide) Φ
theorem range0 (Φ : Fin 8 → sProp 𝕄) : bigSep (Ring.rangeSet 8 0 1) Φ = Φ 0 :=
  (BI.bigSep_eq_bigSepL_of_eq [(0 : Fin 8)] (by decide) (by decide) Φ).trans rfl

/-- The first block landed and the others in flight: where the first loop over column blocks starts. -/
theorem wState_one (c : Dev nD) (f : HbBuf (F := F) c hW) :
    iprop(wLand c f 0 ∗ wFly c f 1 ∗ wFly c f 2 ∗ wFly c f 3 ∗ wFly c f 4 ∗ wFly c f 5 ∗ wFly c f 6 ∗ wFly c f 7) ⊢ wState c f 1 := by
  unfold wState; rw [range0, range1]
theorem xState_one (c : Dev nD) (f : HbBuf (F := F) c hX) :
    iprop(xLand c f 0 ∗ xFly c f 1 ∗ xFly c f 2 ∗ xFly c f 3 ∗ xFly c f 4 ∗ xFly c f 5 ∗ xFly c f 6 ∗ xFly c f 7) ⊢ xState c f 1 := by
  unfold xState; rw [range0, range1]

/-- The block in flight next, taken off the state. -/
theorem wState_take (c : Dev nD) (f : HbBuf (F := F) c hW) (k : ℕ) (hk : k < 8) :
    wState c f k ⊢ iprop(bigSep (Ring.rangeSet 8 0 k) (wLand c f) ∗ wFly c f ⟨k, hk⟩ ∗ bigSep (Ring.rangeSet 8 (k + 1) 8) (wFly c f)) := by
  unfold wState; rw [Ring.bigSep_rangeSet_head hk hk]
theorem xState_take (c : Dev nD) (f : HbBuf (F := F) c hX) (k : ℕ) (hk : k < 8) :
    xState c f k ⊢ iprop(bigSep (Ring.rangeSet 8 0 k) (xLand c f) ∗ xFly c f ⟨k, hk⟩ ∗ bigSep (Ring.rangeSet 8 (k + 1) 8) (xFly c f)) := by
  unfold xState; rw [Ring.bigSep_rangeSet_head hk hk]
/-- and put back landed. -/
theorem wState_put (c : Dev nD) (f : HbBuf (F := F) c hW) (k : ℕ) (hk : k < 8) :
    iprop(bigSep (Ring.rangeSet 8 0 k) (wLand c f) ∗ wLand c f ⟨k, hk⟩ ∗ bigSep (Ring.rangeSet 8 (k + 1) 8) (wFly c f)) ⊢ wState c f (k + 1) := by
  unfold wState; rw [Ring.bigSep_rangeSet_last (lo := 0) (hi := k + 1) (by omega) (by omega)]
  iintro ⟨A, B, C⟩; isplitr [C]; · isplitl [B]; · iexact B
                                   iexact A
  iexact C
theorem xState_put (c : Dev nD) (f : HbBuf (F := F) c hX) (k : ℕ) (hk : k < 8) :
    iprop(bigSep (Ring.rangeSet 8 0 k) (xLand c f) ∗ xLand c f ⟨k, hk⟩ ∗ bigSep (Ring.rangeSet 8 (k + 1) 8) (xFly c f)) ⊢ xState c f (k + 1) := by
  unfold xState; rw [Ring.bigSep_rangeSet_last (lo := 0) (hi := k + 1) (by omega) (by omega)]
  iintro ⟨A, B, C⟩; isplitr [C]; · isplitl [B]; · iexact B
                                   iexact A
  iexact C

theorem bigSep_sep3 (A B C : Fin 8 → sProp 𝕄) : bigSep Finset.univ (fun j => iprop(A j ∗ B j ∗ C j))
    = iprop(bigSep Finset.univ A ∗ bigSep Finset.univ B ∗ bigSep Finset.univ C) := by
  exact (BI.bigSep_sep Finset.univ A (fun j => iprop(B j ∗ C j))).trans
    (congrArg (fun P : sProp 𝕄 => iprop(bigSep Finset.univ A ∗ P)) (BI.bigSep_sep Finset.univ B C))

/-- Every block landed: the scratch buffer and the matrix whole, every cell at zero. -/
theorem wState_all (c : Dev nD) (f : HbBuf (F := F) c hW) :
    wState c f 8 ⊢ iprop(hbPt c mW (toW f) ∗ hbPt c hW f ∗ (sv (F := F) c 17 ∗ sv (F := F) c 18 ∗ sv (F := F) c 19 ∗ sv (F := F) c 20
      ∗ sv (F := F) c 21 ∗ sv (F := F) c 22 ∗ sv (F := F) c 23 ∗ sv (F := F) c 24)) := by
  unfold wState
  rw [Ring.bigSep_rangeSet_empty (lo := 8) (hi := 8) le_rfl, Ring.rangeSet_univ, bigSep_sep3, ← w_blocks, ← wh_blocks, bigSep_fin8]
  iintro ⟨H, -⟩; iexact H
theorem xState_all (c : Dev nD) (f : HbBuf (F := F) c hX) :
    xState c f 8 ⊢ iprop(hbPt c mX (toX f) ∗ hbPt c hX f ∗ (sv (F := F) c 9 ∗ sv (F := F) c 10 ∗ sv (F := F) c 11 ∗ sv (F := F) c 12
      ∗ sv (F := F) c 13 ∗ sv (F := F) c 14 ∗ sv (F := F) c 15 ∗ sv (F := F) c 16)) := by
  unfold xState
  rw [Ring.bigSep_rangeSet_empty (lo := 8) (hi := 8) le_rfl, Ring.rangeSet_univ, bigSep_sep3, ← x_blocks, ← xh_blocks, bigSep_fin8]
  iintro ⟨H, -⟩; iexact H

/-- The cell and the slices a trip names by its own number are the next block's. -/
theorem wcell_eq (k : Fin k0_t2_loop.trips) (h : k.val + 1 < 8) :
    wcell ⟨k.val + 1, h⟩ = ((cc0_scratch14.slice (Rect.unit (s := S8) (k0_off6 k) S1.size (k0_off6_inb k))).squeeze S_ squeezes_S1_S_).sem := by
  revert k; decide +kernel
theorem xcell_eq (k : Fin k0_t5_loop.trips) (h : k.val + 1 < 8) :
    xcell ⟨k.val + 1, h⟩ = ((cc0_scratch13.slice (Rect.unit (s := S8) (k0_off17 k) S1.size (k0_off17_inb k))).squeeze S_ squeezes_S1_S_).sem := by
  revert k; decide +kernel

theorem t2_lt (k : Fin k0_t2_loop.trips) : k.val + 1 < 8 := by
  have := Nat.lt_of_lt_of_le k.isLt k0_t2_abs.2.1; omega

/-- The next block in flight, its cell named as the trip names it. -/
theorem wState_take' (c : Dev nD) (f : HbBuf (F := F) c hW) (k : Fin k0_t2_loop.trips) :
    wState c f (k.val + 1) ⊢ iprop(bigSep (Ring.rangeSet 8 0 (k.val + 1)) (wLand c f)
      ∗ Transfers.Flight countersEmb (c : Thread nD τ) (SemLoc.dma ((cc0_scratch14.slice (Rect.unit (s := S8) (k0_off6 k) S1.size (k0_off6_inb k))).squeeze S_ squeezes_S1_S_).sem)
          default 40960 iprop(pt c (wB ⟨k.val + 1, t2_lt k⟩) (toW f) ∗ pt c (whB ⟨k.val + 1, t2_lt k⟩) f)
      ∗ bigSep (Ring.rangeSet 8 (k.val + 2) 8) (wFly c f)) := by
  rw [← wcell_eq k (t2_lt k)]; exact wState_take c f (k.val + 1) (t2_lt k)
theorem wState_put' (c : Dev nD) (f : HbBuf (F := F) c hW) (k : Fin k0_t2_loop.trips) :
    iprop(bigSep (Ring.rangeSet 8 0 (k.val + 1)) (wLand c f)
      ∗ (pt c (wB ⟨k.val + 1, t2_lt k⟩) (toW f) ∗ pt c (whB ⟨k.val + 1, t2_lt k⟩) f
        ∗ sv (F := F) c ((cc0_scratch14.slice (Rect.unit (s := S8) (k0_off6 k) S1.size (k0_off6_inb k))).squeeze S_ squeezes_S1_S_).sem)
      ∗ bigSep (Ring.rangeSet 8 (k.val + 2) 8) (wFly c f)) ⊢ wState c f (k.val + 1 + 1) := by
  rw [← wcell_eq k (t2_lt k)]; exact wState_put c f (k.val + 1) (t2_lt k)
theorem unit_congr {S : Shape} {off off' : Fin S.rank → ℕ} {size : Fin S.rank → ℕ} (h : off = off') (i : ∀ a, off a + size a ≤ S.size a)
    (i' : ∀ a, off' a + size a ≤ S.size a) : Rect.unit (s := S) off size i = Rect.unit (s := S) off' size i' := by subst h; rfl
theorem w_rect (k : Fin k0_t2_loop.trips) :
    Rect.unit (s := S2560x4096) (k0_off8 k) S2560x512.size (k0_off8_inb k) = wRect ⟨k.val + 1, t2_lt k⟩ :=
  unit_congr (by rw [k0_off8_eq]; simp [wOff]; try omega) _ _
/-- The columns a trip loads are the block it waited for. -/
theorem w_in (k : Fin k0_t2_loop.trips) :
    (mW.access (Rect.unit (s := S2560x4096) (k0_off8 k) S2560x512.size (k0_off8_inb k))).set ⊆ (wB ⟨k.val + 1, t2_lt k⟩).view.set := by
  rw [w_rect]

theorem t5_lt (k : Fin k0_t5_loop.trips) : k.val + 1 < 8 := by
  have := Nat.lt_of_lt_of_le k.isLt k0_t5_abs.2.1; omega

/-- The next block in flight, its cell named as the trip names it. -/
theorem xState_take' (c : Dev nD) (f : HbBuf (F := F) c hX) (k : Fin k0_t5_loop.trips) :
    xState c f (k.val + 1) ⊢ iprop(bigSep (Ring.rangeSet 8 0 (k.val + 1)) (xLand c f)
      ∗ Transfers.Flight countersEmb (c : Thread nD τ) (SemLoc.dma ((cc0_scratch13.slice (Rect.unit (s := S8) (k0_off17 k) S1.size (k0_off17_inb k))).squeeze S_ squeezes_S1_S_).sem)
          default 20480 iprop(pt c (xB ⟨k.val + 1, t5_lt k⟩) (toX f) ∗ pt c (xhB ⟨k.val + 1, t5_lt k⟩) f)
      ∗ bigSep (Ring.rangeSet 8 (k.val + 2) 8) (xFly c f)) := by
  rw [← xcell_eq k (t5_lt k)]; exact xState_take c f (k.val + 1) (t5_lt k)
theorem xState_put' (c : Dev nD) (f : HbBuf (F := F) c hX) (k : Fin k0_t5_loop.trips) :
    iprop(bigSep (Ring.rangeSet 8 0 (k.val + 1)) (xLand c f)
      ∗ (pt c (xB ⟨k.val + 1, t5_lt k⟩) (toX f) ∗ pt c (xhB ⟨k.val + 1, t5_lt k⟩) f
        ∗ sv (F := F) c ((cc0_scratch13.slice (Rect.unit (s := S8) (k0_off17 k) S1.size (k0_off17_inb k))).squeeze S_ squeezes_S1_S_).sem)
      ∗ bigSep (Ring.rangeSet 8 (k.val + 2) 8) (xFly c f)) ⊢ xState c f (k.val + 1 + 1) := by
  rw [← xcell_eq k (t5_lt k)]; exact xState_put c f (k.val + 1) (t5_lt k)
theorem x_rect20 (k : Fin k0_t5_loop.trips) :
    Rect.unit (s := S2048x2560) (k0_off20 k) S256x2560.size (k0_off20_inb k) = xRect ⟨k.val + 1, t5_lt k⟩ :=
  unit_congr (by rw [k0_off20_eq]; simp [xOff]; try omega) _ _
theorem x_rect26 (k : Fin k0_t5_loop.trips) :
    Rect.unit (s := S2048x2560) (k0_off26 k) S256x2560.size (k0_off26_inb k) = xRect ⟨k.val + 1, t5_lt k⟩ :=
  unit_congr (by rw [k0_off26_eq]; simp [xOff]; try omega) _ _
/-- The rows a trip loads are the block it waited for. -/
theorem x_in20 (k : Fin k0_t5_loop.trips) :
    (mX.access (Rect.unit (s := S2048x2560) (k0_off20 k) S256x2560.size (k0_off20_inb k))).set ⊆ (xB ⟨k.val + 1, t5_lt k⟩).view.set := by
  rw [x_rect20]
theorem x_in26 (k : Fin k0_t5_loop.trips) :
    (mX.access (Rect.unit (s := S2048x2560) (k0_off26 k) S256x2560.size (k0_off26_inb k))).set ⊆ (xB ⟨k.val + 1, t5_lt k⟩).view.set := by
  rw [x_rect26]

end Cert.Kernel.Hand

end
-- ==== Proof.Kernel.Loops2.lean ====
/-
  The loop over the column blocks of the first row block: each trip waits for the next column block, computes its dot product, and
  runs the group loop of the chunk.
-/
module

public import proofs.«01_k».proof.Proof.Kernel.Loops
public import proofs.«01_k».proof.Proof.Kernel.Flights

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def loop2 (fx : HbBuf (F := F) c hX) (fw : HbBuf (F := F) c hW) (gws : HbBuf (F := F) c mWs) (gb : HbBuf (F := F) c mBias) (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) :
    LoopInvTy_k0_t2 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 where
  inv k _ := iprop(pt c (xB 0) (toX fx) ∗ wState c fw (k + 1) ∗ hbPt c mWs gws ∗ hbPt c mBias gb ∗ chunkPt (F := F) c ∗ ∃ W, owes (c : Thread nD τ) 0 W)
  step k acc := by
    unfold k0_t2_body
    iintro ⟨HX, Hst, HWs, HB, ⟨⟨%f1, H1⟩, ⟨%f2, H2⟩, ⟨%f3, H3⟩, ⟨%f4, H4⟩, ⟨%f5, H5⟩⟩, ⟨%W, HO⟩⟩
    ihave Hst := wState_take' c fw k $$ Hst
    icases Hst with ⟨Hlo, Hf, Hhi⟩
    have hw := w_in k
    sl_exec
    ihave Hst := wState_put' c fw k $$ [Hlo Hf_dst Hf_src Hf Hhi]
    · sl_close
    sl_step
    sl_close
end

end Cert.Kernel.Hand

end
-- ==== Proof.Kernel.Loops5.lean ====
/-
  The loop over the row blocks after the first: each trip waits for its row block, runs the chunks of all column blocks, the finishing
  loop and the loops over frames, and writes its rows of the second result.
-/
module

public import proofs.«01_k».proof.Proof.Kernel.Loops2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The scratch buffers a trip works in. -/
abbrev workPt (c : Dev nD) : sProp 𝕄 :=
  iprop((∃ f, hbPt (F := F) c mXs f) ∗ (∃ f, hbPt (F := F) c mAcc f) ∗ (∃ f, hbPt (F := F) c mM f) ∗ (∃ f, hbPt (F := F) c mS f)
    ∗ (∃ f, hbPt (F := F) c mG f) ∗ (∃ f, hbPt (F := F) c mBl f) ∗ (∃ f, hbPt (F := F) c mLse f) ∗ (∃ f, hbPt (F := F) c mE f)
    ∗ (∃ f, hbPt (F := F) c mEb f))

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def loop7 (fx : HbBuf (F := F) c hX) (fw : HbBuf (F := F) c hW) (gws : HbBuf (F := F) c mWs) (gb : HbBuf (F := F) c mBias) (v121 : IVec S8x128 32) (v137 : IVec S8x128 32) (v175 : IVec S8x128 32) (v191 : IVec S8x128 32) (v217 : IVec S8x128 32) (v259 : IVec S8x128 32) (k0_t5 : Fin k0_t5_loop.trips) (arg28 : FVec F S8x128 .f32) (arg26 : BitVec 32) (v1678 : Vec F S256x2560 .fp8e4m3) (v1679 : Vec F S2560x512 .fp8e4m3) (cst_616 : FVec F S256x512 .f32) :
    LoopInvTy_k0_t7 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v259 k0_t5 arg28 arg26 v1678 v1679 cst_616 where
  inv k _ := iprop(pt c (xB ⟨k0_t5.val + 1, t5_lt k0_t5⟩) (toX fx) ∗ hbPt c mW (toW fw) ∗ hbPt c mWs gws ∗ hbPt c mBias gb ∗ chunkPt (F := F) c)
  step k acc := by
    unfold k0_t7_body
    iintro ⟨HX, HW, HWs, HB, ⟨⟨%f1, H1⟩, ⟨%f2, H2⟩, ⟨%f3, H3⟩, ⟨%f4, H4⟩, ⟨%f5, H5⟩⟩⟩
    have hx := x_in26 k0_t5
    sl_exec
    sl_step
    sl_close

set_option warn.classDefReducibility false in
@[sl_loop] def loop5 (fa2 : arg2.view.ty.Contents (Elt F)) (fx : HbBuf (F := F) c hX) (fw : HbBuf (F := F) c hW) (gws : HbBuf (F := F) c mWs)
    (gb : HbBuf (F := F) c mBias) (v121 : IVec S8x128 32) (v137 : IVec S8x128 32) (v175 : IVec S8x128 32) (v191 : IVec S8x128 32) (v217 : IVec S8x128 32) (v243 : IVec S8x128 32) (v259 : IVec S8x128 32) (v262 : IVec S8x128 1) (v270 : IVec S8x128 32) (v273 : IVec S8x128 1) (v281 : IVec S8x128 32) (v286 : IVec S8x128 32) (v291 : IVec S8x128 32) (v435 : IVec S8x128 1) (v439 : IVec S8x128 1) (v472 : IVec S8x128 32) (v474 : IVec S8x128 1) (v475 : FVec F S8x128 .f32) (v484 : FVec F S8x128 .f32) (v493 : FVec F S8x128 .f32) (init : FVec F S8x128 FTy.f32 × FVec F S8x128 FTy.f32 × FVec F S8x128 FTy.f32 × FVec F S8x128 FTy.f32 × FVec F S8x128 FTy.f32 × FVec F S8x128 FTy.f32) :
    LoopInvTy_k0_t5 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v243 v259 v262 v270 v273 v281 v286 v291 v435 v439 v472 v474 v475 v484 v493 init where
  inv k _ := iprop(pt c arg2 fa2 ∗ (∃ f9, pt c arg9 f9) ∗ xState c fx (k + 1) ∗ hbPt c mW (toW fw) ∗ hbPt c mWs gws ∗ hbPt c mBias gb ∗ workPt (F := F) c
    ∗ ∃ W, owes (c : Thread nD τ) 0 W)
  step k acc := by
    unfold k0_t5_body
    simp only [k0_part27_eq_skeleton, k0_part28_eq_skeleton, k0_part29_eq_skeleton, k0_part30_eq_skeleton, k0_part31_eq_skeleton, k0_part32_eq_skeleton,
      k0_part33_eq_skeleton, k0_part34_eq_skeleton, k0_part35_eq_skeleton, k0_part36_eq_skeleton, k0_part37_eq_skeleton, k0_part38_eq_skeleton,
      k0_part39_eq_skeleton, k0_part40_eq_skeleton, k0_part41_eq_skeleton]
    iintro ⟨Ha2, ⟨%f9, Ha9⟩, Hst, HW, HWs, HB, ⟨⟨%f1, H1⟩, ⟨%f2, H2⟩, ⟨%f3, H3⟩, ⟨%f4, H4⟩, ⟨%f5, H5⟩, ⟨%f6, H6⟩, ⟨%f7, H7⟩, ⟨%f8, H8⟩, ⟨%f10, H10⟩⟩, ⟨%W, HO⟩⟩
    ihave Hst := xState_take' c fx k $$ Hst
    icases Hst with ⟨Hlo, Hf, Hhi⟩
    have hx := x_in20 k
    sl_exec
    ihave Hst := xState_put' c fx k $$ [Hlo Hf_dst Hf_src Hf Hhi]
    · sl_close
    sl_step
    sl_close
end

end Cert.Kernel.Hand

end
-- ==== Proof.Kernel.Run.lean ====
module

public import proofs.«01_k».proof.Proof.Kernel.Loops5

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

theorem t2_trips : Scf.trips k0_t2_loop.lb k0_t2_loop.ub k0_t2_loop.st + 1 = 8 := by decide +kernel
theorem t5_trips : Scf.trips k0_t5_loop.lb k0_t5_loop.ub k0_t5_loop.st + 1 = 8 := by decide +kernel

/-- ONE RUN OF THE BODY. From the six staged inputs at the contents read, the three result buffers and the scratch at any
    contents, the DMA cells at zero and the two matrices in HBM, the body runs to its end with no fault, leaves the inputs
    and the matrices as they were, and gives everything back. -/
theorem run0 (fx : HbBuf (F := F) c hX) (fw : HbBuf (F := F) c hW) (d2 : Vec F S512x4 .f32) (d3 d4 : Vec F S1x4096 .f32)
    (d5 : Vec F S4x128 .i32) (d6 d7 : Vec F S4 .i32) (W : Waits sig Unit) (K : PUnit → sProp 𝕄) :
  iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ (∃ d, owns (c : Thread nD τ) arg10 fullShare d)
     ∗ scrPt (F := F) c ∗ semsPt (F := F) c ∗ hbPt c hX fx ∗ hbPt c hW fw ∗ owes (c : Thread nD τ) 0 W
     ∗ ((owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ (∃ d, owns (c : Thread nD τ) arg10 fullShare d)
         ∗ scrPt (F := F) c ∗ semsPt (F := F) c ∗ hbPt c hX fx ∗ hbPt c hW fw ∗ (∃ W, owes (c : Thread nD τ) 0 W)) -∗ K PUnit.unit))
    ⊢ wp frame (wpE (defs₀ (F := F)) Variants.none c none) Set.univ (cc0_ctc_head hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14) K := by
  simp only [cc0_ctc_head_eq_skeleton]; unfold cc0_ctc_head_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩,
    ⟨⟨%gx, HX⟩, ⟨%gw, HW⟩, ⟨%gws, HWs⟩, ⟨%gb, HB⟩, ⟨%gxs, HXs⟩, ⟨%gm, HM⟩, ⟨%gs, HS⟩, ⟨%gg, HG⟩, ⟨%gbl, HBl⟩, ⟨%gl, HL⟩, ⟨%ge, HE⟩, ⟨%geb, HEb⟩, ⟨%ga, HA⟩⟩,
    ⟨Hq9, Hq10, Hq11, Hq12, Hq13, Hq14, Hq15, Hq16, Hq17, Hq18, Hq19, Hq20, Hq21, Hq22, Hq23, Hq24⟩, Hhx, Hhw, HO, Hk⟩
  ihave HX := (Entails.of_eq ((x_blocks c gx).trans (bigSep_fin8 _))) $$ HX
  ihave HW := (Entails.of_eq ((w_blocks c gw).trans (bigSep_fin8 _))) $$ HW
  ihave Hhx := (Entails.of_eq ((xh_blocks c fx).trans (bigSep_fin8 _))) $$ Hhx
  ihave Hhw := (Entails.of_eq ((wh_blocks c fw).trans (bigSep_fin8 _))) $$ Hhw
  icases HX with ⟨HX0, HX1, HX2, HX3, HX4, HX5, HX6, HX7⟩
  icases HW with ⟨HW0, HW1, HW2, HW3, HW4, HW5, HW6, HW7⟩
  icases Hhx with ⟨Hhx0, Hhx1, Hhx2, Hhx3, Hhx4, Hhx5, Hhx6, Hhx7⟩
  icases Hhw with ⟨Hhw0, Hhw1, Hhw2, Hhw3, Hhw4, Hhw5, Hhw6, Hhw7⟩
  set_option sl_exec.stopBefore "k0_part67" in sl_exec
  set_option sl_exec.maxSteps 12 in sl_exec
  unfold run0.sl.dma0 run0.sl.dma0_1 run0.sl.dma0_2 run0.sl.dma0_3 run0.sl.dma0_4 run0.sl.dma0_5 run0.sl.dma0_6 run0.sl.dma0_7 run0.sl.dma0_8 run0.sl.dma0_9 run0.sl.dma0_10 run0.sl.dma0_11 run0.sl.dma0_12 run0.sl.dma0_13 run0.sl.dma0_14 run0.sl.dma0_15
  ihave Hw := wState_one c fw $$ [HW0 Hhw0 Hq17 Hq18 Hq19 Hq20 Hq21 Hq22 Hq23 Hq24]
  · ihave HW0 := (Entails.of_eq (w_landed c 0 fw (wB 0).view.junk)) $$ HW0
    ihave Hq18 := wFly_mono c fw 1 gw $$ Hq18
    ihave Hq19 := wFly_mono c fw 2 gw $$ Hq19
    ihave Hq20 := wFly_mono c fw 3 gw $$ Hq20
    ihave Hq21 := wFly_mono c fw 4 gw $$ Hq21
    ihave Hq22 := wFly_mono c fw 5 gw $$ Hq22
    ihave Hq23 := wFly_mono c fw 6 gw $$ Hq23
    ihave Hq24 := wFly_mono c fw 7 gw $$ Hq24
    sl_close
  ihave HX0 := (Entails.of_eq (x_landed c 0 fx (xB 0).view.junk)) $$ HX0
  set_option sl_exec.stopBefore "k0_part68" in sl_exec
  ihave Hw := Entails.of_eq (congrArg (wState c fw) t2_trips) $$ Hw
  ihave Hw := wState_all c fw $$ Hw
  icases Hw with ⟨HW, Hhw, Hq17, Hq18, Hq19, Hq20, Hq21, Hq22, Hq23, Hq24⟩
  ihave Hx := xState_one c fx $$ [HX0 Hhx0 Hq9 Hq10 Hq11 Hq12 Hq13 Hq14 Hq15 Hq16]
  · ihave Hq10 := xFly_mono c fx 1 gx $$ Hq10
    ihave Hq11 := xFly_mono c fx 2 gx $$ Hq11
    ihave Hq12 := xFly_mono c fx 3 gx $$ Hq12
    ihave Hq13 := xFly_mono c fx 4 gx $$ Hq13
    ihave Hq14 := xFly_mono c fx 5 gx $$ Hq14
    ihave Hq15 := xFly_mono c fx 6 gx $$ Hq15
    ihave Hq16 := xFly_mono c fx 7 gx $$ Hq16
    sl_close
  sl_exec
  ihave Hx := Entails.of_eq (congrArg (xState c fx) t5_trips) $$ Hx
  ihave Hx := xState_all c fx $$ Hx
  icases Hx with ⟨HX, Hhx, Hq9, Hq10, Hq11, Hq12, Hq13, Hq14, Hq15, Hq16⟩
  sl_step
  iapply Hk
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HX HW HWs HB HXs HM HS HG HBl HL HE HEb HA]
  · isplitl [HX]; · iexists _; iexact HX
    isplitl [HW]; · iexists _; iexact HW
    isplitl [HWs]; · iexists _; iexact HWs
    isplitl [HB]; · iexists _; iexact HB
    isplitl [HXs]; · iexists _; iexact HXs
    isplitl [HM]; · iexists _; iexact HM
    isplitl [HS]; · iexists _; iexact HS
    isplitl [HG]; · iexists _; iexact HG
    isplitl [HBl]; · iexists _; iexact HBl
    isplitl [HL]; · iexists _; iexact HL
    isplitl [HE]; · iexists _; iexact HE
    isplitl [HEb]; · iexists _; iexact HEb
    iexists _; iexact HA
  isplitl [Hq9 Hq10 Hq11 Hq12 Hq13 Hq14 Hq15 Hq16 Hq17 Hq18 Hq19 Hq20 Hq21 Hq22 Hq23 Hq24]
  · isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    iexact Hq24
  isplitl [Hhx]; · iexact Hhx
  isplitl [Hhw]; · iexact Hhw
  iexists _; iexact HO

end Cert.Kernel.Hand

end
-- ==== Proof.Kernel.Frame.lean ====
module

public import proofs.«01_k».proof.Proof.Kernel.Run

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data: three results whose contents are not named -/

/-- The windows whose contents the frame does not name: the three results. -/
def fgt : Fin cfg0.W → Bool := fun w => match w with
  | ⟨6, _⟩ | ⟨7, _⟩ | ⟨8, _⟩ => true
  | _ => false

/-- The proof data of the one pipeline on core `c`: the arrays as the region finds them, each input's buffer left at its
    block, the results' buffers at nothing in particular, the scratch, the cells and the two matrices held throughout. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => default
    | ⟨7, _⟩ => fun _ => default
    | ⟨8, _⟩ => fun _ => default
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
/-- Input window 0's buffer holds its block when the body is entered. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
/-- Input window 1's buffer holds its block when the body is entered. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
/-- Input window 2's buffer holds its block when the body is entered. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
/-- Input window 3's buffer holds its block when the body is entered. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
/-- Input window 4's buffer holds its block when the body is entered. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
/-- Input window 5's buffer holds its block when the body is entered. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- The body runs at the one point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5]
  rw [show (dats m 0 c).Φ t.castSucc = Pipeline.ΦD osem0 spec0 H0 (V m) c from rfl, PhiD0_eq]
  simp only [before0_0, before0_1, before0_2, before0_3, before0_4, before0_5]
  unfold Dat.owesAt Pipeline.owesWithin
  rw [show (dats m 0 c).owed t.castSucc = 0 from rfl, show (dats m 0 c).owed t.succ = 0 from rfl]
  iintro ⟨⟨Hscr, Hg, Hq, ⟨Hhx, Hhw⟩⟩, ⟨%W, -, HO⟩, ⟨%x2, H2⟩, ⟨%x3, H3⟩, ⟨%x4, H4⟩, ⟨%x5, H5⟩, ⟨%x6, H6⟩, ⟨%x7, H7⟩, H8, H9, H10⟩
  iapply (run0 c _ _ _ _ _ _ _ _ _ _ _ _ _ _ _ _ _ _ (V m c main_v0) (V m c main_arg2) (iblk m c 0 t) (iblk m c 1 t) (iblk m c 2 t) (iblk m c 3 t) (iblk m c 4 t) (iblk m c 5 t) W _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hscr]; · iexact Hscr
  isplitl [Hq]; · iexact Hq
  isplitl [Hhx]; · iexact Hhx
  isplitl [Hhw]; · iexact Hhw
  isplitl [HO]; · iexact HO
  iintro ⟨H2, H3, H4, H5, H6, H7, H8, H9, H10, Hscr, Hq, Hhx, Hhw, ⟨%W', HO⟩⟩
  isplitl [Hscr Hg Hq Hhx Hhw]
  · isplitl [Hscr]; · iexact Hscr
    isplitl [Hg]; · iexact Hg
    isplitl [Hq]; · iexact Hq
    isplitl [Hhx]; · iexact Hhx
    iexact Hhw
  isplitl [HO]
  · iexists W'; isplitr; · ipureintro; exact fun _ _ => Or.inl trivial
    iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_dma_forget (Q' := _) cfgs (dats m) (0 : Fin 1) launch0 osem0 defs₀ Variants.none fgt ownSemFacts0 H0 H0_sub m ρ main
    (hbody := body_obligation m) (hshare := fun c => (dats m 0 c).share_full fun _ => rfl)
    (howed := fun _ _ => rfl) (V := V m) (hmain := hmain m Variants.none) (hA := A_eq m)
    (hin := fun _ => .rfl) (hout := fun _ => .rfl)

/-- An input window's array ends as the region found it. -/
theorem in_end (c : Dev nD) (w : Fin cfg0.W) (hw : (cfg0.win w).isOut = false) (hf : fgt w = false) (X) :
    ((dats m 0 c).toRForget fgt).ArrAt w cfg0.N X → X = V m c (Pipeline.arrRef spec0 w) := fun h =>
  ((Pipeline.Dat.toRForget_arrAt_iff (dats m 0 c) hf _ X).mp h).trans (((dats m 0 c).arrAt_in w hw _).trans (A_eq m c w))

/-- THE FRAME: every execution ends, the eight arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      (in_end m c 0 rfl rfl _ ((h.1 c).1 0)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (in_end m c 3 rfl rfl _ ((h.1 c).1 3)).trans (V_main_arg5 m c),
      (in_end m c 4 rfl rfl _ ((h.1 c).1 4)).trans (V_main_arg6 m c),
      (in_end m c 5 rfl rfl _ ((h.1 c).1 5)).trans (V_main_arg7 m c)⟩, h.2⟩) (run_main m ρ)

end Cert.Kernel.Hand

end
-- ==== Proof.KernelIdeal.Base.lean ====
/-
  The frame kit of `cc0_ctc_head` at the algebra of a body that starts transfers of its own: @main up to the region,
  the buffers and cells the body holds, and the frame claim's postcondition from the run's.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## @main up to the region -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The body's operands -/

/-- The scratch buffers: the two staged matrices, the two row vectors, the row scales, the running maximum, the running
    sum, the picked entries, the base, the finished sums, the two emission tables and the dot product's accumulator. -/
abbrev mX : Memref sig .tc .vmem S2048x2560 .fp8e4m3 := Memref.whole cc0_scratch0
abbrev mW : Memref sig .tc .vmem S2560x4096 .fp8e4m3 := Memref.whole cc0_scratch1
abbrev mWs : Memref sig .tc .vmem S1x4096 .f32 := Memref.whole cc0_scratch2
abbrev mBias : Memref sig .tc .vmem S1x4096 .f32 := Memref.whole cc0_scratch3
abbrev mXs : Memref sig .tc .vmem S256x128 .f32 := Memref.whole cc0_scratch4
abbrev mM : Memref sig .tc .vmem S256x128 .f32 := Memref.whole cc0_scratch5
abbrev mS : Memref sig .tc .vmem S256x128 .f32 := Memref.whole cc0_scratch6
abbrev mG : Memref sig .tc .vmem S256x128 .f32 := Memref.whole cc0_scratch7
abbrev mBl : Memref sig .tc .vmem S256x128 .f32 := Memref.whole cc0_scratch8
abbrev mLse : Memref sig .tc .vmem S256x128 .f32 := Memref.whole cc0_scratch9
abbrev mE : Memref sig .tc .vmem S1024x128 .f32 := Memref.whole cc0_scratch10
abbrev mEb : Memref sig .tc .vmem S256x128 .f32 := Memref.whole cc0_scratch11
abbrev mAcc : Memref sig .tc .vmem S256x512 .f32 := Memref.whole cc0_scratch12
/-- The two matrices left in HBM. -/
abbrev hX : Memref sig .tc .hbm S2048x2560 .fp8e4m3 := Memref.whole main_v0
abbrev hW : Memref sig .tc .hbm S2560x4096 .fp8e4m3 := Memref.whole main_arg2

/-- The contents of a buffer on core `c`, and the buffer held whole at them. -/
abbrev HbBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : HbBuf (F := F) c M) : sProp 𝕄 :=
  M.view.loc (c : Thread nD τ) ↦[M.view.set]{fullShare} f
abbrev hbPt (c : Dev nD) {sp : Space} {S : Shape} {e : EltTy} (M : Memref sig .tc sp S e) (f : HbBuf (F := F) c M) : sProp 𝕄 :=
  M.view.loc (c : Thread nD τ) ↦{fullShare} f

/-- The body's sixteen DMA cells: one per row block of the left matrix, then one per column block of the right one. -/
abbrev osem0 : Fin 16 → SemLoc sig := fun j =>
  (![SemLoc.dma 9, SemLoc.dma 10, SemLoc.dma 11, SemLoc.dma 12, SemLoc.dma 13, SemLoc.dma 14, SemLoc.dma 15, SemLoc.dma 16,
     SemLoc.dma 17, SemLoc.dma 18, SemLoc.dma 19, SemLoc.dma 20, SemLoc.dma 21, SemLoc.dma 22, SemLoc.dma 23, SemLoc.dma 24] : Fin 16 → SemLoc sig) j
theorem ownSemFacts0 : Pipeline.OwnSemFacts spec0 osem0 := by decide
/-- A cell's counter at zero. -/
abbrev sv (c : Dev nD) (j : DmaSem sig) : sProp 𝕄 := semVal ((c : Thread nD τ), SemLoc.dma j) 0
abbrev semsPt (c : Dev nD) : sProp 𝕄 :=
  iprop(sv c 9 ∗ sv c 10 ∗ sv c 11 ∗ sv c 12 ∗ sv c 13 ∗ sv c 14 ∗ sv c 15 ∗ sv c 16
    ∗ sv c 17 ∗ sv c 18 ∗ sv c 19 ∗ sv c 20 ∗ sv c 21 ∗ sv c 22 ∗ sv c 23 ∗ sv c 24)
theorem ownSems00_eq (c : Dev nD) :
    (Pipeline.ownSems0 (Ix := Unit) (Name := ℕ) (U := Pipeline.UD sig nD τ) (Lvl := ℕ) (Val := Elt F) (τ := τ) osem0 c : sProp 𝕄) = semsPt c := by
  rw [Pipeline.ownSems0_eq_of_list c osem0 [0, 1, 2, 3, 4, 5, 6, 7, 8, 9, 10, 11, 12, 13, 14, 15] (by decide) (by decide)]; rfl
/-- The HBM operands the body's transfers read. -/
def H0 : Finset (Ref sig .tc) := {main_v0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c hX (V m c main_v0) ∗ hbPt c hW (V m c main_arg2)) := by
  rw [BI.bigSep_eq_bigSepL_of_eq [main_v0, main_arg2] (by decide) (by decide)]; rfl

/-- Every scratch buffer whole at some contents. -/
abbrev scrPt (c : Dev nD) : sProp 𝕄 :=
  iprop((∃ f, hbPt (F := F) c mX f) ∗ (∃ f, hbPt (F := F) c mW f) ∗ (∃ f, hbPt (F := F) c mWs f) ∗ (∃ f, hbPt (F := F) c mBias f)
    ∗ (∃ f, hbPt (F := F) c mXs f) ∗ (∃ f, hbPt (F := F) c mM f) ∗ (∃ f, hbPt (F := F) c mS f) ∗ (∃ f, hbPt (F := F) c mG f)
    ∗ (∃ f, hbPt (F := F) c mBl f) ∗ (∃ f, hbPt (F := F) c mLse f) ∗ (∃ f, hbPt (F := F) c mE f) ∗ (∃ f, hbPt (F := F) c mEb f)
    ∗ (∃ f, hbPt (F := F) c mAcc f))

theorem PhiD0_eq (c : Dev nD) :
    (Pipeline.ΦD osem0 spec0 H0 (V m) c : sProp 𝕄)
      = iprop(scrPt c ∗ (∃ r, prngReg c r) ∗ semsPt c
          ∗ iprop(hbPt c hX (V m c main_v0) ∗ hbPt c hW (V m c main_arg2))) := by
  rw [Pipeline.ΦD_eq, scopedRest0_eq, ownSems00_eq, hbmPts0_eq]; try rfl

end Cert.KernelIdeal.Hand

end
-- ==== Proof.KernelIdeal.Cells.lean ====
/-
  What a group of eight rows of one chunk makes of the running maximum and the running sum, as functions of the contents before it;
  how the loads and stores of the group loops are read at an index.
-/
module

public import proofs.«01_k».proof.Proof.KernelIdeal.Base
public import Idealize.ShloMosaic.Lib.Pointwise
public import Idealize.ShloMosaic.Lib.WritesUnit
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- Column `128 q + l`. -/
abbrev col (q : Fin 4) (l : Fin 128) : Fin 512 := ⟨128 * q.val + l.val, by omega⟩

/-- The scaled entry of row `r` in lane `l` of the `q`-th tile of a chunk. -/
def uAt (acc : Vec F S256x512 .f32) (xs : Vec F S256x128 .f32) (w b : Vec F S1x512 .f32) (r : Fin 256) (l : Fin 128) (q : Fin 4) : F .f32 :=
  FloatOps.addf (FloatOps.mulf (FloatOps.mulf (acc (ix2 r (col q l))) (xs (ix2 r l))) (w (ix2 0 (col q l)))) (b (ix2 0 (col q l)))

/-- The running maximum after four more entries. -/
def mStep (m : F .f32) (u : Fin 4 → F .f32) : F .f32 :=
  FloatOps.maximumf (FloatOps.maximumf (FloatOps.maximumf (FloatOps.maximumf m (u 0)) (u 1)) (u 2)) (u 3)

/-- The running sum after four more entries. -/
def sStep (m s : F .f32) (u : Fin 4 → F .f32) : F .f32 :=
  FloatOps.addf (FloatOps.addf (FloatOps.addf (FloatOps.addf (FloatOps.mulf s (FloatOps.exp2 (FloatOps.subf m (mStep m u))))
    (FloatOps.exp2 (FloatOps.subf (u 0) (mStep m u)))) (FloatOps.exp2 (FloatOps.subf (u 1) (mStep m u))))
    (FloatOps.exp2 (FloatOps.subf (u 2) (mStep m u)))) (FloatOps.exp2 (FloatOps.subf (u 3) (mStep m u)))

/-- The maximum of the first four entries. -/
def mOne (u : Fin 4 → F .f32) : F .f32 :=
  FloatOps.maximumf (FloatOps.maximumf (FloatOps.maximumf (u 0) (u 1)) (u 2)) (u 3)

/-- The sum over the first four entries. -/
def sOne (u : Fin 4 → F .f32) : F .f32 :=
  FloatOps.addf (FloatOps.addf (FloatOps.addf (FloatOps.addf (Scalar.ofBits .f32 0x00000000#32)
    (FloatOps.exp2 (FloatOps.subf (u 0) (mOne u)))) (FloatOps.exp2 (FloatOps.subf (u 1) (mOne u))))
    (FloatOps.exp2 (FloatOps.subf (u 2) (mOne u)))) (FloatOps.exp2 (FloatOps.subf (u 3) (mOne u)))

/-- The first `k` groups of eight rows at `B`, the others at `A`. -/
def upTo (A B : Vec F S256x128 .f32) : ℕ → Vec F S256x128 .f32
  | 0 => A
  | k + 1 => fun y => if 8 * k ≤ (y 0).val ∧ (y 0).val < 8 * k + 8 then B y else upTo A B k y

theorem upTo_apply (A B : Vec F S256x128 .f32) (k : ℕ) (y : S256x128.Idx) : upTo A B k y = if (y 0).val < 8 * k then B y else A y := by
  induction k with
  | zero => simp [upTo]
  | succ k ih =>
    unfold upTo; rw [ih]
    by_cases h : (y 0).val < 8 * k
    · rw [if_neg (by omega), if_pos h, if_pos (by omega)]
    · by_cases h' : (y 0).val < 8 * k + 8
      · rw [if_pos (by omega), if_pos (by omega)]
      · rw [if_neg (by omega), if_neg h, if_neg (by omega)]

theorem upTo_all (A B : Vec F S256x128 .f32) : upTo A B 32 = B := by
  funext y
  have h : (y 0).val < 256 := (y 0).isLt
  rw [upTo_apply, if_pos (by omega)]

theorem upTo_old (A B : Vec F S256x128 .f32) (k : ℕ) (y : S256x128.Idx) (h : 8 * k ≤ (y 0).val) : upTo A B k y = A y := by
  rw [upTo_apply, if_neg (by omega)]

/-- The contents of the running maximum after one chunk over `gM`. -/
def mNew (acc : Vec F S256x512 .f32) (xs : Vec F S256x128 .f32) (w b : Vec F S1x512 .f32) (gM : Vec F S256x128 .f32) : Vec F S256x128 .f32 := fun y =>
  mStep (gM y) (uAt acc xs w b (y 0) (y 1))
/-- The contents of the running sum after one chunk over `gM`, `gS`. -/
def sNew (acc : Vec F S256x512 .f32) (xs : Vec F S256x128 .f32) (w b : Vec F S1x512 .f32) (gM gS : Vec F S256x128 .f32) : Vec F S256x128 .f32 := fun y =>
  sStep (gM y) (gS y) (uAt acc xs w b (y 0) (y 1))
/-- The contents of the running maximum after the first chunk. -/
def mFst (acc : Vec F S256x512 .f32) (xs : Vec F S256x128 .f32) (w b : Vec F S1x512 .f32) : Vec F S256x128 .f32 := fun y =>
  mOne (uAt acc xs w b (y 0) (y 1))
/-- The contents of the running sum after the first chunk. -/
def sFst (acc : Vec F S256x512 .f32) (xs : Vec F S256x128 .f32) (w b : Vec F S1x512 .f32) : Vec F S256x128 .f32 := fun y =>
  sOne (uAt acc xs w b (y 0) (y 1))

/-- A load of a unit-stride rectangle, at an index, is the buffer at the offsets plus the index. -/
theorem rd_unit {κ sp} {s : Shape} {e : EltTy} (v : View sig κ sp s e) {off size : Fin s.rank → ℕ} (off' : Fin s.rank → ℕ)
    (h : off = off') (inb : ∀ a, off a + size a ≤ s.size a) (f : v.ty.Contents (Elt F)) (j : (Rect.unit (s := s) off size inb).shape.Idx) (y : s.Idx)
    (hy : ∀ a, (y a).val = off' a + (j a).val) : v.readAt (Elt F) (Rect.unit (s := s) off size inb).toLoadRect f j = v.read (Elt F) f y := by
  subst h
  rw [View.readAt_apply]
  congr 1
  funext a
  apply Fin.ext
  rw [hy a]
  simp [LoadRect.idx, Rect.unit]

theorem sc8 (x : FVec F S8x128 .f32) (j : S8x128.Idx) : shapeCast S8x128 x shapeCasts_S8x128_S8x128 j = x j := by
  idx_vars j
  pointwise []

/-- The scaled entries of a group's `q`-th tile, as the group's loads give them. -/
theorem uVec (q : Fin 4) (k : ℕ) (hk : k < 32) {offA offX : Fin 2 → ℕ} (hA : offA = ![8 * k, 128 * q.val]) (hX : offX = ![8 * k, 0])
    (iA : ∀ a : Fin 2, offA a + S8x128.size a ≤ S256x512.size a) (iX : ∀ a : Fin 2, offX a + S8x128.size a ≤ S256x128.size a)
    (gacc : Vec F S256x512 .f32) (gxs : Vec F S256x128 .f32) (w b : Vec F S1x512 .f32) (o : Fin 2 → ℕ) (ho : o = ![0, 128 * q.val])
    (hs : Shape.Slices S1x512 o S1x128) (hb : Shape.Broadcasts S1x128 S8x128) (j : S8x128.Idx) (y : S256x128.Idx)
    (h0 : (y 0).val = 8 * k + (j 0).val) (h1 : (y 1).val = (j 1).val) :
    addf (mulf (mulf (View.readAt (Elt F) mAcc.view (Rect.unit (s := S256x512) offA S8x128.size iA).toLoadRect gacc)
        (View.readAt (Elt F) mXs.view (Rect.unit (s := S256x128) offX S8x128.size iX).toLoadRect gxs))
        (broadcastTo S8x128 (extractStridedSlice S1x128 o w hs) hb)) (broadcastTo S8x128 (extractStridedSlice S1x128 o b hs) hb) j
      = uAt gacc gxs w b (y 0) (y 1) q := by
  subst ho
  have e1 := rd_unit (F := F) mAcc.view _ hA iA gacc j (ix2 (y 0) (col q (y 1))) (by
    intro a; fin_cases a
    · exact h0
    · show 128 * q.val + (y 1).val = 128 * q.val + (j 1).val; rw [h1])
  have e2 := rd_unit (F := F) mXs.view _ hX iX gxs j (ix2 (y 0) (y 1)) (by
    intro a; fin_cases a
    · exact h0
    · show (y 1).val = 0 + (j 1).val; omega)
  have e3 : ∀ v : Vec F S1x512 .f32, broadcastTo S8x128 (extractStridedSlice S1x128 ![0, 128 * q.val] v hs) hb j = v (ix2 0 (col q (y 1))) := by
    intro v
    have e : y 1 = j 1 := Fin.ext h1
    rw [e]
    idx_vars j
    fin_cases q <;> pointwise [] <;> exact congrArg v (congrArg (ix2 0) (Fin.ext (by simp)))
  exact congrArg₂ FloatOps.addf (congrArg₂ FloatOps.mulf (congrArg₂ FloatOps.mulf e1 e2) (e3 w)) (e3 b)

/-- A store of eight whole rows moves `upTo` on by one group. -/
theorem upTo_store {κ sp} (v : View sig κ sp S256x128 .f32) {off : Fin 2 → ℕ} (k : ℕ) (h : off = ![8 * k, 0])
    (inb : ∀ a : Fin 2, off a + S8x128.size a ≤ S256x128.size a) (f : v.ty.Contents (Elt F)) (w : Vec F S8x128 .f32) (A B : Vec F S256x128 .f32)
    (hf : v.read (Elt F) f = upTo A B k)
    (hw : ∀ (j : S8x128.Idx) (y : S256x128.Idx), (y 0).val = 8 * k + (j 0).val → (y 1).val = (j 1).val → w j = B y) :
    v.read (Elt F) (v.writes (Elt F) f [(⟨Rect.unit (s := S256x128) off S8x128.size inb, w⟩ : View.Piece (Elt F) S256x128 .f32)]) = upTo A B (k + 1) := by
  funext y
  refine (View.read_writes_cons_rows (off := off) (size := S8x128.size) v f inb w [] y h (W := 8) rfl rfl).trans ?_
  unfold upTo
  split
  · rename_i hh
    exact hw _ y (by
      show (y 0).val = 8 * k + ((y 0).val - 8 * k)
      omega) (by
      show (y 1).val = (y 1).val - 0
      omega)
  · exact congrFun hf y

/-- A load of the group's own rows out of contents moved on by `k` groups is the contents before. -/
theorem upTo_load {κ sp} (v : View sig κ sp S256x128 .f32) {off : Fin 2 → ℕ} (k : ℕ) (h : off = ![8 * k, 0])
    (inb : ∀ a : Fin 2, off a + S8x128.size a ≤ S256x128.size a) (f : v.ty.Contents (Elt F)) (A B : Vec F S256x128 .f32)
    (hf : v.read (Elt F) f = upTo A B k) (j : S8x128.Idx) (y : S256x128.Idx) (h0 : (y 0).val = 8 * k + (j 0).val) (h1 : (y 1).val = (j 1).val) :
    v.readAt (Elt F) (Rect.unit (s := S256x128) off S8x128.size inb).toLoadRect f j = A y := by
  refine (rd_unit v _ h inb f j y ?_).trans ((congrFun hf y).trans (upTo_old A B k y (by omega)))
  intro a; fin_cases a
  · exact h0
  · show (y 1).val = 0 + (j 1).val; omega

theorem mStep_of {m m' a0 a1 a2 a3 : F .f32} {u : Fin 4 → F .f32} (hm : m = m') (h0 : a0 = u 0) (h1 : a1 = u 1) (h2 : a2 = u 2) (h3 : a3 = u 3) :
    FloatOps.maximumf (FloatOps.maximumf (FloatOps.maximumf (FloatOps.maximumf m a0) a1) a2) a3 = mStep m' u := by
  subst hm h0 h1 h2 h3; rfl
theorem sStep_of {m m' s s' a0 a1 a2 a3 M : F .f32} {u : Fin 4 → F .f32} (hm : m = m') (hs : s = s') (h0 : a0 = u 0) (h1 : a1 = u 1) (h2 : a2 = u 2) (h3 : a3 = u 3)
    (hM : M = mStep m' u) :
    FloatOps.addf (FloatOps.addf (FloatOps.addf (FloatOps.addf (FloatOps.mulf s (FloatOps.exp2 (FloatOps.subf m M)))
      (FloatOps.exp2 (FloatOps.subf a0 M))) (FloatOps.exp2 (FloatOps.subf a1 M)))
      (FloatOps.exp2 (FloatOps.subf a2 M))) (FloatOps.exp2 (FloatOps.subf a3 M)) = sStep m' s' u := by
  subst hm hs h0 h1 h2 h3 hM; rfl
theorem mOne_of {a0 a1 a2 a3 : F .f32} {u : Fin 4 → F .f32} (h0 : a0 = u 0) (h1 : a1 = u 1) (h2 : a2 = u 2) (h3 : a3 = u 3) :
    FloatOps.maximumf (FloatOps.maximumf (FloatOps.maximumf a0 a1) a2) a3 = mOne u := by
  subst h0 h1 h2 h3; rfl
theorem sOne_of {a0 a1 a2 a3 M : F .f32} {u : Fin 4 → F .f32} (h0 : a0 = u 0) (h1 : a1 = u 1) (h2 : a2 = u 2) (h3 : a3 = u 3)
    (hM : M = mOne u) :
    FloatOps.addf (FloatOps.addf (FloatOps.addf (FloatOps.addf (Scalar.ofBits .f32 0x00000000#32)
      (FloatOps.exp2 (FloatOps.subf a0 M))) (FloatOps.exp2 (FloatOps.subf a1 M)))
      (FloatOps.exp2 (FloatOps.subf a2 M))) (FloatOps.exp2 (FloatOps.subf a3 M)) = sOne u := by
  subst h0 h1 h2 h3 hM; rfl

end Cert.KernelIdeal.Hand

end
-- ==== Proof.KernelIdeal.Lse.lean ====
/-
  The logarithm of a sum of exponentials over extended reals, as it is taken in base two and in runs: the running maximum and the
  running sum of a lane, the joining of the lanes, and the change of base.
-/
module

public import proofs.«01_k».proof.Proof.KernelIdeal.Cells

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- `1 / log 2` and `log 2`, as extended reals. -/
abbrev eL : EReal := (((Real.log 2)⁻¹ : ℝ) : EReal)
abbrev eN : EReal := ((Real.log 2 : ℝ) : EReal)

theorem log2_pos : (0 : ℝ) < Real.log 2 := Real.log_pos (by norm_num)
theorem eL_nonneg : (0 : EReal) ≤ eL := EReal.coe_nonneg.mpr (inv_pos.mpr log2_pos).le
theorem eL_ne_top : eL ≠ ⊤ := EReal.coe_ne_top _
theorem eL_eN : eL * eN = 1 := by
  rw [← EReal.coe_mul, inv_mul_cancel₀ log2_pos.ne']; rfl

theorem add_eL (a b : EReal) : (a + b) * eL = a * eL + b * eL := by
  rw [mul_comm, EReal.left_distrib_of_nonneg_of_ne_top eL_nonneg eL_ne_top, mul_comm eL a, mul_comm eL b]
theorem sub_eL (a b : EReal) : a * eL - b * eL = (a - b) * eL := by
  rw [sub_eq_add_neg, sub_eq_add_neg, add_eL, EReal.neg_mul]
theorem mul_eL_eN (a : EReal) : a * eL * eN = a := by rw [mul_assoc, eL_eN, mul_one]

/-- Powers of two of a multiple of `1 / log 2` are exponentials. -/
theorem exp2_eL (a : EReal) : Ideal.exp2 (a * eL) = Ideal.exp a := by
  induction a using EReal.rec with
  | bot => rw [EReal.bot_mul_coe_of_pos (inv_pos.mpr log2_pos)]; rfl
  | top => rw [EReal.top_mul_coe_of_pos (inv_pos.mpr log2_pos)]; rfl
  | coe r =>
    rw [← EReal.coe_mul, Ideal.exp2_coe, Ideal.exp_coe]
    congr 1
    show (2 : ℝ) ^ (r * (Real.log 2)⁻¹) = Real.exp r
    rw [Real.rpow_def_of_pos (by norm_num), mul_comm r, mul_inv_cancel_left₀ log2_pos.ne']

theorem exp2_nonneg (a : EReal) : 0 ≤ Ideal.exp2 a := by
  induction a using EReal.rec with
  | bot => exact le_refl _
  | top => exact le_top
  | coe r => rw [Ideal.exp2_coe]; exact_mod_cast (Real.rpow_pos_of_pos (by norm_num : (0:ℝ) < 2) r).le

/-- A power of two relative to one bound, brought to a larger one. -/
theorem exp2_rescale (u m m' : EReal) (h : u ≤ m) (h' : m ≤ m') : Ideal.exp2 (u - m) * Ideal.exp2 (m - m') = Ideal.exp2 (u - m') := by
  induction m' using EReal.rec with
  | bot =>
    obtain rfl : m = ⊥ := le_bot_iff.mp h'
    obtain rfl : u = ⊥ := le_bot_iff.mp h
    simp
  | top => simp
  | coe r' =>
    induction m using EReal.rec with
    | bot =>
      obtain rfl : u = ⊥ := le_bot_iff.mp h
      simp
    | top => exact absurd h' (by simp)
    | coe r =>
      induction u using EReal.rec with
      | bot => simp
      | top => exact absurd h (by simp)
      | coe x =>
        rw [← EReal.coe_sub, ← EReal.coe_sub, ← EReal.coe_sub, Ideal.exp2_coe, Ideal.exp2_coe, Ideal.exp2_coe, ← EReal.coe_mul]
        congr 1
        show (2 : ℝ) ^ (x - r) * (2 : ℝ) ^ (r - r') = (2 : ℝ) ^ (x - r')
        rw [← Real.rpow_add (by norm_num)]; congr 1; ring

theorem sum_mul_nonneg {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

theorem sum_rescale {ι : Type} (s : Finset ι) (u : ι → EReal) (m m' : EReal) (h : ∀ i ∈ s, u i ≤ m) (h' : m ≤ m') :
    (∑ i ∈ s, Ideal.exp2 (u i - m)) * Ideal.exp2 (m - m') = ∑ i ∈ s, Ideal.exp2 (u i - m') := by
  rw [sum_mul_nonneg s _ (fun i => exp2_nonneg _)]
  exact Finset.sum_congr rfl fun i hi => exp2_rescale _ _ _ (h i hi) h'

/-- The entries of a lane in the first `k + 1` chunks. -/
abbrev upd (k : ℕ) : Finset (ℕ × Fin 4) := Finset.range (k + 1) ×ˢ Finset.univ

theorem upd_sup (u : ℕ → Fin 4 → EReal) (k : ℕ) : (upd (k + 1)).sup (fun p => u p.1 p.2)
    = mStep (F := Ideal) ((upd k).sup fun p => u p.1 p.2) (u (k + 1)) := by
  simp only [Finset.sup_product_left, Finset.range_add_one (n := k + 1), Finset.sup_insert]
  have e : Finset.univ.sup (u (k + 1)) = max (max (max (u (k + 1) 0) (u (k + 1) 1)) (u (k + 1) 2)) (u (k + 1) 3) := by
    simp [Fin.univ_succ, Finset.sup_insert, sup_assoc]
  rw [show (Finset.univ.sup fun a => u (k + 1) a) = Finset.univ.sup (u (k + 1)) from rfl, e, sup_comm]
  simp only [mStep, Ideal.maximumf_def, sup_assoc]
theorem one_sup (u : ℕ → Fin 4 → EReal) : (upd 0).sup (fun p => u p.1 p.2) = mOne (F := Ideal) (u 0) := by
  simp only [Finset.sup_product_left]
  simp [Fin.univ_succ, Finset.sup_insert, sup_assoc, mOne]

/-- The running sum is kept relative to the running maximum. -/
theorem upd_sum (u : ℕ → Fin 4 → EReal) (k : ℕ) : (∑ p ∈ upd (k + 1), Ideal.exp2 (u p.1 p.2 - (upd (k + 1)).sup fun p => u p.1 p.2))
    = sStep (F := Ideal) ((upd k).sup fun p => u p.1 p.2) (∑ p ∈ upd k, Ideal.exp2 (u p.1 p.2 - (upd k).sup fun p => u p.1 p.2)) (u (k + 1)) := by
  unfold sStep
  have e2 : ∀ x : Ideal .f32, FloatOps.exp2 x = Ideal.exp2 x := fun _ => rfl
  simp only [Ideal.addf_def, Ideal.mulf_def, Ideal.subf_def, e2]
  rw [← upd_sup, sum_rescale (upd k) (fun p => u p.1 p.2) _ _ (fun i hi => Finset.le_sup (f := fun p : ℕ × Fin 4 => u p.1 p.2) hi)
    (Finset.sup_mono (Finset.product_subset_product_left (Finset.range_mono (by omega))))]
  generalize (upd (k + 1)).sup (fun p => u p.1 p.2) = M
  rw [Finset.sum_product, Finset.sum_range_succ, Finset.sum_product, Fin.sum_univ_four]
  simp only [add_assoc]
theorem one_sum (u : ℕ → Fin 4 → EReal) : (∑ p ∈ upd 0, Ideal.exp2 (u p.1 p.2 - (upd 0).sup fun p => u p.1 p.2)) = sOne (F := Ideal) (u 0) := by
  unfold sOne
  rw [← one_sup]
  generalize (upd 0).sup (fun p => u p.1 p.2) = M
  rw [Finset.sum_product, Finset.sum_range_one, Fin.sum_univ_four]
  have h0 : Scalar.ofBits (F := Ideal) .f32 0x00000000#32 = (0 : EReal) := by simp
  rw [h0, Ideal.addf_def, Ideal.addf_def, Ideal.addf_def, Ideal.addf_def, zero_add]
  rfl

/-- The suprema and the sums of a change of base. -/
theorem sup_eL {ι : Type} (s : Finset ι) (y : ι → EReal) : s.sup (fun i => y i * eL) = s.sup y * eL := by
  refine (Finset.comp_sup_eq_sup_comp_of_is_total (fun a => a * eL) ?_ ?_).symm
  · exact fun a b h => mul_le_mul_of_nonneg_right h eL_nonneg
  · exact EReal.bot_mul_coe_of_pos (inv_pos.mpr log2_pos)

/-- The change of base: the base-two logarithm of the sum, taken back, is the natural one. -/
theorem lse_eL {ι : Type} (s : Finset ι) (y : ι → EReal) :
    ((s.sup fun i => y i * eL) + Ideal.log (∑ i ∈ s, Ideal.exp2 (y i * eL - s.sup fun i => y i * eL)) * eL) * eN
      = Ideal.log (∑ i ∈ s, Ideal.exp (y i - s.sup y)) + s.sup y := by
  rw [sup_eL, ← add_eL, mul_eL_eN, add_comm]
  simp only [sub_eL, exp2_eL]

end Cert.KernelIdeal.Hand

end
-- ==== Proof.KernelIdeal.Groups.lean ====
/-
  The group loops of one chunk, with what they leave: after `k` groups the first `8 k` rows of the running maximum and of the running
  sum are the chunk's, the others as before.
-/
module

public import proofs.«01_k».proof.Proof.KernelIdeal.Cells

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def vloop1 (gxs : Vec F S256x128 .f32) (gacc : Vec F S256x512 .f32) (gM gS : Vec F S256x128 .f32) (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) (v533 : Vec F S1x512 .f32) (v534 : Vec F S1x512 .f32) :
    LoopInvTy_k0_t1 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 v533 v534 where
  inv k _ := iprop(hbPt (F := F) c mXs gxs ∗ hbPt (F := F) c mAcc gacc
    ∗ (∃ f, hbPt (F := F) c mM f ∗ ⌜f = upTo gM (mFst gacc gxs v533 v534) k⌝)
    ∗ (∃ f, hbPt (F := F) c mS f ∗ ⌜f = upTo gS (sFst gacc gxs v533 v534) k⌝)
    ∗ (∃ f, hbPt (F := F) c mG f) ∗ (∃ f, hbPt (F := F) c mBl f))
  step k acc := by
    have hk := Nat.lt_of_lt_of_le k.isLt k0_t1_abs.2.1
    unfold k0_t1_body
    iintro ⟨H1, H2, ⟨%f3, H3, %e3⟩, ⟨%f4, H4, %e4⟩, ⟨%f5, H5⟩, ⟨%f6, H6⟩⟩
    sl_exec
    sl_step
    isplitl [H1]; · iexact H1
    isplitl [H2]; · iexact H2
    isplitl [H3]
    · iexists _; isplitl [H3]; · iexact H3
      ipureintro
      refine upTo_store mM.view k (k0_off1_eq k) (k0_off1_inb k) f3 _ gM _ e3 fun j y h0 h1 => ?_
      unfold_payloads
      refine (sc8 _ _).trans ?_
      exact mOne_of
        (uVec 0 k hk (k0_off2_eq k) (k0_off1_eq k) (k0_off2_inb k) (k0_off1_inb k) gacc gxs v533 v534 _ rfl _ _ j y h0 h1)
        (uVec 1 k hk (k0_off3_eq k) (k0_off1_eq k) (k0_off3_inb k) (k0_off1_inb k) gacc gxs v533 v534 _ rfl _ _ j y h0 h1)
        (uVec 2 k hk (k0_off4_eq k) (k0_off1_eq k) (k0_off4_inb k) (k0_off1_inb k) gacc gxs v533 v534 _ rfl _ _ j y h0 h1)
        (uVec 3 k hk (k0_off5_eq k) (k0_off1_eq k) (k0_off5_inb k) (k0_off1_inb k) gacc gxs v533 v534 _ rfl _ _ j y h0 h1)
    isplitl [H4]
    · iexists _; isplitl [H4]; · iexact H4
      ipureintro
      refine upTo_store mS.view k (k0_off1_eq k) (k0_off1_inb k) f4 _ gS _ e4 fun j y h0 h1 => ?_
      unfold_payloads
      refine (sc8 _ _).trans ?_
      have e0 := uVec 0 k hk (k0_off2_eq k) (k0_off1_eq k) (k0_off2_inb k) (k0_off1_inb k) gacc gxs v533 v534 _ rfl slices_S1x512_o0_0_S1x128 broadcasts_S1x128_S8x128 j y h0 h1
      have e1 := uVec 1 k hk (k0_off3_eq k) (k0_off1_eq k) (k0_off3_inb k) (k0_off1_inb k) gacc gxs v533 v534 _ rfl slices_S1x512_o0_128_S1x128 broadcasts_S1x128_S8x128 j y h0 h1
      have e2 := uVec 2 k hk (k0_off4_eq k) (k0_off1_eq k) (k0_off4_inb k) (k0_off1_inb k) gacc gxs v533 v534 _ rfl slices_S1x512_o0_256_S1x128 broadcasts_S1x128_S8x128 j y h0 h1
      have e3 := uVec 3 k hk (k0_off5_eq k) (k0_off1_eq k) (k0_off5_inb k) (k0_off1_inb k) gacc gxs v533 v534 _ rfl slices_S1x512_o0_384_S1x128 broadcasts_S1x128_S8x128 j y h0 h1
      exact sOne_of e0 e1 e2 e3 (mOne_of e0 e1 e2 e3)
    isplitl [H5]; · iexists _; iexact H5
    iexists _; iexact H6

set_option warn.classDefReducibility false in
@[sl_loop] def vloop3 (gxs : Vec F S256x128 .f32) (gacc : Vec F S256x512 .f32) (gM gS : Vec F S256x128 .f32) (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) (k0_t2 : Fin k0_t2_loop.trips) (arg26 : BitVec 32) (v1659 : Vec F S1x512 .f32) (v1661 : Vec F S1x512 .f32) :
    LoopInvTy_k0_t3 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 k0_t2 arg26 v1659 v1661 where
  inv k _ := iprop(hbPt (F := F) c mXs gxs ∗ hbPt (F := F) c mAcc gacc
    ∗ (∃ f, hbPt (F := F) c mM f ∗ ⌜f = upTo gM (mNew gacc gxs v1659 v1661 gM) k⌝)
    ∗ (∃ f, hbPt (F := F) c mS f ∗ ⌜f = upTo gS (sNew gacc gxs v1659 v1661 gM gS) k⌝)
    ∗ (∃ f, hbPt (F := F) c mG f))
  step k acc := by
    have hk := Nat.lt_of_lt_of_le k.isLt k0_t3_abs.2.1
    unfold k0_t3_body
    iintro ⟨H1, H2, ⟨%f3, H3, %e3⟩, ⟨%f4, H4, %e4⟩, ⟨%f5, H5⟩⟩
    sl_exec
    sl_step
    isplitl [H1]; · iexact H1
    isplitl [H2]; · iexact H2
    isplitl [H3]
    · iexists _; isplitl [H3]; · iexact H3
      ipureintro
      refine upTo_store mM.view k (k0_off10_eq k) (k0_off10_inb k) f3 _ gM _ e3 fun j y h0 h1 => ?_
      unfold_payloads
      refine (sc8 _ _).trans ?_
      exact mStep_of (upTo_load mM.view k (k0_off10_eq k) (k0_off10_inb k) f3 gM _ e3 j y h0 h1)
        (uVec 0 k hk (k0_off11_eq k) (k0_off10_eq k) (k0_off11_inb k) (k0_off10_inb k) gacc gxs v1659 v1661 _ rfl _ _ j y h0 h1)
        (uVec 1 k hk (k0_off12_eq k) (k0_off10_eq k) (k0_off12_inb k) (k0_off10_inb k) gacc gxs v1659 v1661 _ rfl _ _ j y h0 h1)
        (uVec 2 k hk (k0_off13_eq k) (k0_off10_eq k) (k0_off13_inb k) (k0_off10_inb k) gacc gxs v1659 v1661 _ rfl _ _ j y h0 h1)
        (uVec 3 k hk (k0_off14_eq k) (k0_off10_eq k) (k0_off14_inb k) (k0_off10_inb k) gacc gxs v1659 v1661 _ rfl _ _ j y h0 h1)
    isplitl [H4]
    · iexists _; isplitl [H4]; · iexact H4
      ipureintro
      refine upTo_store mS.view k (k0_off10_eq k) (k0_off10_inb k) f4 _ gS _ e4 fun j y h0 h1 => ?_
      unfold_payloads
      refine (sc8 _ _).trans ?_
      have eM := upTo_load mM.view k (k0_off10_eq k) (k0_off10_inb k) f3 gM _ e3 j y h0 h1
      have e0 := uVec 0 k hk (k0_off11_eq k) (k0_off10_eq k) (k0_off11_inb k) (k0_off10_inb k) gacc gxs v1659 v1661 _ rfl slices_S1x512_o0_0_S1x128 broadcasts_S1x128_S8x128 j y h0 h1
      have e1 := uVec 1 k hk (k0_off12_eq k) (k0_off10_eq k) (k0_off12_inb k) (k0_off10_inb k) gacc gxs v1659 v1661 _ rfl slices_S1x512_o0_128_S1x128 broadcasts_S1x128_S8x128 j y h0 h1
      have e2 := uVec 2 k hk (k0_off13_eq k) (k0_off10_eq k) (k0_off13_inb k) (k0_off10_inb k) gacc gxs v1659 v1661 _ rfl slices_S1x512_o0_256_S1x128 broadcasts_S1x128_S8x128 j y h0 h1
      have e3 := uVec 3 k hk (k0_off14_eq k) (k0_off10_eq k) (k0_off14_inb k) (k0_off10_inb k) gacc gxs v1659 v1661 _ rfl slices_S1x512_o0_384_S1x128 broadcasts_S1x128_S8x128 j y h0 h1
      exact sStep_of eM (upTo_load mS.view k (k0_off10_eq k) (k0_off10_inb k) f4 gS _ e4 j y h0 h1) e0 e1 e2 e3 (mStep_of eM e0 e1 e2 e3)
    iexists _; iexact H5

end

end Cert.KernelIdeal.Hand

end
-- ==== Proof.KernelIdeal.Groups5.lean ====
/-
  The group loops of one chunk of a later row block, with what they leave: after `k` groups the first `8 k` rows of the running maximum and of the running
  sum are the chunk's, the others as before.
-/
module

public import proofs.«01_k».proof.Proof.KernelIdeal.Cells

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def vloop6 (gxs : Vec F S256x128 .f32) (gacc : Vec F S256x512 .f32) (gM gS : Vec F S256x128 .f32) (v121 : IVec S8x128 32) (v137 : IVec S8x128 32) (v175 : IVec S8x128 32) (v191 : IVec S8x128 32) (v217 : IVec S8x128 32) (v259 : IVec S8x128 32) (k0_t5 : Fin k0_t5_loop.trips) (arg28 : FVec F S8x128 .f32) (arg26 : BitVec 32) (v1678 : Vec F S256x2560 .fp8e4m3) (v1679 : Vec F S2560x512 .fp8e4m3) (cst_616 : FVec F S256x512 .f32) (v1684 : Vec F S1x512 .f32) (v1685 : Vec F S1x512 .f32) :
    LoopInvTy_k0_t6 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v259 k0_t5 arg28 arg26 v1678 v1679 cst_616 v1684 v1685 where
  inv k _ := iprop(hbPt (F := F) c mXs gxs ∗ hbPt (F := F) c mAcc gacc
    ∗ (∃ f, hbPt (F := F) c mM f ∗ ⌜f = upTo gM (mFst gacc gxs v1684 v1685) k⌝)
    ∗ (∃ f, hbPt (F := F) c mS f ∗ ⌜f = upTo gS (sFst gacc gxs v1684 v1685) k⌝)
    ∗ (∃ f, hbPt (F := F) c mG f) ∗ (∃ f, hbPt (F := F) c mBl f))
  step k acc := by
    have hk := Nat.lt_of_lt_of_le k.isLt k0_t6_abs.2.1
    unfold k0_t6_body
    iintro ⟨H1, H2, ⟨%f3, H3, %e3⟩, ⟨%f4, H4, %e4⟩, ⟨%f5, H5⟩, ⟨%f6, H6⟩⟩
    sl_exec
    sl_step
    isplitl [H1]; · iexact H1
    isplitl [H2]; · iexact H2
    isplitl [H3]
    · iexists _; isplitl [H3]; · iexact H3
      ipureintro
      refine upTo_store mM.view k (k0_off21_eq k) (k0_off21_inb k) f3 _ gM _ e3 fun j y h0 h1 => ?_
      unfold_payloads
      refine (sc8 _ _).trans ?_
      exact mOne_of
        (uVec 0 k hk (k0_off22_eq k) (k0_off21_eq k) (k0_off22_inb k) (k0_off21_inb k) gacc gxs v1684 v1685 _ rfl _ _ j y h0 h1)
        (uVec 1 k hk (k0_off23_eq k) (k0_off21_eq k) (k0_off23_inb k) (k0_off21_inb k) gacc gxs v1684 v1685 _ rfl _ _ j y h0 h1)
        (uVec 2 k hk (k0_off24_eq k) (k0_off21_eq k) (k0_off24_inb k) (k0_off21_inb k) gacc gxs v1684 v1685 _ rfl _ _ j y h0 h1)
        (uVec 3 k hk (k0_off25_eq k) (k0_off21_eq k) (k0_off25_inb k) (k0_off21_inb k) gacc gxs v1684 v1685 _ rfl _ _ j y h0 h1)
    isplitl [H4]
    · iexists _; isplitl [H4]; · iexact H4
      ipureintro
      refine upTo_store mS.view k (k0_off21_eq k) (k0_off21_inb k) f4 _ gS _ e4 fun j y h0 h1 => ?_
      unfold_payloads
      refine (sc8 _ _).trans ?_
      have e0 := uVec 0 k hk (k0_off22_eq k) (k0_off21_eq k) (k0_off22_inb k) (k0_off21_inb k) gacc gxs v1684 v1685 _ rfl slices_S1x512_o0_0_S1x128 broadcasts_S1x128_S8x128 j y h0 h1
      have e1 := uVec 1 k hk (k0_off23_eq k) (k0_off21_eq k) (k0_off23_inb k) (k0_off21_inb k) gacc gxs v1684 v1685 _ rfl slices_S1x512_o0_128_S1x128 broadcasts_S1x128_S8x128 j y h0 h1
      have e2 := uVec 2 k hk (k0_off24_eq k) (k0_off21_eq k) (k0_off24_inb k) (k0_off21_inb k) gacc gxs v1684 v1685 _ rfl slices_S1x512_o0_256_S1x128 broadcasts_S1x128_S8x128 j y h0 h1
      have e3 := uVec 3 k hk (k0_off25_eq k) (k0_off21_eq k) (k0_off25_inb k) (k0_off21_inb k) gacc gxs v1684 v1685 _ rfl slices_S1x512_o0_384_S1x128 broadcasts_S1x128_S8x128 j y h0 h1
      exact sOne_of e0 e1 e2 e3 (mOne_of e0 e1 e2 e3)
    isplitl [H5]; · iexists _; iexact H5
    iexists _; iexact H6

set_option warn.classDefReducibility false in
@[sl_loop] def vloop8 (gxs : Vec F S256x128 .f32) (gacc : Vec F S256x512 .f32) (gM gS : Vec F S256x128 .f32) (v121 : IVec S8x128 32) (v137 : IVec S8x128 32) (v175 : IVec S8x128 32) (v191 : IVec S8x128 32) (v217 : IVec S8x128 32) (v259 : IVec S8x128 32) (k0_t5 : Fin k0_t5_loop.trips) (arg28 : FVec F S8x128 .f32) (arg26 : BitVec 32) (v1678 : Vec F S256x2560 .fp8e4m3) (v1679 : Vec F S2560x512 .fp8e4m3) (cst_616 : FVec F S256x512 .f32) (k0_t7 : Fin k0_t7_loop.trips) (arg33 : BitVec 32) (v2319 : Vec F S1x512 .f32) (v2321 : Vec F S1x512 .f32) :
    LoopInvTy_k0_t8 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v259 k0_t5 arg28 arg26 v1678 v1679 cst_616 k0_t7 arg33 v2319 v2321 where
  inv k _ := iprop(hbPt (F := F) c mXs gxs ∗ hbPt (F := F) c mAcc gacc
    ∗ (∃ f, hbPt (F := F) c mM f ∗ ⌜f = upTo gM (mNew gacc gxs v2319 v2321 gM) k⌝)
    ∗ (∃ f, hbPt (F := F) c mS f ∗ ⌜f = upTo gS (sNew gacc gxs v2319 v2321 gM gS) k⌝)
    ∗ (∃ f, hbPt (F := F) c mG f))
  step k acc := by
    have hk := Nat.lt_of_lt_of_le k.isLt k0_t8_abs.2.1
    unfold k0_t8_body
    iintro ⟨H1, H2, ⟨%f3, H3, %e3⟩, ⟨%f4, H4, %e4⟩, ⟨%f5, H5⟩⟩
    sl_exec
    sl_step
    isplitl [H1]; · iexact H1
    isplitl [H2]; · iexact H2
    isplitl [H3]
    · iexists _; isplitl [H3]; · iexact H3
      ipureintro
      refine upTo_store mM.view k (k0_off29_eq k) (k0_off29_inb k) f3 _ gM _ e3 fun j y h0 h1 => ?_
      unfold_payloads
      refine (sc8 _ _).trans ?_
      exact mStep_of (upTo_load mM.view k (k0_off29_eq k) (k0_off29_inb k) f3 gM _ e3 j y h0 h1)
        (uVec 0 k hk (k0_off30_eq k) (k0_off29_eq k) (k0_off30_inb k) (k0_off29_inb k) gacc gxs v2319 v2321 _ rfl _ _ j y h0 h1)
        (uVec 1 k hk (k0_off31_eq k) (k0_off29_eq k) (k0_off31_inb k) (k0_off29_inb k) gacc gxs v2319 v2321 _ rfl _ _ j y h0 h1)
        (uVec 2 k hk (k0_off32_eq k) (k0_off29_eq k) (k0_off32_inb k) (k0_off29_inb k) gacc gxs v2319 v2321 _ rfl _ _ j y h0 h1)
        (uVec 3 k hk (k0_off33_eq k) (k0_off29_eq k) (k0_off33_inb k) (k0_off29_inb k) gacc gxs v2319 v2321 _ rfl _ _ j y h0 h1)
    isplitl [H4]
    · iexists _; isplitl [H4]; · iexact H4
      ipureintro
      refine upTo_store mS.view k (k0_off29_eq k) (k0_off29_inb k) f4 _ gS _ e4 fun j y h0 h1 => ?_
      unfold_payloads
      refine (sc8 _ _).trans ?_
      have eM := upTo_load mM.view k (k0_off29_eq k) (k0_off29_inb k) f3 gM _ e3 j y h0 h1
      have e0 := uVec 0 k hk (k0_off30_eq k) (k0_off29_eq k) (k0_off30_inb k) (k0_off29_inb k) gacc gxs v2319 v2321 _ rfl slices_S1x512_o0_0_S1x128 broadcasts_S1x128_S8x128 j y h0 h1
      have e1 := uVec 1 k hk (k0_off31_eq k) (k0_off29_eq k) (k0_off31_inb k) (k0_off29_inb k) gacc gxs v2319 v2321 _ rfl slices_S1x512_o0_128_S1x128 broadcasts_S1x128_S8x128 j y h0 h1
      have e2 := uVec 2 k hk (k0_off32_eq k) (k0_off29_eq k) (k0_off32_inb k) (k0_off29_inb k) gacc gxs v2319 v2321 _ rfl slices_S1x512_o0_256_S1x128 broadcasts_S1x128_S8x128 j y h0 h1
      have e3 := uVec 3 k hk (k0_off33_eq k) (k0_off29_eq k) (k0_off33_inb k) (k0_off29_inb k) gacc gxs v2319 v2321 _ rfl slices_S1x512_o0_384_S1x128 broadcasts_S1x128_S8x128 j y h0 h1
      exact sStep_of eM (upTo_load mS.view k (k0_off29_eq k) (k0_off29_inb k) f4 gS _ e4 j y h0 h1) e0 e1 e2 e3 (mStep_of eM e0 e1 e2 e3)
    iexists _; iexact H5

end

end Cert.KernelIdeal.Hand

end
-- ==== Proof.KernelIdeal.Blocks.lean ====
/-
  The two matrices cut into the blocks the transfers move: the right one by columns, the left one by rows. A buffer held
  whole is the conjunction of its blocks, at one contents.
-/
module

public import proofs.«01_k».proof.Proof.KernelIdeal.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- The column blocks of the right matrix and the row blocks of the left one. -/
abbrev wOff (b : Fin 8) : Fin 2 → ℕ := ![0, 512 * b.val]
abbrev xOff (b : Fin 8) : Fin 2 → ℕ := ![256 * b.val, 0]
theorem wOff_inb (b : Fin 8) : ∀ a, wOff b a + S2560x512.size a ≤ S2560x4096.size a := by
  intro a; fin_cases a <;> simp [wOff, S2560x512, S2560x4096, Shape.ofList] <;> omega
theorem xOff_inb (b : Fin 8) : ∀ a, xOff b a + S256x2560.size a ≤ S2048x2560.size a := by
  intro a; fin_cases a <;> simp [xOff, S256x2560, S2048x2560] <;> omega
abbrev wRect (b : Fin 8) : Rect S2560x4096 := Rect.unit (s := S2560x4096) (wOff b) S2560x512.size (wOff_inb b)
abbrev xRect (b : Fin 8) : Rect S2048x2560 := Rect.unit (s := S2048x2560) (xOff b) S256x2560.size (xOff_inb b)
abbrev wB (b : Fin 8) : Memref sig .tc .vmem S2560x512 .fp8e4m3 := mW.slice (wRect b) (fun _ => rfl)
abbrev whB (b : Fin 8) : Memref sig .tc .hbm S2560x512 .fp8e4m3 := hW.slice (wRect b) (fun _ => rfl)
abbrev xB (b : Fin 8) : Memref sig .tc .vmem S256x2560 .fp8e4m3 := mX.slice (xRect b) (fun _ => rfl)
abbrev xhB (b : Fin 8) : Memref sig .tc .hbm S256x2560 .fp8e4m3 := hX.slice (xRect b) (fun _ => rfl)

theorem wRect_disjoint (b b' : Fin 8) (h : b ≠ b') : Disjoint (wRect b).set (wRect b').set :=
  Ring.lead_disjoint (s := S2560x4096) (1 : Fin 2) 512 wOff S2560x512.size wOff_inb (fun b => rfl) rfl b b' h
theorem xRect_disjoint (b b' : Fin 8) (h : b ≠ b') : Disjoint (xRect b).set (xRect b').set :=
  Ring.lead_disjoint (s := S2048x2560) (0 : Fin 2) 256 xOff S256x2560.size xOff_inb (fun b => rfl) rfl b b' h
theorem wRect_cover : Finset.univ.biUnion (fun b => (wRect b).set) = Finset.univ :=
  Ring.lead_cover (s := S2560x4096) (1 : Fin 2) 512 wOff S2560x512.size wOff_inb (fun b => rfl)
    (fun b a h => by fin_cases a <;> [rfl; exact absurd rfl h]) rfl (fun a h => by fin_cases a <;> [rfl; exact absurd rfl h]) rfl
theorem xRect_cover : Finset.univ.biUnion (fun b => (xRect b).set) = Finset.univ :=
  Ring.lead_cover (s := S2048x2560) (0 : Fin 2) 256 xOff S256x2560.size xOff_inb (fun b => rfl)
    (fun b a h => by fin_cases a <;> [exact absurd rfl h; rfl]) rfl (fun a h => by fin_cases a <;> [exact absurd rfl h; rfl]) rfl

/-- A matrix held whole is its eight blocks. -/
theorem w_blocks (c : Dev nD) (f : HbBuf (F := F) c mW) :
    (hbPt c mW f : sProp 𝕄) = bigSep Finset.univ fun b => pt (F := F) c (wB b) f := by
  refine (Ring.pointsTo_blocks (ℓ := (c : Thread nD τ).loc cc0_scratch1) (fun b => (wRect b).set) wRect_disjoint wRect_cover f).trans ?_
  refine congrArg (bigSep Finset.univ) (funext fun b => ?_)
  change _ = ((c : Thread nD τ).loc cc0_scratch1 ↦[((View.whole cc0_scratch1).slice (wRect b)).set]{fullShare} f : sProp 𝕄)
  rw [View.set_slice_whole]
theorem wh_blocks (c : Dev nD) (f : HbBuf (F := F) c hW) :
    (hbPt c hW f : sProp 𝕄) = bigSep Finset.univ fun b => pt (F := F) c (whB b) f := by
  refine (Ring.pointsTo_blocks (ℓ := (c : Thread nD τ).loc main_arg2) (fun b => (wRect b).set) wRect_disjoint wRect_cover f).trans ?_
  refine congrArg (bigSep Finset.univ) (funext fun b => ?_)
  change _ = ((c : Thread nD τ).loc main_arg2 ↦[((View.whole main_arg2).slice (wRect b)).set]{fullShare} f : sProp 𝕄)
  rw [View.set_slice_whole]
theorem x_blocks (c : Dev nD) (f : HbBuf (F := F) c mX) :
    (hbPt c mX f : sProp 𝕄) = bigSep Finset.univ fun b => pt (F := F) c (xB b) f := by
  refine (Ring.pointsTo_blocks (ℓ := (c : Thread nD τ).loc cc0_scratch0) (fun b => (xRect b).set) xRect_disjoint xRect_cover f).trans ?_
  refine congrArg (bigSep Finset.univ) (funext fun b => ?_)
  change _ = ((c : Thread nD τ).loc cc0_scratch0 ↦[((View.whole cc0_scratch0).slice (xRect b)).set]{fullShare} f : sProp 𝕄)
  rw [View.set_slice_whole]
theorem xh_blocks (c : Dev nD) (f : HbBuf (F := F) c hX) :
    (hbPt c hX f : sProp 𝕄) = bigSep Finset.univ fun b => pt (F := F) c (xhB b) f := by
  refine (Ring.pointsTo_blocks (ℓ := (c : Thread nD τ).loc main_v0) (fun b => (xRect b).set) xRect_disjoint xRect_cover f).trans ?_
  refine congrArg (bigSep Finset.univ) (funext fun b => ?_)
  change _ = ((c : Thread nD τ).loc main_v0 ↦[((View.whole main_v0).slice (xRect b)).set]{fullShare} f : sProp 𝕄)
  rw [View.set_slice_whole]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

end Cert.KernelIdeal.Hand

end
-- ==== Proof.KernelIdeal.Flights.lean ====
/-
  The transfers of the two matrices. A transfer in flight delivers its block of the scratch buffer at the matrix's own values, and
  the block it was read from; the blocks from `k` on are in flight and those before it have landed.
-/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- The matrix in HBM, as contents of the scratch buffer of its shape. -/
abbrev toW {c : Dev nD} (f : HbBuf (F := F) c hW) : HbBuf (F := F) c mW := fun i => f i
abbrev toX {c : Dev nD} (f : HbBuf (F := F) c hX) : HbBuf (F := F) c mX := fun i => f i

/-- Writing through a view what it reads of `f` leaves `f` on its elements. -/
theorem landed {κ : Kind} {sp : Space} {S : Shape} {e : EltTy} (v : View sig κ sp S e) (f g : v.ty.Contents (Elt F)) :
    ∀ i ∈ v.set, v.writes (Elt F) g [⟨Rect.whole S, v.read (Elt F) f⟩] i = f i := by
  intro i hi
  obtain ⟨y, -, rfl⟩ := Finset.mem_map.mp hi
  have h := congrFun (View.read_writes_whole v g (v.read (Elt F) f)) y
  rw [View.read_apply, View.read_apply] at h
  exact cast_inj _ |>.mp h

theorem w_read (c : Dev nD) (j : Fin 8) (f : HbBuf (F := F) c hW) : (whB j).view.read (Elt F) f = (wB j).view.read (Elt F) (toW f) := by
  funext y; rw [View.read_apply, View.read_apply]; rfl
theorem x_read (c : Dev nD) (j : Fin 8) (f : HbBuf (F := F) c hX) : (xhB j).view.read (Elt F) f = (xB j).view.read (Elt F) (toX f) := by
  funext y; rw [View.read_apply, View.read_apply]; rfl

theorem w_landed (c : Dev nD) (j : Fin 8) (f : HbBuf (F := F) c hW) (g : HbBuf (F := F) c mW) :
    (pt c (wB j) ((wB j).view.writes (Elt F) g [⟨Rect.whole S2560x512, (whB j).view.read (Elt F) f⟩]) : sProp 𝕄) = pt c (wB j) (toW f) := by
  rw [w_read]; exact pointsTo_congr (landed (wB j).view (toW f) g)
theorem x_landed (c : Dev nD) (j : Fin 8) (f : HbBuf (F := F) c hX) (g : HbBuf (F := F) c mX) :
    (pt c (xB j) ((xB j).view.writes (Elt F) g [⟨Rect.whole S256x2560, (xhB j).view.read (Elt F) f⟩]) : sProp 𝕄) = pt c (xB j) (toX f) := by
  rw [x_read]; exact pointsTo_congr (landed (xB j).view (toX f) g)

/-- The DMA cell of a column block of the right matrix, and of a row block of the left one. -/
abbrev wcell (j : Fin 8) : DmaSem sig := ⟨17 + j.val, by have := j.isLt; show _ < 25; omega⟩
abbrev xcell (j : Fin 8) : DmaSem sig := ⟨9 + j.val, by have := j.isLt; show _ < 25; omega⟩

/-- A block in flight. -/
abbrev wFly (c : Dev nD) (f : HbBuf (F := F) c hW) (j : Fin 8) : sProp 𝕄 :=
  Transfers.Flight countersEmb (c : Thread nD τ) (SemLoc.dma (wcell j)) default 40960 iprop(pt c (wB j) (toW f) ∗ pt c (whB j) f)
abbrev xFly (c : Dev nD) (f : HbBuf (F := F) c hX) (j : Fin 8) : sProp 𝕄 :=
  Transfers.Flight countersEmb (c : Thread nD τ) (SemLoc.dma (xcell j)) default 20480 iprop(pt c (xB j) (toX f) ∗ pt c (xhB j) f)
/-- A block that has landed. -/
abbrev wLand (c : Dev nD) (f : HbBuf (F := F) c hW) (j : Fin 8) : sProp 𝕄 :=
  iprop(pt c (wB j) (toW f) ∗ pt c (whB j) f ∗ sv (F := F) c (wcell j))
abbrev xLand (c : Dev nD) (f : HbBuf (F := F) c hX) (j : Fin 8) : sProp 𝕄 :=
  iprop(pt c (xB j) (toX f) ∗ pt c (xhB j) f ∗ sv (F := F) c (xcell j))

theorem wFly_mono (c : Dev nD) (f : HbBuf (F := F) c hW) (j : Fin 8) (g : HbBuf (F := F) c mW) :
    Transfers.Flight countersEmb (c : Thread nD τ) (SemLoc.dma (wcell j)) default 40960
      iprop(pt c (wB j) ((wB j).view.writes (Elt F) g [⟨Rect.whole S2560x512, (whB j).view.read (Elt F) f⟩]) ∗ pt c (whB j) f) ⊢ wFly c f j :=
  Transfers.Flight_mono _ _ (Entails.of_eq (congrArg (fun P : sProp 𝕄 => iprop(P ∗ pt c (whB j) f)) (w_landed c j f g)))
theorem xFly_mono (c : Dev nD) (f : HbBuf (F := F) c hX) (j : Fin 8) (g : HbBuf (F := F) c mX) :
    Transfers.Flight countersEmb (c : Thread nD τ) (SemLoc.dma (xcell j)) default 20480
      iprop(pt c (xB j) ((xB j).view.writes (Elt F) g [⟨Rect.whole S256x2560, (xhB j).view.read (Elt F) f⟩]) ∗ pt c (xhB j) f) ⊢ xFly c f j :=
  Transfers.Flight_mono _ _ (Entails.of_eq (congrArg (fun P : sProp 𝕄 => iprop(P ∗ pt c (xhB j) f)) (x_landed c j f g)))

/-- The blocks below `k` landed and those from `k` on in flight. -/
@[irreducible] def wState (c : Dev nD) (f : HbBuf (F := F) c hW) (k : ℕ) : sProp 𝕄 :=
  iprop(bigSep (Ring.rangeSet 8 0 k) (wLand c f) ∗ bigSep (Ring.rangeSet 8 k 8) (wFly c f))
@[irreducible] def xState (c : Dev nD) (f : HbBuf (F := F) c hX) (k : ℕ) : sProp 𝕄 :=
  iprop(bigSep (Ring.rangeSet 8 0 k) (xLand c f) ∗ bigSep (Ring.rangeSet 8 k 8) (xFly c f))

theorem range1 (Φ : Fin 8 → sProp 𝕄) : bigSep (Ring.rangeSet 8 1 8) Φ = iprop(Φ 1 ∗ Φ 2 ∗ Φ 3 ∗ Φ 4 ∗ Φ 5 ∗ Φ 6 ∗ Φ 7) :=
  BI.bigSep_eq_bigSepL_of_eq [(1 : Fin 8), 2, 3, 4, 5, 6, 7] (by decide) (by decide) Φ
theorem range0 (Φ : Fin 8 → sProp 𝕄) : bigSep (Ring.rangeSet 8 0 1) Φ = Φ 0 :=
  (BI.bigSep_eq_bigSepL_of_eq [(0 : Fin 8)] (by decide) (by decide) Φ).trans rfl

/-- The first block landed and the others in flight: where the first loop over column blocks starts. -/
theorem wState_one (c : Dev nD) (f : HbBuf (F := F) c hW) :
    iprop(wLand c f 0 ∗ wFly c f 1 ∗ wFly c f 2 ∗ wFly c f 3 ∗ wFly c f 4 ∗ wFly c f 5 ∗ wFly c f 6 ∗ wFly c f 7) ⊢ wState c f 1 := by
  unfold wState; rw [range0, range1]
theorem xState_one (c : Dev nD) (f : HbBuf (F := F) c hX) :
    iprop(xLand c f 0 ∗ xFly c f 1 ∗ xFly c f 2 ∗ xFly c f 3 ∗ xFly c f 4 ∗ xFly c f 5 ∗ xFly c f 6 ∗ xFly c f 7) ⊢ xState c f 1 := by
  unfold xState; rw [range0, range1]

/-- The block in flight next, taken off the state. -/
theorem wState_take (c : Dev nD) (f : HbBuf (F := F) c hW) (k : ℕ) (hk : k < 8) :
    wState c f k ⊢ iprop(bigSep (Ring.rangeSet 8 0 k) (wLand c f) ∗ wFly c f ⟨k, hk⟩ ∗ bigSep (Ring.rangeSet 8 (k + 1) 8) (wFly c f)) := by
  unfold wState; rw [Ring.bigSep_rangeSet_head hk hk]
theorem xState_take (c : Dev nD) (f : HbBuf (F := F) c hX) (k : ℕ) (hk : k < 8) :
    xState c f k ⊢ iprop(bigSep (Ring.rangeSet 8 0 k) (xLand c f) ∗ xFly c f ⟨k, hk⟩ ∗ bigSep (Ring.rangeSet 8 (k + 1) 8) (xFly c f)) := by
  unfold xState; rw [Ring.bigSep_rangeSet_head hk hk]
/-- and put back landed. -/
theorem wState_put (c : Dev nD) (f : HbBuf (F := F) c hW) (k : ℕ) (hk : k < 8) :
    iprop(bigSep (Ring.rangeSet 8 0 k) (wLand c f) ∗ wLand c f ⟨k, hk⟩ ∗ bigSep (Ring.rangeSet 8 (k + 1) 8) (wFly c f)) ⊢ wState c f (k + 1) := by
  unfold wState; rw [Ring.bigSep_rangeSet_last (lo := 0) (hi := k + 1) (by omega) (by omega)]
  iintro ⟨A, B, C⟩; isplitr [C]; · isplitl [B]; · iexact B
                                   iexact A
  iexact C
theorem xState_put (c : Dev nD) (f : HbBuf (F := F) c hX) (k : ℕ) (hk : k < 8) :
    iprop(bigSep (Ring.rangeSet 8 0 k) (xLand c f) ∗ xLand c f ⟨k, hk⟩ ∗ bigSep (Ring.rangeSet 8 (k + 1) 8) (xFly c f)) ⊢ xState c f (k + 1) := by
  unfold xState; rw [Ring.bigSep_rangeSet_last (lo := 0) (hi := k + 1) (by omega) (by omega)]
  iintro ⟨A, B, C⟩; isplitr [C]; · isplitl [B]; · iexact B
                                   iexact A
  iexact C

theorem bigSep_sep3 (A B C : Fin 8 → sProp 𝕄) : bigSep Finset.univ (fun j => iprop(A j ∗ B j ∗ C j))
    = iprop(bigSep Finset.univ A ∗ bigSep Finset.univ B ∗ bigSep Finset.univ C) := by
  exact (BI.bigSep_sep Finset.univ A (fun j => iprop(B j ∗ C j))).trans
    (congrArg (fun P : sProp 𝕄 => iprop(bigSep Finset.univ A ∗ P)) (BI.bigSep_sep Finset.univ B C))

/-- Every block landed: the scratch buffer and the matrix whole, every cell at zero. -/
theorem wState_all (c : Dev nD) (f : HbBuf (F := F) c hW) :
    wState c f 8 ⊢ iprop(hbPt c mW (toW f) ∗ hbPt c hW f ∗ (sv (F := F) c 17 ∗ sv (F := F) c 18 ∗ sv (F := F) c 19 ∗ sv (F := F) c 20
      ∗ sv (F := F) c 21 ∗ sv (F := F) c 22 ∗ sv (F := F) c 23 ∗ sv (F := F) c 24)) := by
  unfold wState
  rw [Ring.bigSep_rangeSet_empty (lo := 8) (hi := 8) le_rfl, Ring.rangeSet_univ, bigSep_sep3, ← w_blocks, ← wh_blocks, bigSep_fin8]
  iintro ⟨H, -⟩; iexact H
theorem xState_all (c : Dev nD) (f : HbBuf (F := F) c hX) :
    xState c f 8 ⊢ iprop(hbPt c mX (toX f) ∗ hbPt c hX f ∗ (sv (F := F) c 9 ∗ sv (F := F) c 10 ∗ sv (F := F) c 11 ∗ sv (F := F) c 12
      ∗ sv (F := F) c 13 ∗ sv (F := F) c 14 ∗ sv (F := F) c 15 ∗ sv (F := F) c 16)) := by
  unfold xState
  rw [Ring.bigSep_rangeSet_empty (lo := 8) (hi := 8) le_rfl, Ring.rangeSet_univ, bigSep_sep3, ← x_blocks, ← xh_blocks, bigSep_fin8]
  iintro ⟨H, -⟩; iexact H

/-- The cell and the slices a trip names by its own number are the next block's. -/
theorem wcell_eq (k : Fin k0_t2_loop.trips) (h : k.val + 1 < 8) :
    wcell ⟨k.val + 1, h⟩ = ((cc0_scratch14.slice (Rect.unit (s := S8) (k0_off6 k) S1.size (k0_off6_inb k))).squeeze S_ squeezes_S1_S_).sem := by
  revert k; decide +kernel
theorem xcell_eq (k : Fin k0_t5_loop.trips) (h : k.val + 1 < 8) :
    xcell ⟨k.val + 1, h⟩ = ((cc0_scratch13.slice (Rect.unit (s := S8) (k0_off17 k) S1.size (k0_off17_inb k))).squeeze S_ squeezes_S1_S_).sem := by
  revert k; decide +kernel

theorem t2_lt (k : Fin k0_t2_loop.trips) : k.val + 1 < 8 := by
  have := Nat.lt_of_lt_of_le k.isLt k0_t2_abs.2.1; omega

/-- The next block in flight, its cell named as the trip names it. -/
theorem wState_take' (c : Dev nD) (f : HbBuf (F := F) c hW) (k : Fin k0_t2_loop.trips) :
    wState c f (k.val + 1) ⊢ iprop(bigSep (Ring.rangeSet 8 0 (k.val + 1)) (wLand c f)
      ∗ Transfers.Flight countersEmb (c : Thread nD τ) (SemLoc.dma ((cc0_scratch14.slice (Rect.unit (s := S8) (k0_off6 k) S1.size (k0_off6_inb k))).squeeze S_ squeezes_S1_S_).sem)
          default 40960 iprop(pt c (wB ⟨k.val + 1, t2_lt k⟩) (toW f) ∗ pt c (whB ⟨k.val + 1, t2_lt k⟩) f)
      ∗ bigSep (Ring.rangeSet 8 (k.val + 2) 8) (wFly c f)) := by
  rw [← wcell_eq k (t2_lt k)]; exact wState_take c f (k.val + 1) (t2_lt k)
theorem wState_put' (c : Dev nD) (f : HbBuf (F := F) c hW) (k : Fin k0_t2_loop.trips) :
    iprop(bigSep (Ring.rangeSet 8 0 (k.val + 1)) (wLand c f)
      ∗ (pt c (wB ⟨k.val + 1, t2_lt k⟩) (toW f) ∗ pt c (whB ⟨k.val + 1, t2_lt k⟩) f
        ∗ sv (F := F) c ((cc0_scratch14.slice (Rect.unit (s := S8) (k0_off6 k) S1.size (k0_off6_inb k))).squeeze S_ squeezes_S1_S_).sem)
      ∗ bigSep (Ring.rangeSet 8 (k.val + 2) 8) (wFly c f)) ⊢ wState c f (k.val + 1 + 1) := by
  rw [← wcell_eq k (t2_lt k)]; exact wState_put c f (k.val + 1) (t2_lt k)
theorem unit_congr {S : Shape} {off off' : Fin S.rank → ℕ} {size : Fin S.rank → ℕ} (h : off = off') (i : ∀ a, off a + size a ≤ S.size a)
    (i' : ∀ a, off' a + size a ≤ S.size a) : Rect.unit (s := S) off size i = Rect.unit (s := S) off' size i' := by subst h; rfl
theorem w_rect (k : Fin k0_t2_loop.trips) :
    Rect.unit (s := S2560x4096) (k0_off8 k) S2560x512.size (k0_off8_inb k) = wRect ⟨k.val + 1, t2_lt k⟩ :=
  unit_congr (by rw [k0_off8_eq]; simp [wOff]; try omega) _ _
/-- The columns a trip loads are the block it waited for. -/
theorem w_in (k : Fin k0_t2_loop.trips) :
    (mW.access (Rect.unit (s := S2560x4096) (k0_off8 k) S2560x512.size (k0_off8_inb k))).set ⊆ (wB ⟨k.val + 1, t2_lt k⟩).view.set := by
  rw [w_rect]

theorem t5_lt (k : Fin k0_t5_loop.trips) : k.val + 1 < 8 := by
  have := Nat.lt_of_lt_of_le k.isLt k0_t5_abs.2.1; omega

/-- The next block in flight, its cell named as the trip names it. -/
theorem xState_take' (c : Dev nD) (f : HbBuf (F := F) c hX) (k : Fin k0_t5_loop.trips) :
    xState c f (k.val + 1) ⊢ iprop(bigSep (Ring.rangeSet 8 0 (k.val + 1)) (xLand c f)
      ∗ Transfers.Flight countersEmb (c : Thread nD τ) (SemLoc.dma ((cc0_scratch13.slice (Rect.unit (s := S8) (k0_off17 k) S1.size (k0_off17_inb k))).squeeze S_ squeezes_S1_S_).sem)
          default 20480 iprop(pt c (xB ⟨k.val + 1, t5_lt k⟩) (toX f) ∗ pt c (xhB ⟨k.val + 1, t5_lt k⟩) f)
      ∗ bigSep (Ring.rangeSet 8 (k.val + 2) 8) (xFly c f)) := by
  rw [← xcell_eq k (t5_lt k)]; exact xState_take c f (k.val + 1) (t5_lt k)
theorem xState_put' (c : Dev nD) (f : HbBuf (F := F) c hX) (k : Fin k0_t5_loop.trips) :
    iprop(bigSep (Ring.rangeSet 8 0 (k.val + 1)) (xLand c f)
      ∗ (pt c (xB ⟨k.val + 1, t5_lt k⟩) (toX f) ∗ pt c (xhB ⟨k.val + 1, t5_lt k⟩) f
        ∗ sv (F := F) c ((cc0_scratch13.slice (Rect.unit (s := S8) (k0_off17 k) S1.size (k0_off17_inb k))).squeeze S_ squeezes_S1_S_).sem)
      ∗ bigSep (Ring.rangeSet 8 (k.val + 2) 8) (xFly c f)) ⊢ xState c f (k.val + 1 + 1) := by
  rw [← xcell_eq k (t5_lt k)]; exact xState_put c f (k.val + 1) (t5_lt k)
theorem x_rect20 (k : Fin k0_t5_loop.trips) :
    Rect.unit (s := S2048x2560) (k0_off20 k) S256x2560.size (k0_off20_inb k) = xRect ⟨k.val + 1, t5_lt k⟩ :=
  unit_congr (by rw [k0_off20_eq]; simp [xOff]; try omega) _ _
theorem x_rect26 (k : Fin k0_t5_loop.trips) :
    Rect.unit (s := S2048x2560) (k0_off26 k) S256x2560.size (k0_off26_inb k) = xRect ⟨k.val + 1, t5_lt k⟩ :=
  unit_congr (by rw [k0_off26_eq]; simp [xOff]; try omega) _ _
/-- The rows a trip loads are the block it waited for. -/
theorem x_in20 (k : Fin k0_t5_loop.trips) :
    (mX.access (Rect.unit (s := S2048x2560) (k0_off20 k) S256x2560.size (k0_off20_inb k))).set ⊆ (xB ⟨k.val + 1, t5_lt k⟩).view.set := by
  rw [x_rect20]
theorem x_in26 (k : Fin k0_t5_loop.trips) :
    (mX.access (Rect.unit (s := S2048x2560) (k0_off26 k) S256x2560.size (k0_off26_inb k))).set ⊆ (xB ⟨k.val + 1, t5_lt k⟩).view.set := by
  rw [x_rect26]

end Cert.KernelIdeal.Hand

end
-- ==== Proof.KernelIdeal.Chunks.lean ====
/-
  The loops over the column blocks, with what they leave in the running maximum and the running sum.
-/
module

public import proofs.«01_k».proof.Proof.KernelIdeal.Groups
public import proofs.«01_k».proof.Proof.KernelIdeal.Groups5
public import proofs.«01_k».proof.Proof.KernelIdeal.Flights

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- Columns `512 n …` of a row. -/
def colsOf (g : Vec F S1x4096 .f32) (n : ℕ) : Vec F S1x512 .f32 := fun j => g (ix2 0 ⟨(512 * n + (j 1).val) % 4096, Nat.mod_lt _ (by decide)⟩)
/-- Columns `512 n …` of the right matrix. -/
def wCols (f : Vec F S2560x4096 .fp8e4m3) (n : ℕ) : Vec F S2560x512 .fp8e4m3 := fun j => f (ix2 (j 0) ⟨(512 * n + (j 1).val) % 4096, Nat.mod_lt _ (by decide)⟩)
/-- Rows `256 m …` of the left matrix. -/
def xRows (f : Vec F S2048x2560 .fp8e4m3) (m : ℕ) : Vec F S256x2560 .fp8e4m3 := fun j => f (ix2 ⟨(256 * m + (j 0).val) % 2048, Nat.mod_lt _ (by decide)⟩ (j 1))
/-- The dot product of row block `m` and column block `n`. -/
def accOf (fx : Vec F S2048x2560 .fp8e4m3) (fw : Vec F S2560x4096 .fp8e4m3) (m n : ℕ) : Vec F S256x512 .f32 := k0_pay373 (xRows fx m) (wCols fw n)

/-- The running maximum after the chunks `1, …, k`, from `g`. -/
def mIter (acc : ℕ → Vec F S256x512 .f32) (xs : Vec F S256x128 .f32) (w b : ℕ → Vec F S1x512 .f32) (g : Vec F S256x128 .f32) : ℕ → Vec F S256x128 .f32
  | 0 => g
  | k + 1 => mNew (acc (k + 1)) xs (w (k + 1)) (b (k + 1)) (mIter acc xs w b g k)
/-- The running sum after the chunks `1, …, k`, from `h` with the maximum `g`. -/
def sIter (acc : ℕ → Vec F S256x512 .f32) (xs : Vec F S256x128 .f32) (w b : ℕ → Vec F S1x512 .f32) (g h : Vec F S256x128 .f32) : ℕ → Vec F S256x128 .f32
  | 0 => h
  | k + 1 => sNew (acc (k + 1)) xs (w (k + 1)) (b (k + 1)) (mIter acc xs w b g k) (sIter acc xs w b g h k)

theorem rd_colsOf {κ sp} (v : View sig κ sp S1x4096 .f32) {off : Fin 2 → ℕ} (n : ℕ) (hn : n < 8) (h : off = ![0, 512 * n])
    (inb : ∀ a : Fin 2, off a + S1x512.size a ≤ S1x4096.size a) (f : v.ty.Contents (Elt F)) :
    v.readAt (Elt F) (Rect.unit (s := S1x4096) off S1x512.size inb).toLoadRect f = colsOf (v.read (Elt F) f) n := by
  funext j
  refine rd_unit v _ h inb f j _ ?_
  intro a; fin_cases a
  · have h0 : (j 0).val < 1 := (j 0).isLt
    show 0 = 0 + (j 0).val; omega
  · have h1 : (j 1).val < 512 := (j 1).isLt
    show (512 * n + (j 1).val) % 4096 = 512 * n + (j 1).val; omega
theorem rd_wCols {κ sp} (v : View sig κ sp S2560x4096 .fp8e4m3) {off : Fin 2 → ℕ} (n : ℕ) (hn : n < 8) (h : off = ![0, 512 * n])
    (inb : ∀ a : Fin 2, off a + S2560x512.size a ≤ S2560x4096.size a) (f : v.ty.Contents (Elt F)) :
    v.readAt (Elt F) (Rect.unit (s := S2560x4096) off S2560x512.size inb).toLoadRect f = wCols (v.read (Elt F) f) n := by
  funext j
  refine rd_unit v _ h inb f j _ ?_
  intro a; fin_cases a
  · show (j 0).val = 0 + (j 0).val; omega
  · have h1 : (j 1).val < 512 := (j 1).isLt
    show (512 * n + (j 1).val) % 4096 = 512 * n + (j 1).val; omega
theorem rd_xRows {κ sp} (v : View sig κ sp S2048x2560 .fp8e4m3) {off : Fin 2 → ℕ} (m : ℕ) (hm : m < 8) (h : off = ![256 * m, 0])
    (inb : ∀ a : Fin 2, off a + S256x2560.size a ≤ S2048x2560.size a) (f : v.ty.Contents (Elt F)) :
    v.readAt (Elt F) (Rect.unit (s := S2048x2560) off S256x2560.size inb).toLoadRect f = xRows (v.read (Elt F) f) m := by
  funext j
  refine rd_unit v _ h inb f j _ ?_
  intro a; fin_cases a
  · have h1 : (j 0).val < 256 := (j 0).isLt
    show (256 * m + (j 0).val) % 2048 = 256 * m + (j 0).val; omega
  · show (j 1).val = 0 + (j 1).val; omega

/-- A store over the whole of a view leaves what was stored. -/
theorem whole_store {κ sp} (v : View sig κ sp S256x512 .f32) (f : v.ty.Contents (Elt F)) (L : List (View.Piece (Elt F) S256x512 .f32)) (w : Vec F S256x512 .f32)
    (inb : ∀ a, (![0, 0] : Fin 2 → ℕ) a + S256x512.size a ≤ S256x512.size a)
    (h : L = [(⟨Rect.unit (s := S256x512) ![0, 0] S256x512.size inb, w⟩ : View.Piece (Elt F) S256x512 .f32)]) :
    v.read (Elt F) (v.writes (Elt F) f L) = w := by
  subst h
  funext y
  refine (View.read_writes_cons_rows (off := ![0, 0]) (size := S256x512.size) v f inb w [] y rfl (W := 256) rfl rfl).trans ?_
  have hy : (y 0).val < 256 := (y 0).isLt
  split
  · refine congrArg w ?_
    funext a; fin_cases a
    · exact Fin.ext (Nat.sub_zero _)
    · exact Fin.ext (Nat.sub_zero _)
  · omega

theorem acc_read (f : mAcc.view.ty.Contents (Elt F)) : f = mAcc.view.read (Elt F) f := rfl

theorem dot368 (x : Vec F S256x2560 .fp8e4m3) (w : Vec F S2560x512 .fp8e4m3) : k0_pay368 x w = k0_pay373 x w := by unfold_payloads; rfl
theorem dot139 (x : Vec F S256x2560 .fp8e4m3) (w : Vec F S2560x512 .fp8e4m3) : k0_pay139 x w = k0_pay373 x w := by unfold_payloads; rfl
theorem dot134 (x : Vec F S256x2560 .fp8e4m3) (w : Vec F S2560x512 .fp8e4m3) :
    k0_pay134 x w (constant S256x512 .f32 0x00000000#32) = k0_pay373 x w := by unfold_payloads; rfl

theorem t1_trips : Scf.trips k0_t1_loop.lb k0_t1_loop.ub k0_t1_loop.st = 32 := by decide +kernel
theorem t3_trips : Scf.trips k0_t3_loop.lb k0_t3_loop.ub k0_t3_loop.st = 32 := by decide +kernel
theorem t4_trips : Scf.trips k0_t4_loop.lb k0_t4_loop.ub k0_t4_loop.st = 32 := by decide +kernel
theorem t6_trips : Scf.trips k0_t6_loop.lb k0_t6_loop.ub k0_t6_loop.st = 32 := by decide +kernel
theorem t8_trips : Scf.trips k0_t8_loop.lb k0_t8_loop.ub k0_t8_loop.st = 32 := by decide +kernel
theorem t15_trips : Scf.trips k0_t15_loop.lb k0_t15_loop.ub k0_t15_loop.st = 32 := by decide +kernel
theorem t7_trips : Scf.trips k0_t7_loop.lb k0_t7_loop.ub k0_t7_loop.st = 7 := by decide +kernel
theorem t7_lt (k : Fin k0_t7_loop.trips) : k.val + 1 < 8 := by
  have := Nat.lt_of_lt_of_le k.isLt k0_t7_abs.2.1; omega

/-- A trip's step of the running maximum, in the terms the trip leaves. -/
theorem m_trip {acc acc' : Vec F S256x512 .f32} {xs : Vec F S256x128 .f32} {w w' b b' : Vec F S1x512 .f32} {g g' : Vec F S256x128 .f32} {n : ℕ}
    (hn : n = 32) (ha : acc = acc') (hw : w = w') (hb : b = b') (hg : g = g') :
    upTo g (mNew acc xs w b g) n = mNew acc' xs w' b' g' := by
  subst hn ha hw hb hg; exact upTo_all _ _
/-- A trip's step of the running sum, in the terms the trip leaves. -/
theorem s_trip {acc acc' : Vec F S256x512 .f32} {xs : Vec F S256x128 .f32} {w w' b b' : Vec F S1x512 .f32} {g g' h h' : Vec F S256x128 .f32} {n : ℕ}
    (hn : n = 32) (ha : acc = acc') (hw : w = w') (hb : b = b') (hg : g = g') (hh : h = h') :
    upTo h (sNew acc xs w b g h) n = sNew acc' xs w' b' g' h' := by
  subst hn ha hw hb hg hh; exact upTo_all _ _

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def vloop2 (fx : HbBuf (F := F) c hX) (fw : HbBuf (F := F) c hW) (gws : HbBuf (F := F) c mWs) (gb : HbBuf (F := F) c mBias)
    (gxs gM gS : Vec F S256x128 .f32) (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) :
    LoopInvTy_k0_t2 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 where
  inv k _ := iprop(pt c (xB 0) (toX fx) ∗ wState c fw (k + 1) ∗ hbPt c mWs gws ∗ hbPt c mBias gb
    ∗ hbPt (F := F) c mXs gxs ∗ (∃ f, hbPt (F := F) c mAcc f)
    ∗ (∃ f, hbPt (F := F) c mM f ∗ ⌜f = mIter (accOf fx fw 0) gxs (colsOf gws) (colsOf gb) gM k⌝)
    ∗ (∃ f, hbPt (F := F) c mS f ∗ ⌜f = sIter (accOf fx fw 0) gxs (colsOf gws) (colsOf gb) gM gS k⌝)
    ∗ (∃ f, hbPt (F := F) c mG f) ∗ ∃ W, owes (c : Thread nD τ) 0 W)
  step k acc := by
    unfold k0_t2_body
    iintro ⟨HX, Hst, HWs, HB, H1, ⟨%f2, H2⟩, ⟨%f3, H3, %e3⟩, ⟨%f4, H4, %e4⟩, ⟨%f5, H5⟩, ⟨%W, HO⟩⟩
    ihave Hst := wState_take' c fw k $$ Hst
    icases Hst with ⟨Hlo, Hf, Hhi⟩
    have hw := w_in k
    sl_exec
    ihave Hst := wState_put' c fw k $$ [Hlo Hf_dst Hf_src Hf Hhi]
    · sl_close
    sl_step
    have hk := t2_lt k
    have hd : k0_pay373 (F := F) (View.readAt (Elt F) mX.view (Rect.unit (s := S2048x2560) ![0, 0] S256x2560.size inb_S2048x2560_S256x2560_0_0).toLoadRect (toX fx))
        (View.readAt (Elt F) mW.view (Rect.unit (s := S2560x4096) (k0_off8 k) S2560x512.size (k0_off8_inb k)).toLoadRect (toW fw)) = accOf fx fw 0 (k.val + 1) :=
      congrArg₂ (k0_pay373 (F := F)) (rd_xRows mX.view 0 (by decide) rfl _ _)
        (rd_wCols mW.view (k.val + 1) hk (by rw [k0_off8_eq]; exact congrArg (fun x => ![0, x]) (by omega)) _ _)
    have ha := (acc_read _).trans ((whole_store (F := F) mAcc.view mAcc.view.junk (vloop2.sl.H2_1 c fx fw k) _ inb_S256x512_S256x512_0_0 rfl).trans hd)
    have hws := rd_colsOf (F := F) mWs.view (k.val + 1) hk (by rw [k0_off9_eq]; exact congrArg (fun x => ![0, x]) (by omega)) (k0_off9_inb k) gws
    have hb := rd_colsOf (F := F) mBias.view (k.val + 1) hk (by rw [k0_off9_eq]; exact congrArg (fun x => ![0, x]) (by omega)) (k0_off9_inb k) gb
    isplitl [HX]; · iexact HX
    isplitl [Hst]; · iexact Hst
    isplitl [HWs]; · iexact HWs
    isplitl [HB]; · iexact HB
    isplitl [H1]; · iexact H1
    isplitl [H2]; · iexists _; iexact H2
    isplitl [H3]
    · iexists _; isplitl [H3]; · iexact H3
      ipureintro
      exact m_trip t3_trips ha hws hb e3
    isplitl [H4]
    · iexists _; isplitl [H4]; · iexact H4
      ipureintro
      exact s_trip t3_trips ha hws hb e3 e4
    isplitl [H5]; · iexists _; iexact H5
    iexists _; iexact HO

set_option warn.classDefReducibility false in
@[sl_loop] def vloop7 (fx : HbBuf (F := F) c hX) (fw : HbBuf (F := F) c hW) (gws : HbBuf (F := F) c mWs) (gb : HbBuf (F := F) c mBias)
    (gxs gM gS : Vec F S256x128 .f32) (v121 : IVec S8x128 32) (v137 : IVec S8x128 32) (v175 : IVec S8x128 32) (v191 : IVec S8x128 32) (v217 : IVec S8x128 32) (v259 : IVec S8x128 32) (k0_t5 : Fin k0_t5_loop.trips) (arg28 : FVec F S8x128 .f32) (arg26 : BitVec 32) (v1678 : Vec F S256x2560 .fp8e4m3) (v1679 : Vec F S2560x512 .fp8e4m3) (cst_616 : FVec F S256x512 .f32) :
    LoopInvTy_k0_t7 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v259 k0_t5 arg28 arg26 v1678 v1679 cst_616 where
  inv k _ := iprop(pt c (xB ⟨k0_t5.val + 1, t5_lt k0_t5⟩) (toX fx) ∗ hbPt c mW (toW fw) ∗ hbPt c mWs gws ∗ hbPt c mBias gb
    ∗ hbPt (F := F) c mXs gxs ∗ (∃ f, hbPt (F := F) c mAcc f)
    ∗ (∃ f, hbPt (F := F) c mM f ∗ ⌜f = mIter (accOf fx fw (k0_t5.val + 1)) gxs (colsOf gws) (colsOf gb) gM k⌝)
    ∗ (∃ f, hbPt (F := F) c mS f ∗ ⌜f = sIter (accOf fx fw (k0_t5.val + 1)) gxs (colsOf gws) (colsOf gb) gM gS k⌝)
    ∗ (∃ f, hbPt (F := F) c mG f))
  step k acc := by
    unfold k0_t7_body
    iintro ⟨HX, HW, HWs, HB, H1, ⟨%f2, H2⟩, ⟨%f3, H3, %e3⟩, ⟨%f4, H4, %e4⟩, ⟨%f5, H5⟩⟩
    have hx := x_in26 k0_t5
    sl_exec
    sl_step
    have hk := t7_lt k
    have hm := t5_lt k0_t5
    have hd : k0_pay139 (F := F) (View.readAt (Elt F) mX.view (Rect.unit (s := S2048x2560) (k0_off26 k0_t5) S256x2560.size (k0_off26_inb k0_t5)).toLoadRect (toX fx))
        (View.readAt (Elt F) mW.view (Rect.unit (s := S2560x4096) (k0_off27 k) S2560x512.size (k0_off27_inb k)).toLoadRect (toW fw)) = accOf fx fw (k0_t5.val + 1) (k.val + 1) :=
      (dot139 (F := F) _ _).trans (congrArg₂ (k0_pay373 (F := F)) (rd_xRows mX.view (k0_t5.val + 1) hm (by rw [k0_off26_eq]; exact congrArg (fun x => ![x, 0]) (by omega)) _ _)
        (rd_wCols mW.view (k.val + 1) hk (by rw [k0_off27_eq]; exact congrArg (fun x => ![0, x]) (by omega)) _ _))
    have ha := (acc_read _).trans ((whole_store (F := F) mAcc.view mAcc.view.junk (vloop7.sl.H2_1 c fx fw k0_t5 k) _ inb_S256x512_S256x512_0_0 rfl).trans hd)
    have hws := rd_colsOf (F := F) mWs.view (k.val + 1) hk (by rw [k0_off28_eq]; exact congrArg (fun x => ![0, x]) (by omega)) (k0_off28_inb k) gws
    have hb := rd_colsOf (F := F) mBias.view (k.val + 1) hk (by rw [k0_off28_eq]; exact congrArg (fun x => ![0, x]) (by omega)) (k0_off28_inb k) gb
    isplitl [HX]; · iexact HX
    isplitl [HW]; · iexact HW
    isplitl [HWs]; · iexact HWs
    isplitl [HB]; · iexact HB
    isplitl [H1]; · iexact H1
    isplitl [H2]; · iexists _; iexact H2
    isplitl [H3]
    · iexists _; isplitl [H3]; · iexact H3
      ipureintro
      exact m_trip t8_trips ha hws hb e3
    isplitl [H4]
    · iexists _; isplitl [H4]; · iexact H4
      ipureintro
      exact s_trip t8_trips ha hws hb e3 e4
    iexists _; iexact H5
end

end Cert.KernelIdeal.Hand

end
-- ==== Proof.KernelIdeal.Fin.lean ====
/-
  The finishing loop of a row block, with what it leaves in the buffer of the row results: the finished entry of each row, in
  every lane.
-/
module

public import proofs.«01_k».proof.Proof.KernelIdeal.Cells

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- Eight rows of a buffer of 256. -/
def rowsOf (g : Vec F S256x128 .f32) (n : Fin 32) : Vec F S8x128 .f32 := fun j => g (ix2 ⟨8 * n.val + (j 0).val, by
  have h : (j 0).val < 8 := (j 0).isLt
  omega⟩ (j 1))

/-- The finished entries of the rows, in base two, from the running maximum and the running sum. -/
def finV (gM gS : Vec F S256x128 .f32) : Vec F S256x128 .f32 := fun y =>
  have h : (y 0).val < 256 := (y 0).isLt
  k0_pay24 (rowsOf gM ⟨(y 0).val / 8, by omega⟩) (rowsOf gS ⟨(y 0).val / 8, by omega⟩) (ix2 ⟨(y 0).val % 8, by omega⟩ (y 1))

/-- A load of eight rows. -/
theorem rd_rows {κ sp} (v : View sig κ sp S256x128 .f32) {off : Fin 2 → ℕ} (k : ℕ) (hk : k < 32) (h : off = ![8 * k, 0])
    (inb : ∀ a : Fin 2, off a + S8x128.size a ≤ S256x128.size a) (f : v.ty.Contents (Elt F)) :
    v.readAt (Elt F) (Rect.unit (s := S256x128) off S8x128.size inb).toLoadRect f = rowsOf (v.read (Elt F) f) ⟨k, hk⟩ := by
  funext j
  refine rd_unit v _ h inb f j _ ?_
  intro a; fin_cases a
  · rfl
  · show (j 1).val = 0 + (j 1).val; omega

/-- What a group of the finishing loop stores is the finished entries at its rows. -/
theorem fin_at (gM gS : Vec F S256x128 .f32) (k : ℕ) (hk : k < 32) (j : S8x128.Idx) (y : S256x128.Idx) (h0 : (y 0).val = 8 * k + (j 0).val)
    (h1 : (y 1).val = (j 1).val) : k0_pay24 (rowsOf gM ⟨k, hk⟩) (rowsOf gS ⟨k, hk⟩) j = finV gM gS y := by
  have hj : (j 0).val < 8 := (j 0).isLt
  have hd : (y 0).val / 8 = k := by omega
  have hm : (y 0).val % 8 = (j 0).val := by omega
  have e : (ix2 ⟨(y 0).val % 8, by omega⟩ (y 1) : S8x128.Idx) = j := by
    funext a; fin_cases a
    · exact Fin.ext hm
    · exact Fin.ext h1
  unfold finV
  simp only [e, hd]

/-- The two printings of the finishing group store the same function. -/
theorem pay121_eq (a b : Vec F S8x128 .f32) : k0_pay121 a b = k0_pay24 a b := by
  unfold_payloads
  rfl

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def vloop4 (gM gS gL : Vec F S256x128 .f32) (v175 : IVec S8x128 32) (v191 : IVec S8x128 32) (v262 : IVec S8x128 1) (v270 : IVec S8x128 32) (v273 : IVec S8x128 1) (v281 : IVec S8x128 32) (v286 : IVec S8x128 32) (v291 : IVec S8x128 32) (v498 : Vec F S64x4 .f32) (v513 : FVec F S64x128 .f32) (v514 : Vec F S64x128 .f32) :
    LoopInvTy_k0_t4 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v175 v191 v262 v270 v273 v281 v286 v291 v498 v513 v514 where
  inv k _ := iprop(hbPt (F := F) c mM gM ∗ hbPt (F := F) c mS gS ∗ (∃ f, hbPt (F := F) c mG f) ∗ (∃ f, hbPt (F := F) c mBl f)
    ∗ (∃ f, hbPt (F := F) c mLse f ∗ ⌜f = upTo gL (finV gM gS) k⌝) ∗ (∃ f, hbPt (F := F) c mE f) ∗ (∃ f, hbPt (F := F) c mEb f))
  step k acc := by
    have hk := Nat.lt_of_lt_of_le k.isLt k0_t4_abs.2.1
    unfold k0_t4_body
    iintro ⟨H1, H2, ⟨%f3, H3⟩, ⟨%f4, H4⟩, ⟨%f5, H5, %e5⟩, ⟨%f6, H6⟩, ⟨%f7, H7⟩⟩
    sl_exec
    sl_step
    isplitl [H1]; · iexact H1
    isplitl [H2]; · iexact H2
    isplitl [H3]; · iexists _; iexact H3
    isplitl [H4]; · iexists _; iexact H4
    isplitl [H5]
    · iexists _; isplitl [H5]; · iexact H5
      ipureintro
      refine upTo_store mLse.view k (k0_off15_eq k) (k0_off15_inb k) f5 _ gL _ e5 fun j y h0 h1 => ?_
      rw [rd_rows mM.view k hk (k0_off15_eq k) (k0_off15_inb k) gM, rd_rows mS.view k hk (k0_off15_eq k) (k0_off15_inb k) gS]
      exact fin_at gM gS k hk j y h0 h1
    isplitl [H6]; · iexists _; iexact H6
    iexists _; iexact H7

set_option warn.classDefReducibility false in
@[sl_loop] def vloop15 (gM gS gL : Vec F S256x128 .f32) (v121 : IVec S8x128 32) (v262 : IVec S8x128 1) (v270 : IVec S8x128 32) (v273 : IVec S8x128 1) (v281 : IVec S8x128 32) (v286 : IVec S8x128 32) (v291 : IVec S8x128 32) (v435 : IVec S8x128 1) (v439 : IVec S8x128 1) (v472 : IVec S8x128 32) (v474 : IVec S8x128 1) (v1688 : BitVec 32) (v2178_3 : FVec F S8x128 .f32) (v2178_4 : FVec F S8x128 .f32) (v2178_5 : FVec F S8x128 .f32) (v2217 : FVec F S8x128 .f32) (v2226 : FVec F S8x128 .f32) (v2232 : IVec S8x128 32) (v2252 : FVec F S8x128 .f32) (v2256 : IVec S8x128 1) (v2265 : FVec F S8x128 .f32) (v2266 : IVec S8x128 32) :
    LoopInvTy_k0_t15 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v262 v270 v273 v281 v286 v291 v435 v439 v472 v474 v1688 v2178_3 v2178_4 v2178_5 v2217 v2226 v2232 v2252 v2256 v2265 v2266 where
  inv k _ := iprop(hbPt (F := F) c mM gM ∗ hbPt (F := F) c mS gS ∗ (∃ f, hbPt (F := F) c mG f) ∗ (∃ f, hbPt (F := F) c mBl f)
    ∗ (∃ f, hbPt (F := F) c mLse f ∗ ⌜f = upTo gL (finV gM gS) k⌝) ∗ (∃ f, hbPt (F := F) c mE f) ∗ (∃ f, hbPt (F := F) c mEb f))
  step k acc := by
    have hk := Nat.lt_of_lt_of_le k.isLt k0_t15_abs.2.1
    unfold k0_t15_body
    iintro ⟨H1, H2, ⟨%f3, H3⟩, ⟨%f4, H4⟩, ⟨%f5, H5, %e5⟩, ⟨%f6, H6⟩, ⟨%f7, H7⟩⟩
    sl_exec
    sl_step
    isplitl [H1]; · iexact H1
    isplitl [H2]; · iexact H2
    isplitl [H3]; · iexists _; iexact H3
    isplitl [H4]; · iexists _; iexact H4
    isplitl [H5]
    · iexists _; isplitl [H5]; · iexact H5
      ipureintro
      refine upTo_store mLse.view k (k0_off52_eq k) (k0_off52_inb k) f5 _ gL _ e5 fun j y h0 h1 => ?_
      rw [pay121_eq]
      rw [rd_rows mM.view k hk (k0_off52_eq k) (k0_off52_inb k) gM, rd_rows mS.view k hk (k0_off52_eq k) (k0_off52_inb k) gS]
      exact fin_at gM gS k hk j y h0 h1
    isplitl [H6]; · iexists _; iexact H6
    iexists _; iexact H7

end

end Cert.KernelIdeal.Hand

end
-- ==== Proof.KernelIdeal.Values.lean ====
/-
  The closed form of the second result: the scales of a row block along all lanes, the running maximum and sum over all chunks of a row
  block, the finished sums and the rows written.
-/
module

public import proofs.«01_k».proof.Proof.KernelIdeal.Chunks
public import proofs.«01_k».proof.Proof.KernelIdeal.Fin
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- The scale of row `i` of row block `m`, along all lanes. -/
def xsV (d2 : Vec F S512x4 .f32) (m : ℕ) : Vec F S256x128 .f32 := fun y =>
  d2 (ix2 ⟨(64 * m + (y 0).val / 4) % 512, Nat.mod_lt _ (by decide)⟩ ⟨(y 0).val % 4, Nat.mod_lt _ (by decide)⟩)

/-- The running maximum of row block `m` after all chunks. -/
def mFin (d2 : Vec F S512x4 .f32) (fx : Vec F S2048x2560 .fp8e4m3) (fw : Vec F S2560x4096 .fp8e4m3) (gws gb : Vec F S1x4096 .f32) (m : ℕ) : Vec F S256x128 .f32 :=
  mIter (accOf fx fw m) (xsV d2 m) (colsOf gws) (colsOf gb) (mFst (accOf fx fw m 0) (xsV d2 m) (colsOf gws 0) (colsOf gb 0)) 7
/-- The running sum of row block `m` after all chunks. -/
def sFin (d2 : Vec F S512x4 .f32) (fx : Vec F S2048x2560 .fp8e4m3) (fw : Vec F S2560x4096 .fp8e4m3) (gws gb : Vec F S1x4096 .f32) (m : ℕ) : Vec F S256x128 .f32 :=
  sIter (accOf fx fw m) (xsV d2 m) (colsOf gws) (colsOf gb) (mFst (accOf fx fw m 0) (xsV d2 m) (colsOf gws 0) (colsOf gb 0))
    (sFst (accOf fx fw m 0) (xsV d2 m) (colsOf gws 0) (colsOf gb 0)) 7

/-- The rows written from the finished sums of one row block. -/
def zOf (g : Vec F S256x128 .f32) : Vec F S64x4 .f32 := fun j =>
  FloatOps.subf (FloatOps.mulf (g (ix2 ⟨(4 * (j 0).val + (j 1).val) % 256, Nat.mod_lt _ (by decide)⟩ ⟨(j 1).val % 128, Nat.mod_lt _ (by decide)⟩)) (Named.named κ "ln2" 0x3F317218#32))
    (Scalar.ofBits .f32 0x41051592#32)

/-- The second result. -/
def zAll (d2 : Vec F S512x4 .f32) (fx : Vec F S2048x2560 .fp8e4m3) (fw : Vec F S2560x4096 .fp8e4m3) (gws gb : Vec F S1x4096 .f32) : Vec F S512x4 .f32 := fun y =>
  zOf (finV (mFin d2 fx fw gws gb ((y 0).val / 64)) (sFin d2 fx fw gws gb ((y 0).val / 64))) (ix2 ⟨(y 0).val % 64, Nat.mod_lt _ (by decide)⟩ (y 1))

/-- The rows of the row blocks `1, …, k` at `B`, the others at `A`. -/
def zUp (A B : Vec F S512x4 .f32) : ℕ → Vec F S512x4 .f32
  | 0 => A
  | k + 1 => fun y => if 64 * k + 64 ≤ (y 0).val ∧ (y 0).val < 64 * k + 64 + 64 then B y else zUp A B k y

theorem zUp_apply (A B : Vec F S512x4 .f32) (k : ℕ) (y : S512x4.Idx) :
    zUp A B k y = if 64 ≤ (y 0).val ∧ (y 0).val < 64 * k + 64 then B y else A y := by
  induction k with
  | zero => rw [if_neg (by omega)]; rfl
  | succ k ih =>
    unfold zUp; rw [ih]
    by_cases h : 64 * k + 64 ≤ (y 0).val ∧ (y 0).val < 64 * k + 64 + 64
    · rw [if_pos h, if_pos (by omega)]
    · rw [if_neg h]
      by_cases h' : 64 ≤ (y 0).val ∧ (y 0).val < 64 * k + 64
      · rw [if_pos h', if_pos (by omega)]
      · rw [if_neg h', if_neg (by omega)]

/-- A store of a row block's rows moves `zUp` on by one. -/
theorem zUp_store {κ sp} (v : View sig κ sp S512x4 .f32) {off : Fin 2 → ℕ} (k : ℕ) (h : off = ![64 * k + 64, 0])
    (inb : ∀ a : Fin 2, off a + S64x4.size a ≤ S512x4.size a) (f : v.ty.Contents (Elt F)) (w : Vec F S64x4 .f32) (A B : Vec F S512x4 .f32)
    (hf : v.read (Elt F) f = zUp A B k)
    (hw : ∀ (j : S64x4.Idx) (y : S512x4.Idx), (y 0).val = 64 * k + 64 + (j 0).val → (y 1).val = (j 1).val → w j = B y) :
    v.read (Elt F) (v.writes (Elt F) f [(⟨Rect.unit (s := S512x4) off S64x4.size inb, w⟩ : View.Piece (Elt F) S512x4 .f32)]) = zUp A B (k + 1) := by
  funext y
  refine (View.read_writes_cons_rows (off := off) (size := S64x4.size) v f inb w [] y h (W := 64) rfl rfl).trans ?_
  unfold zUp
  split
  · rename_i hh
    exact hw _ y (by
      show (y 0).val = 64 * k + 64 + ((y 0).val - (64 * k + 64))
      omega) (by
      show (y 1).val = (y 1).val - 0
      omega)
  · exact congrFun hf y

/-- Row `4 i + b`, lane `l` of the strided rectangle. -/
theorem st_idx (b : Fin 4) (inb) (j : S64x128.Idx) : ((⟨![b.val, 0], S64x128.size, ![4, 1], inb⟩ : LoadRect S256x128).idx j)
    = ix2 (⟨(4 * (j 0).val + b.val) % 256, Nat.mod_lt _ (by decide)⟩ : Fin 256) (j 1) := by
  have h0 : (j 0).val < 64 := (j 0).isLt
  have hb := b.isLt
  funext a; fin_cases a
  · refine Fin.ext ?_
    show b.val + 4 * (j 0).val = (4 * (j 0).val + b.val) % 256
    omega
  · refine Fin.ext ?_
    show 0 + 1 * (j 1).val = (j 1).val
    omega

theorem st_emb (b : ℕ) (hb : b < 4) (inb pos) (y : S256x128.Idx) (h : (y 0).val % 4 = b) :
    (⟨(⟨![b, 0], S64x128.size, ![4, 1], inb⟩ : LoadRect S256x128), pos⟩ : Rect S256x128).emb
      (ix2 (⟨(y 0).val / 4, by have h : (y 0).val < 256 := (y 0).isLt; omega⟩ : Fin 64) (y 1)) = y := by
  funext a; fin_cases a
  · refine Fin.ext ?_
    show b + 4 * ((y 0).val / 4) = (y 0).val
    omega
  · refine Fin.ext ?_
    show 0 + 1 * (y 1).val = (y 1).val
    omega
theorem st_not_mem (b : ℕ) (hb : b < 4) (inb pos) (y : S256x128.Idx) (h : (y 0).val % 4 ≠ b) :
    y ∉ (⟨(⟨![b, 0], S64x128.size, ![4, 1], inb⟩ : LoadRect S256x128), pos⟩ : Rect S256x128).set := by
  intro hm
  obtain ⟨x, rfl⟩ := (⟨(⟨![b, 0], S64x128.size, ![4, 1], inb⟩ : LoadRect S256x128), pos⟩ : Rect S256x128).exists_idx_of_mem hm
  refine h ?_
  show (b + 4 * (x 0).val) % 4 = b
  omega

/-- What is read after one more store: its payload inside its rectangle, what was read before outside. -/
theorem read_one {κ sp} {s : Shape} {e : EltTy} (v : View sig κ sp s e) (f : v.ty.Contents (Elt F)) (p : View.Piece (Elt F) s e) (L : List (View.Piece (Elt F) s e)) (y : s.Idx) (b : Elt F e)
    (h : (∃ x, p.1.emb x = y ∧ p.2 x = b) ∨ (y ∉ p.1.set ∧ v.read (Elt F) (v.writes (Elt F) f L) y = b)) :
    v.read (Elt F) (v.writes (Elt F) f (p :: L)) y = b := by
  rcases h with ⟨x, rfl, rfl⟩ | ⟨hy, h⟩
  · obtain ⟨r, w⟩ := p
    rw [View.read_writes_cons_emb]
  · have hy' : y ∉ Finset.univ.map p.1.emb := by rwa [Rect.map_emb_univ]
    rw [View.writes_cons, View.read_slice_write_of_not_mem p.1 _ _ _ hy']
    exact h

/-- The four strided stores leave each row at the row of its store. -/
theorem st_read {κ sp} (v : View sig κ sp S256x128 .f32) (f : v.ty.Contents (Elt F)) (w0 w1 w2 w3 : Vec F S64x128 .f32) (i0 i1 i2 i3 pos) (B : Vec F S256x128 .f32)
    (h0 : ∀ y, (y 0).val % 4 = 0 → w0 (ix2 (⟨(y 0).val / 4, by have h : (y 0).val < 256 := (y 0).isLt; omega⟩ : Fin 64) (y 1)) = B y)
    (h1 : ∀ y, (y 0).val % 4 = 1 → w1 (ix2 (⟨(y 0).val / 4, by have h : (y 0).val < 256 := (y 0).isLt; omega⟩ : Fin 64) (y 1)) = B y)
    (h2 : ∀ y, (y 0).val % 4 = 2 → w2 (ix2 (⟨(y 0).val / 4, by have h : (y 0).val < 256 := (y 0).isLt; omega⟩ : Fin 64) (y 1)) = B y)
    (h3 : ∀ y, (y 0).val % 4 = 3 → w3 (ix2 (⟨(y 0).val / 4, by have h : (y 0).val < 256 := (y 0).isLt; omega⟩ : Fin 64) (y 1)) = B y) :
    v.read (Elt F) (v.writes (Elt F) f [(⟨⟨(⟨![3, 0], S64x128.size, ![4, 1], i3⟩ : LoadRect S256x128), pos⟩, w3⟩ : View.Piece (Elt F) S256x128 .f32),
      ⟨⟨(⟨![2, 0], S64x128.size, ![4, 1], i2⟩ : LoadRect S256x128), pos⟩, w2⟩, ⟨⟨(⟨![1, 0], S64x128.size, ![4, 1], i1⟩ : LoadRect S256x128), pos⟩, w1⟩,
      ⟨⟨(⟨![0, 0], S64x128.size, ![4, 1], i0⟩ : LoadRect S256x128), pos⟩, w0⟩]) = B := by
  funext y
  have : (y 0).val % 4 = 0 ∨ (y 0).val % 4 = 1 ∨ (y 0).val % 4 = 2 ∨ (y 0).val % 4 = 3 := by omega
  rcases this with h | h | h | h
  · exact read_one v f _ _ y _ (.inr ⟨st_not_mem 3 (by decide) i3 pos y (by omega), read_one v f _ _ y _ (.inr ⟨st_not_mem 2 (by decide) i2 pos y (by omega),
      read_one v f _ _ y _ (.inr ⟨st_not_mem 1 (by decide) i1 pos y (by omega), read_one v f _ _ y _ (.inl ⟨_, st_emb 0 (by decide) i0 pos y h, h0 y h⟩)⟩)⟩)⟩)
  · exact read_one v f _ _ y _ (.inr ⟨st_not_mem 3 (by decide) i3 pos y (by omega), read_one v f _ _ y _ (.inr ⟨st_not_mem 2 (by decide) i2 pos y (by omega),
      read_one v f _ _ y _ (.inl ⟨_, st_emb 1 (by decide) i1 pos y h, h1 y h⟩)⟩)⟩)
  · exact read_one v f _ _ y _ (.inr ⟨st_not_mem 3 (by decide) i3 pos y (by omega), read_one v f _ _ y _ (.inl ⟨_, st_emb 2 (by decide) i2 pos y h, h2 y h⟩)⟩)
  · exact read_one v f _ _ y _ (.inl ⟨_, st_emb 3 (by decide) i3 pos y h, h3 y h⟩)

/-- A row block's scales, as loaded. -/
theorem rd_d2 {κ sp} (v : View sig κ sp S512x4 .f32) {off : Fin 2 → ℕ} (m : ℕ) (hm : m < 8) (h : off = ![64 * m, 0])
    (inb : ∀ a : Fin 2, off a + S64x4.size a ≤ S512x4.size a) (f : v.ty.Contents (Elt F)) (i : Fin 64) (b : Fin 4) :
    v.readAt (Elt F) (Rect.unit (s := S512x4) off S64x4.size inb).toLoadRect f (ix2 i b) = v.read (Elt F) f (ix2 ⟨(64 * m + i.val) % 512, Nat.mod_lt _ (by decide)⟩ b) := by
  refine rd_unit v _ h inb f _ _ ?_
  have hi := i.isLt
  intro a; fin_cases a
  · show (64 * m + i.val) % 512 = 64 * m + i.val; omega
  · show b.val = 0 + b.val; omega

theorem pay130_at (v : Vec F S64x4 .f32) (i : Fin 64) (l : Fin 128) : k0_pay130 v (ix2 i l) = v (ix2 i 0) := by pointwise [k0_pay130]
theorem pay131_at (v : Vec F S64x4 .f32) (i : Fin 64) (l : Fin 128) : k0_pay131 v (ix2 i l) = v (ix2 i 1) := by pointwise [k0_pay131]
theorem pay132_at (v : Vec F S64x4 .f32) (i : Fin 64) (l : Fin 128) : k0_pay132 v (ix2 i l) = v (ix2 i 2) := by pointwise [k0_pay132]
theorem pay133_at (v : Vec F S64x4 .f32) (i : Fin 64) (l : Fin 128) : k0_pay133 v (ix2 i l) = v (ix2 i 3) := by pointwise [k0_pay133]
theorem pay363_at (v : Vec F S64x4 .f32) (i : Fin 64) (l : Fin 128) : k0_pay363 v (ix2 i l) = v (ix2 i 0) := by pointwise [k0_pay363]
theorem pay364_at (v : Vec F S64x4 .f32) (i : Fin 64) (l : Fin 128) : k0_pay364 v (ix2 i l) = v (ix2 i 1) := by pointwise [k0_pay364]
theorem pay366_at (v : Vec F S64x4 .f32) (i : Fin 64) (l : Fin 128) : k0_pay366 (k0_pay365 v) (ix2 i l) = v (ix2 i 2) := by pointwise [k0_pay366, k0_pay365]
theorem pay367_at (v : Vec F S64x4 .f32) (i : Fin 64) (l : Fin 128) : k0_pay367 v (ix2 i l) = v (ix2 i 3) := by pointwise [k0_pay367]

theorem xs_of {d2 : Vec F S512x4 .f32} {m : ℕ} {v : Vec F S64x4 .f32} {x : F .f32} (hv : ∀ (i : Fin 64) (b : Fin 4), v (ix2 i b) = d2 (ix2 ⟨(64 * m + i.val) % 512, Nat.mod_lt _ (by decide)⟩ b))
    (b : Fin 4) (y : S256x128.Idx) (h : (y 0).val % 4 = b.val) (i : Fin 64) (hi : i.val = (y 0).val / 4) (e : x = v (ix2 i b)) : x = xsV d2 m y := by
  rw [e, hv]
  unfold xsV
  congr 2
  · exact Fin.ext (by simp [hi])
  · exact Fin.ext h.symm

/-- The rows written, as a function of the finished sums. -/
theorem z241 (g : Vec F S256x128 .f32) (a0 a1 a2 a3 : Vec F S64x128 .f32)
    (h0 : ∀ (i : Fin 64) (l : Fin 128), a0 (ix2 i l) = g (ix2 ⟨(4 * i.val + 0) % 256, Nat.mod_lt _ (by decide)⟩ l))
    (h1 : ∀ (i : Fin 64) (l : Fin 128), a1 (ix2 i l) = g (ix2 ⟨(4 * i.val + 1) % 256, Nat.mod_lt _ (by decide)⟩ l))
    (h2 : ∀ (i : Fin 64) (l : Fin 128), a2 (ix2 i l) = g (ix2 ⟨(4 * i.val + 2) % 256, Nat.mod_lt _ (by decide)⟩ l))
    (h3 : ∀ (i : Fin 64) (l : Fin 128), a3 (ix2 i l) = g (ix2 ⟨(4 * i.val + 3) % 256, Nat.mod_lt _ (by decide)⟩ l)) (j : S64x4.Idx) :
    k0_pay379 (k0_pay241 a0 a1 a2 a3) (Scalar.ofBits .f32 0x41051592#32) j = zOf g j := by
  idx_vars j
  pointwise [k0_pay379, k0_pay241, zOf]
  refine congrArg (fun x => FloatOps.subf (FloatOps.mulf x _) _) ?_
  fin_cases j1
  · exact h0 j0 ⟨0, by decide⟩
  · exact h1 j0 ⟨1, by decide⟩
  · exact h2 j0 ⟨2, by decide⟩
  · exact h3 j0 ⟨3, by decide⟩
theorem z378 (a0 a1 a2 a3 : Vec F S64x128 .f32) : k0_pay378 a0 a1 a2 a3 = k0_pay379 (k0_pay241 a0 a1 a2 a3) (Scalar.ofBits .f32 0x41051592#32) := by
  unfold_payloads; rfl

end Cert.KernelIdeal.Hand

end
-- ==== Proof.KernelIdeal.Ideal.lean ====
/-
  The closed form of the second result over extended reals: each row's logarithm of the sum of exponentials.
-/
module

public import proofs.«01_k».proof.Proof.KernelIdeal.Lse
public import proofs.«01_k».proof.Proof.KernelIdeal.Values
public import proofs.«01_k».proof.Proof.Gen.ReferenceIdeal.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

theorem fold_sup {ι : Type} [Fintype ι] (f : ι → EReal) : Finset.univ.fold max (Ideal.ofBits FTy.f32 0xFF800000#32) f = Finset.univ.sup f := by
  have h : Ideal.ofBits FTy.f32 0xFF800000#32 = ⊥ := by simp [Ideal.ofBits, Ideal.ieee]
  rw [h]; rfl
theorem log2e_eq : Named.named (F := Ideal) (φ := .f32) κ "log2e" 0x3FB8AA3B#32 = eL := IdealRules.named_const.ideal_named_scalar _ _ _ _ rfl
theorem ln2_eq : Named.named (F := Ideal) (φ := .f32) κ "ln2" 0x3F317218#32 = eN := IdealRules.named_const.ideal_named_scalar _ _ _ _ rfl

/-- The finished row: the largest lane maximum, and the logarithm of the joined sums. -/
theorem pay24_at (a b : Vec Ideal S8x128 .f32) (r : Fin 8) (l : Fin 128) :
    k0_pay24 (F := Ideal) a b (ix2 r l) = (Finset.univ.sup fun l => a (ix2 r l))
      + Ideal.log (∑ l, b (ix2 r l) * Ideal.exp2 (a (ix2 r l) - Finset.univ.sup fun l => a (ix2 r l))) * eL := by
  pointwise [k0_pay24, k0_pay23]
  rw [fold_sup, log2e_eq]
  rfl

/-- An entry of a block of the product. -/
theorem pay373_at (x : Vec Ideal S256x2560 .fp8e4m3) (w : Vec Ideal S2560x512 .fp8e4m3) (r : Fin 256) (c : Fin 512) :
    k0_pay373 (F := Ideal) x w (ix2 r c) = ∑ k, x (ix2 r k) * w (ix2 k c) := by
  pointwise [k0_pay373]

theorem pay312_at (v : Vec Ideal S1x4096 .f32) (y) : k0_pay312 (F := Ideal) v y = v y * eL := by
  idx_vars y
  pointwise [k0_pay312]
  rw [log2e_eq]
theorem pay313_at (v : Vec Ideal S1x4096 .f32) (y) : k0_pay313 (F := Ideal) v y = v y * eL := by
  idx_vars y
  pointwise [k0_pay313]
  rw [log2e_eq]

/-- The column of lane `l`, chunk `n`, tile `q`. -/
def cc (p : Fin 128 × (ℕ × Fin 4)) : Fin 4096 := ⟨(512 * p.2.1 + (128 * p.2.2.val + p.1.val)) % 4096, Nat.mod_lt _ (by decide)⟩
/-- All lanes, chunks and tiles. -/
abbrev allp : Finset (Fin 128 × (ℕ × Fin 4)) := Finset.univ ×ˢ upd 7

theorem cc_inj : Set.InjOn cc allp := by
  rintro ⟨l, n, q⟩ h ⟨l', n', q'⟩ h' e
  have hn : n < 8 := by simpa using h
  have hn' : n' < 8 := by simpa using h'
  have hl := l.isLt
  have hl' := l'.isLt
  have hq := q.isLt
  have hq' := q'.isLt
  have e : (512 * n + (128 * q.val + l.val)) % 4096 = (512 * n' + (128 * q'.val + l'.val)) % 4096 := congrArg Fin.val e
  have e1 : l = l' := Fin.ext (by omega)
  have e2 : n = n' := by omega
  have e3 : q = q' := Fin.ext (by omega)
  rw [e1, e2, e3]
theorem cc_image : allp.image cc = Finset.univ := by
  refine Finset.eq_univ_of_forall fun x => Finset.mem_image.mpr ?_
  have hx := x.isLt
  refine ⟨(⟨x.val % 128, by omega⟩, (x.val / 512, ⟨x.val / 128 % 4, by omega⟩)), by simp; omega, Fin.ext ?_⟩
  show (512 * (x.val / 512) + (128 * (x.val / 128 % 4) + x.val % 128)) % 4096 = x.val
  omega
theorem cc_sum (g : Fin 4096 → EReal) : ∑ p ∈ allp, g (cc p) = ∑ x, g x := by
  rw [← cc_image, Finset.sum_image cc_inj]
theorem cc_sup (g : Fin 4096 → EReal) : (allp.sup fun p => g (cc p)) = Finset.univ.sup g := by
  rw [← cc_image, Finset.sup_image]; rfl

section
variable (d2 : Vec Ideal S512x4 .f32) (fx : Vec Ideal S2048x2560 .fp8e4m3) (fw : Vec Ideal S2560x4096 .fp8e4m3) (gws gb : Vec Ideal S1x4096 .f32)

/-- The scaled entry, in base two, of row `r` of row block `m`. -/
abbrev uOf (m : ℕ) (r : Fin 256) (l : Fin 128) (n : ℕ) (q : Fin 4) : EReal :=
  uAt (F := Ideal) (accOf fx fw m n) (xsV d2 m) (colsOf gws n) (colsOf gb n) r l q

theorem mIter_eq (m k : ℕ) (y : S256x128.Idx) :
    mIter (F := Ideal) (accOf fx fw m) (xsV d2 m) (colsOf gws) (colsOf gb) (mFst (accOf fx fw m 0) (xsV d2 m) (colsOf gws 0) (colsOf gb 0)) k y
      = (upd k).sup fun p => uOf d2 fx fw gws gb m (y 0) (y 1) p.1 p.2 := by
  induction k with
  | zero => exact (one_sup (uOf d2 fx fw gws gb m (y 0) (y 1))).symm
  | succ k ih =>
    refine Eq.trans ?_ (upd_sup (uOf d2 fx fw gws gb m (y 0) (y 1)) k).symm
    rw [← ih]; rfl
theorem sIter_eq (m k : ℕ) (y : S256x128.Idx) :
    sIter (F := Ideal) (accOf fx fw m) (xsV d2 m) (colsOf gws) (colsOf gb) (mFst (accOf fx fw m 0) (xsV d2 m) (colsOf gws 0) (colsOf gb 0))
      (sFst (accOf fx fw m 0) (xsV d2 m) (colsOf gws 0) (colsOf gb 0)) k y
      = ∑ p ∈ upd k, Ideal.exp2 (uOf d2 fx fw gws gb m (y 0) (y 1) p.1 p.2 - (upd k).sup fun p => uOf d2 fx fw gws gb m (y 0) (y 1) p.1 p.2) := by
  induction k with
  | zero => exact (one_sum (uOf d2 fx fw gws gb m (y 0) (y 1))).symm
  | succ k ih =>
    refine Eq.trans ?_ (upd_sum (uOf d2 fx fw gws gb m (y 0) (y 1)) k).symm
    rw [← ih, ← mIter_eq]; rfl

/-- The finished entry of a row. -/
theorem finV_eq (m : ℕ) (r : Fin 256) (l0 : Fin 128) :
    finV (F := Ideal) (mFin d2 fx fw gws gb m) (sFin d2 fx fw gws gb m) (ix2 r l0)
      = (allp.sup fun p => uOf d2 fx fw gws gb m r p.1 p.2.1 p.2.2)
        + Ideal.log (∑ p ∈ allp, Ideal.exp2 (uOf d2 fx fw gws gb m r p.1 p.2.1 p.2.2 - allp.sup fun p => uOf d2 fx fw gws gb m r p.1 p.2.1 p.2.2)) * eL := by
  have hr := r.isLt
  have eM : ∀ l, rowsOf (mFin d2 fx fw gws gb m) ⟨r.val / 8, by omega⟩ (ix2 ⟨r.val % 8, by omega⟩ l) = (upd 7).sup fun p => uOf d2 fx fw gws gb m r l p.1 p.2 := by
    intro l
    refine (mIter_eq d2 fx fw gws gb m 7 _).trans ?_
    have e : (⟨8 * (r.val / 8) + r.val % 8, by omega⟩ : Fin 256) = r := Fin.ext (by show 8 * (r.val / 8) + r.val % 8 = r.val; omega)
    show ((upd 7).sup fun p => uOf d2 fx fw gws gb m ⟨8 * (r.val / 8) + r.val % 8, by omega⟩ l p.1 p.2) = _
    rw [e]
  have eS : ∀ l, rowsOf (sFin d2 fx fw gws gb m) ⟨r.val / 8, by omega⟩ (ix2 ⟨r.val % 8, by omega⟩ l)
      = ∑ p ∈ upd 7, Ideal.exp2 (uOf d2 fx fw gws gb m r l p.1 p.2 - (upd 7).sup fun p => uOf d2 fx fw gws gb m r l p.1 p.2) := by
    intro l
    refine (sIter_eq d2 fx fw gws gb m 7 _).trans ?_
    have e : (⟨8 * (r.val / 8) + r.val % 8, by omega⟩ : Fin 256) = r := Fin.ext (by show 8 * (r.val / 8) + r.val % 8 = r.val; omega)
    show (∑ p ∈ upd 7, Ideal.exp2 (uOf d2 fx fw gws gb m ⟨8 * (r.val / 8) + r.val % 8, by omega⟩ l p.1 p.2 - (upd 7).sup fun p => uOf d2 fx fw gws gb m ⟨8 * (r.val / 8) + r.val % 8, by omega⟩ l p.1 p.2)) = _
    rw [e]
  have hs : (Finset.univ.sup fun l => (upd 7).sup fun p => uOf d2 fx fw gws gb m r l p.1 p.2) = allp.sup fun p => uOf d2 fx fw gws gb m r p.1 p.2.1 p.2.2 :=
    (Finset.sup_product_left _ _ (fun p : Fin 128 × (ℕ × Fin 4) => uOf d2 fx fw gws gb m r p.1 p.2.1 p.2.2)).symm
  refine (pay24_at (rowsOf (mFin d2 fx fw gws gb m) ⟨r.val / 8, by omega⟩) (rowsOf (sFin d2 fx fw gws gb m) ⟨r.val / 8, by omega⟩) ⟨r.val % 8, by omega⟩ l0).trans ?_
  simp only [eM, eS]
  rw [hs]
  congr 3
  rw [Finset.sum_product]
  refine Finset.sum_congr rfl fun l _ => ?_
  refine sum_rescale (upd 7) (fun p => uOf d2 fx fw gws gb m r l p.1 p.2) _ _ (fun i hi => Finset.le_sup (f := fun p : ℕ × Fin 4 => uOf d2 fx fw gws gb m r l p.1 p.2) hi) ?_
  rw [← hs]
  exact Finset.le_sup (f := fun l => (upd 7).sup fun p => uOf d2 fx fw gws gb m r l p.1 p.2) (Finset.mem_univ l)
end

section
variable (d2 : Vec Ideal S512x4 .f32) (fx : Vec Ideal S2048x2560 .fp8e4m3) (fw : Vec Ideal S2560x4096 .fp8e4m3) (ws b : Vec Ideal S1x4096 .f32)

/-- The logit of frame `i`, sequence `j` at column `c`. -/
def logit (i : Fin 512) (j : Fin 4) (c : Fin 4096) : EReal :=
  (∑ k, fx (ix2 ⟨4 * i.val + j.val, by omega⟩ k) * fw (ix2 k c)) * d2 (ix2 i j) * ws (ix2 0 c) + b (ix2 0 c)

theorem uOf_eq (i : Fin 512) (j : Fin 4) (r : Fin 256) (hr : r.val = 4 * (i.val % 64) + j.val) (p : Fin 128 × (ℕ × Fin 4)) :
    uOf d2 fx fw (k0_pay312 ws) (k0_pay313 b) (i.val / 64) r p.1 p.2.1 p.2.2 = logit d2 fx fw ws b i j (cc p) * eL := by
  have hi := i.isLt
  have hj := j.isLt
  have e1 : (⟨(256 * (i.val / 64) + r.val) % 2048, Nat.mod_lt _ (by decide)⟩ : Fin 2048) = ⟨4 * i.val + j.val, by omega⟩ := Fin.ext (by
    show (256 * (i.val / 64) + r.val) % 2048 = 4 * i.val + j.val
    omega)
  have e2 : (⟨(64 * (i.val / 64) + r.val / 4) % 512, Nat.mod_lt _ (by decide)⟩ : Fin 512) = i := Fin.ext (by
    show (64 * (i.val / 64) + r.val / 4) % 512 = i.val
    omega)
  have e3 : (⟨r.val % 4, Nat.mod_lt _ (by decide)⟩ : Fin 4) = j := Fin.ext (by
    show r.val % 4 = j.val
    omega)
  have ha : accOf fx fw (i.val / 64) p.2.1 (ix2 r (col p.2.2 p.1)) = ∑ k, fx (ix2 ⟨4 * i.val + j.val, by omega⟩ k) * fw (ix2 k (cc p)) := by
    refine (pay373_at _ _ _ _).trans (Finset.sum_congr rfl fun k _ => ?_)
    show fx (ix2 ⟨(256 * (i.val / 64) + r.val) % 2048, Nat.mod_lt _ (by decide)⟩ k) * fw (ix2 k (cc p)) = _
    rw [e1]
  have hx : xsV d2 (i.val / 64) (ix2 r p.1) = d2 (ix2 i j) := by
    show d2 (ix2 ⟨(64 * (i.val / 64) + r.val / 4) % 512, Nat.mod_lt _ (by decide)⟩ ⟨r.val % 4, Nat.mod_lt _ (by decide)⟩) = _
    rw [e2, e3]
  have hw : colsOf (k0_pay312 (F := Ideal) ws) p.2.1 (ix2 0 (col p.2.2 p.1)) = ws (ix2 0 (cc p)) * eL := pay312_at ws _
  have hb : colsOf (k0_pay313 (F := Ideal) b) p.2.1 (ix2 0 (col p.2.2 p.1)) = b (ix2 0 (cc p)) * eL := pay313_at b _
  unfold uOf uAt logit
  rw [ha, hx, hw, hb]
  simp only [Ideal.addf_def, Ideal.mulf_def]
  rw [add_eL, mul_assoc (_ * _) _ eL]

/-- An entry of the second result. -/
theorem zAll_at (i : Fin 512) (j : Fin 4) : zAll (F := Ideal) d2 fx fw (k0_pay312 ws) (k0_pay313 b) (ix2 i j)
    = Ideal.log (∑ c, Ideal.exp (logit d2 fx fw ws b i j c - Finset.univ.sup (logit d2 fx fw ws b i j))) + Finset.univ.sup (logit d2 fx fw ws b i j)
      - Ideal.ofBits .f32 0x41051592#32 := by
  have hi := i.isLt
  have hj := j.isLt
  have hr : ((4 * (i.val % 64) + j.val) % 256) = 4 * (i.val % 64) + j.val := by omega
  have e := (finV_eq d2 fx fw (k0_pay312 ws) (k0_pay313 b) (i.val / 64) ⟨(4 * (i.val % 64) + j.val) % 256, Nat.mod_lt _ (by decide)⟩ ⟨j.val % 128, Nat.mod_lt _ (by decide)⟩)
  simp only [uOf_eq d2 fx fw ws b i j ⟨(4 * (i.val % 64) + j.val) % 256, Nat.mod_lt _ (by decide)⟩ hr] at e
  show finV (mFin d2 fx fw (k0_pay312 ws) (k0_pay313 b) (i.val / 64)) (sFin d2 fx fw (k0_pay312 ws) (k0_pay313 b) (i.val / 64))
    (ix2 ⟨(4 * (i.val % 64) + j.val) % 256, Nat.mod_lt _ (by decide)⟩ ⟨j.val % 128, Nat.mod_lt _ (by decide)⟩) * Named.named (F := Ideal) (φ := .f32) κ "ln2" 0x3F317218#32 - Ideal.ofBits .f32 0x41051592#32 = _
  rw [ln2_eq, e, lse_eL allp (fun p => logit d2 fx fw ws b i j (cc p)), cc_sup, cc_sum (fun c => Ideal.exp (logit d2 fx fw ws b i j c - Finset.univ.sup (logit d2 fx fw ws b i j)))]
end

/-- An entry of the reference's result. -/
theorem ref_at (x : Vec Ideal Cert.ReferenceIdeal.S512x4x2560 .fp8e4m3) (w : Vec Ideal Cert.ReferenceIdeal.S2560x4096 .fp8e4m3) (xs : Vec Ideal Cert.ReferenceIdeal.S512x4 .f32)
    (ws b : Vec Ideal Cert.ReferenceIdeal.S4096 .f32) (i : Fin 512) (j : Fin 4) (y : Fin 4096 → EReal)
    (hy : ∀ c, y c = (∑ k, x (ix3 i j k) * w (ix2 k c)) * xs (ix2 i j) * ws (ix1 c) + b (ix1 c)) :
    Cert.ReferenceIdeal.Gen.k0_pay1 (F := Ideal) x w xs ws b (ix2 i j)
      = Ideal.log (∑ c, Ideal.exp (y c - Finset.univ.sup y)) + Finset.univ.sup y - Ideal.ofBits .f32 0x41051592#32 := by
  pointwise [Cert.ReferenceIdeal.Gen.k0_pay1]
  simp only [← hy, fold_sup]

end Cert.KernelIdeal.Hand

end
-- ==== Proof.KernelIdeal.Scans.lean ====
/-
  The loops over frames of `cc0_ctc_head`: which buffers a trip reads. Every buffer is held whole at some contents.
-/
module

public import proofs.«01_k».proof.Proof.KernelIdeal.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- The buffers the loops over frames read. -/
abbrev scanPt (c : Dev nD) : sProp 𝕄 := iprop((∃ f, hbPt (F := F) c mE f) ∗ (∃ f, hbPt (F := F) c mEb f))

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def loop9 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (arg28 : FVec F S8x128 .f32) (arg30 : FVec F S8x128 .f32) (arg31 : FVec F S8x128 .f32) (arg32 : FVec F S8x128 .f32) (v1688 : BitVec 32) (v1727 : FVec F S8x128 .f32) (v1736 : FVec F S8x128 .f32) (v1742 : IVec S8x128 32) (v1752 : FVec F S8x128 .f32) (v1760 : IVec S8x128x1 32) (init : FVec F S8x128 FTy.f32 × FVec F S8x128 FTy.f32 × FVec F S8x128 FTy.f32 × FVec F S8x128 FTy.f32 × FVec F S8x128 FTy.f32 × FVec F S8x128 FTy.f32) :
    LoopInvTy_k0_t9 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 arg28 arg30 arg31 arg32 v1688 v1727 v1736 v1742 v1752 v1760 init where
  inv _ _ := scanPt (F := F) c
  step k acc := by
    have hk := Nat.lt_of_lt_of_le k.isLt k0_t9_abs.2.1
    unfold k0_t9_body
    iintro ⟨⟨%f1, H1⟩, ⟨%f2, H2⟩⟩
    sl_exec
    sl_step
    sl_close

set_option warn.classDefReducibility false in
@[sl_loop] def loop10 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (v1688 : BitVec 32) (v1786_1 : FVec F S8x128 .f32) (v1786_3 : FVec F S8x128 .f32) (v1786_4 : FVec F S8x128 .f32) (v1786_5 : FVec F S8x128 .f32) (v1825 : FVec F S8x128 .f32) (v1834 : FVec F S8x128 .f32) (v1840 : IVec S8x128 32) (v1850 : FVec F S8x128 .f32) (v1852 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t10 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 v1688 v1786_1 v1786_3 v1786_4 v1786_5 v1825 v1834 v1840 v1850 v1852 init where
  inv _ _ := scanPt (F := F) c
  step k acc := by
    have hk := Nat.lt_of_lt_of_le k.isLt k0_t10_abs.2.1
    unfold k0_t10_body
    iintro ⟨⟨%f1, H1⟩, ⟨%f2, H2⟩⟩
    sl_exec
    sl_step
    sl_close

set_option warn.classDefReducibility false in
@[sl_loop] def loop11 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (v1688 : BitVec 32) (v1884_1 : FVec F S8x128 .f32) (v1884_3 : FVec F S8x128 .f32) (v1884_4 : FVec F S8x128 .f32) (v1884_5 : FVec F S8x128 .f32) (v1923 : FVec F S8x128 .f32) (v1932 : FVec F S8x128 .f32) (v1938 : IVec S8x128 32) (v1940 : IVec S8x128 32) (v1942 : IVec S8x128 1) (v1943 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t11 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 v1688 v1884_1 v1884_3 v1884_4 v1884_5 v1923 v1932 v1938 v1940 v1942 v1943 init where
  inv _ _ := scanPt (F := F) c
  step k acc := by
    have hk := Nat.lt_of_lt_of_le k.isLt k0_t11_abs.2.1
    unfold k0_t11_body
    iintro ⟨⟨%f1, H1⟩, ⟨%f2, H2⟩⟩
    sl_exec
    sl_step
    sl_close

set_option warn.classDefReducibility false in
@[sl_loop] def loop12 (v121 : IVec S8x128 32) (v137 : IVec S8x128 32) (v243 : IVec S8x128 32) (v259 : IVec S8x128 32) (v435 : IVec S8x128 1) (v439 : IVec S8x128 1) (v472 : IVec S8x128 32) (v474 : IVec S8x128 1) (v1688 : BitVec 32) (v1982_1 : FVec F S8x128 .f32) (v1982_3 : FVec F S8x128 .f32) (v1982_4 : FVec F S8x128 .f32) (v1982_5 : FVec F S8x128 .f32) (v2021 : FVec F S8x128 .f32) (v2030 : FVec F S8x128 .f32) (v2036 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t12 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v243 v259 v435 v439 v472 v474 v1688 v1982_1 v1982_3 v1982_4 v1982_5 v2021 v2030 v2036 init where
  inv _ _ := scanPt (F := F) c
  step k acc := by
    have hk := Nat.lt_of_lt_of_le k.isLt k0_t12_abs.2.1
    unfold k0_t12_body
    iintro ⟨⟨%f1, H1⟩, ⟨%f2, H2⟩⟩
    sl_exec
    sl_step
    sl_close

set_option warn.classDefReducibility false in
@[sl_loop] def loop13 (v121 : IVec S8x128 32) (v137 : IVec S8x128 32) (v217 : IVec S8x128 32) (v259 : IVec S8x128 32) (v435 : IVec S8x128 1) (v439 : IVec S8x128 1) (v472 : IVec S8x128 32) (v474 : IVec S8x128 1) (v1688 : BitVec 32) (v2080_3 : FVec F S8x128 .f32) (v2080_4 : FVec F S8x128 .f32) (v2080_5 : FVec F S8x128 .f32) (v2119 : FVec F S8x128 .f32) (v2128 : FVec F S8x128 .f32) (v2158 : IVec S8x128 1) (v2167 : FVec F S8x128 .f32) (v2175 : FVec F S8x128 .f32) (init : FVec F S8x128 FTy.f32 × FVec F S8x128 FTy.f32 × FVec F S8x128 FTy.f32 × FVec F S8x128 FTy.f32 × FVec F S8x128 FTy.f32 × FVec F S8x128 FTy.f32) :
    LoopInvTy_k0_t13 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v1688 v2080_3 v2080_4 v2080_5 v2119 v2128 v2158 v2167 v2175 init where
  inv _ _ := scanPt (F := F) c
  step k acc := by
    have hk := Nat.lt_of_lt_of_le k.isLt k0_t13_abs.2.1
    unfold k0_t13_body
    iintro ⟨⟨%f1, H1⟩, ⟨%f2, H2⟩⟩
    sl_exec
    sl_step
    sl_close

set_option warn.classDefReducibility false in
@[sl_loop] def loop14 (v121 : IVec S8x128 32) (v262 : IVec S8x128 1) (v270 : IVec S8x128 32) (v273 : IVec S8x128 1) (v281 : IVec S8x128 32) (v286 : IVec S8x128 32) (v291 : IVec S8x128 32) (v435 : IVec S8x128 1) (v439 : IVec S8x128 1) (v472 : IVec S8x128 32) (v474 : IVec S8x128 1) (v1688 : BitVec 32) (v2178_3 : FVec F S8x128 .f32) (v2178_4 : FVec F S8x128 .f32) (v2178_5 : FVec F S8x128 .f32) (v2217 : FVec F S8x128 .f32) (v2226 : FVec F S8x128 .f32) (v2232 : IVec S8x128 32) (v2252 : FVec F S8x128 .f32) (v2256 : IVec S8x128 1) (v2265 : FVec F S8x128 .f32) (v2266 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t14 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v262 v270 v273 v281 v286 v291 v435 v439 v472 v474 v1688 v2178_3 v2178_4 v2178_5 v2217 v2226 v2232 v2252 v2256 v2265 v2266 init where
  inv _ _ := scanPt (F := F) c
  step k acc := by
    have hk := Nat.lt_of_lt_of_le k.isLt k0_t14_abs.2.1
    unfold k0_t14_body
    iintro ⟨⟨%f1, H1⟩, ⟨%f2, H2⟩⟩
    sl_exec
    sl_step
    sl_close

set_option warn.classDefReducibility false in
@[sl_loop] def loop16 (v121 : IVec S8x128 32) (v137 : IVec S8x128 32) (v243 : IVec S8x128 32) (v259 : IVec S8x128 32) (v435 : IVec S8x128 1) (v439 : IVec S8x128 1) (v472 : IVec S8x128 32) (v474 : IVec S8x128 1) (v566_1 : FVec F S8x128 .f32) (v566_3 : FVec F S8x128 .f32) (v566_4 : FVec F S8x128 .f32) (v566_5 : FVec F S8x128 .f32) (v605 : FVec F S8x128 .f32) (v614 : FVec F S8x128 .f32) (v620 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t16 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v243 v259 v435 v439 v472 v474 v566_1 v566_3 v566_4 v566_5 v605 v614 v620 init where
  inv _ _ := scanPt (F := F) c
  step k acc := by
    have hk := Nat.lt_of_lt_of_le k.isLt k0_t16_abs.2.1
    unfold k0_t16_body
    iintro ⟨⟨%f1, H1⟩, ⟨%f2, H2⟩⟩
    sl_exec
    sl_step
    sl_close

set_option warn.classDefReducibility false in
@[sl_loop] def loop17 (v121 : IVec S8x128 32) (v137 : IVec S8x128 32) (v217 : IVec S8x128 32) (v259 : IVec S8x128 32) (v435 : IVec S8x128 1) (v439 : IVec S8x128 1) (v472 : IVec S8x128 32) (v474 : IVec S8x128 1) (v664_3 : FVec F S8x128 .f32) (v664_4 : FVec F S8x128 .f32) (v664_5 : FVec F S8x128 .f32) (v703 : FVec F S8x128 .f32) (v712 : FVec F S8x128 .f32) (v742 : IVec S8x128 1) (v751 : FVec F S8x128 .f32) (v759 : FVec F S8x128 .f32) (init : FVec F S8x128 FTy.f32 × FVec F S8x128 FTy.f32 × FVec F S8x128 FTy.f32 × FVec F S8x128 FTy.f32 × FVec F S8x128 FTy.f32 × FVec F S8x128 FTy.f32) :
    LoopInvTy_k0_t17 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v664_3 v664_4 v664_5 v703 v712 v742 v751 v759 init where
  inv _ _ := scanPt (F := F) c
  step k acc := by
    have hk := Nat.lt_of_lt_of_le k.isLt k0_t17_abs.2.1
    unfold k0_t17_body
    iintro ⟨⟨%f1, H1⟩, ⟨%f2, H2⟩⟩
    sl_exec
    sl_step
    sl_close

set_option warn.classDefReducibility false in
@[sl_loop] def loop18 (v121 : IVec S8x128 32) (v137 : IVec S8x128 32) (v217 : IVec S8x128 32) (v259 : IVec S8x128 32) (v435 : IVec S8x128 1) (v439 : IVec S8x128 1) (v472 : IVec S8x128 32) (v474 : IVec S8x128 1) (v762_3 : FVec F S8x128 .f32) (v762_4 : FVec F S8x128 .f32) (v762_5 : FVec F S8x128 .f32) (v801 : FVec F S8x128 .f32) (v810 : FVec F S8x128 .f32) (v816 : IVec S8x128 32) (v836 : FVec F S8x128 .f32) (v840 : IVec S8x128 1) (v849 : FVec F S8x128 .f32) (v850 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t18 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v762_3 v762_4 v762_5 v801 v810 v816 v836 v840 v849 v850 init where
  inv _ _ := scanPt (F := F) c
  step k acc := by
    have hk := Nat.lt_of_lt_of_le k.isLt k0_t18_abs.2.1
    unfold k0_t18_body
    iintro ⟨⟨%f1, H1⟩, ⟨%f2, H2⟩⟩
    sl_exec
    sl_step
    sl_close

set_option warn.classDefReducibility false in
@[sl_loop] def loop19 (v121 : IVec S8x128 32) (v137 : IVec S8x128 32) (v217 : IVec S8x128 32) (v259 : IVec S8x128 32) (v435 : IVec S8x128 1) (v439 : IVec S8x128 1) (v472 : IVec S8x128 32) (v474 : IVec S8x128 1) (v860_1 : FVec F S8x128 .f32) (v860_3 : FVec F S8x128 .f32) (v860_4 : FVec F S8x128 .f32) (v860_5 : FVec F S8x128 .f32) (v899 : FVec F S8x128 .f32) (v908 : FVec F S8x128 .f32) (v914 : IVec S8x128 32) (v924 : FVec F S8x128 .f32) (v934 : FVec F S8x128 .f32) (v938 : IVec S8x128 1) (v940 : IVec S8x128 1) (v941 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t19 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v259 v435 v439 v472 v474 v860_1 v860_3 v860_4 v860_5 v899 v908 v914 v924 v934 v938 v940 v941 init where
  inv _ _ := scanPt (F := F) c
  step k acc := by
    have hk := Nat.lt_of_lt_of_le k.isLt k0_t19_abs.2.1
    unfold k0_t19_body
    iintro ⟨⟨%f1, H1⟩, ⟨%f2, H2⟩⟩
    sl_exec
    sl_step
    sl_close

set_option warn.classDefReducibility false in
@[sl_loop] def loop20 (v121 : IVec S8x128 32) (v137 : IVec S8x128 32) (v217 : IVec S8x128 32) (v243 : IVec S8x128 32) (v259 : IVec S8x128 32) (v435 : IVec S8x128 1) (v439 : IVec S8x128 1) (v472 : IVec S8x128 32) (v474 : IVec S8x128 1) (v958_1 : FVec F S8x128 .f32) (v958_3 : FVec F S8x128 .f32) (v958_4 : FVec F S8x128 .f32) (v958_5 : FVec F S8x128 .f32) (v997 : FVec F S8x128 .f32) (v1006 : FVec F S8x128 .f32) (v1012 : IVec S8x128 32) (v1022 : FVec F S8x128 .f32) (v1032 : FVec F S8x128 .f32) (v1033 : IVec S8x128 32) (init : FVec F S8x128 FTy.f32 × FVec F S8x128 FTy.f32 × FVec F S8x128 FTy.f32 × FVec F S8x128 FTy.f32 × FVec F S8x128 FTy.f32 × FVec F S8x128 FTy.f32) :
    LoopInvTy_k0_t20 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v217 v243 v259 v435 v439 v472 v474 v958_1 v958_3 v958_4 v958_5 v997 v1006 v1012 v1022 v1032 v1033 init where
  inv _ _ := scanPt (F := F) c
  step k acc := by
    have hk := Nat.lt_of_lt_of_le k.isLt k0_t20_abs.2.1
    unfold k0_t20_body
    iintro ⟨⟨%f1, H1⟩, ⟨%f2, H2⟩⟩
    sl_exec
    sl_step
    sl_close

set_option warn.classDefReducibility false in
@[sl_loop] def loop21 (v64 : IVec S8x128 32) (v121 : IVec S8x128 32) (v137 : IVec S8x128 32) (v243 : IVec S8x128 32) (v435 : IVec S8x128 1) (v439 : IVec S8x128 1) (v472 : IVec S8x128 32) (v474 : IVec S8x128 1) (v1056_1 : FVec F S8x128 .f32) (v1056_3 : FVec F S8x128 .f32) (v1056_4 : FVec F S8x128 .f32) (v1056_5 : FVec F S8x128 .f32) (v1095 : FVec F S8x128 .f32) (v1104 : FVec F S8x128 .f32) (v1110 : IVec S8x128 32) (v1120 : FVec F S8x128 .f32) (v1122 : IVec S8x128 32) (v1124 : IVec S8x128 1) (c8_i32_430 : BitVec 32) (init : FVec F S8x128 FTy.f32 × FVec F S8x128 FTy.f32 × FVec F S8x128 FTy.f32 × FVec F S8x128 FTy.f32 × FVec F S8x128 FTy.f32 × FVec F S8x128 FTy.f32) :
    LoopInvTy_k0_t21 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v64 v121 v137 v243 v435 v439 v472 v474 v1056_1 v1056_3 v1056_4 v1056_5 v1095 v1104 v1110 v1120 v1122 v1124 c8_i32_430 init where
  inv _ _ := scanPt (F := F) c
  step k acc := by
    have hk := Nat.lt_of_lt_of_le k.isLt k0_t21_abs.2.1
    unfold k0_t21_body
    iintro ⟨⟨%f1, H1⟩, ⟨%f2, H2⟩⟩
    sl_exec
    sl_step
    sl_close

end

end Cert.KernelIdeal.Hand

end
-- ==== Proof.KernelIdeal.Rows5.lean ====
/-
  The loop over the row blocks after the first, with the rows of the second result it writes.
-/
module

public import proofs.«01_k».proof.Proof.KernelIdeal.Values
public import proofs.«01_k».proof.Proof.KernelIdeal.Scans

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

theorem ls_read (f : mLse.view.ty.Contents (Elt F)) : mLse.view.read (Elt F) f = f := rfl
theorem xs_read (f : mXs.view.ty.Contents (Elt F)) : f = mXs.view.read (Elt F) f := rfl

/-- The scales of row block `m` as a trip stores them. -/
theorem xs_trip (f1 : mXs.view.ty.Contents (Elt F)) (v : Vec F S64x4 .f32) (d2 : Vec F S512x4 .f32) (m : ℕ) (i0 i1 i2 i3 pos)
    (hv : ∀ (i : Fin 64) (b : Fin 4), v (ix2 i b) = d2 (ix2 ⟨(64 * m + i.val) % 512, Nat.mod_lt _ (by decide)⟩ b)) :
    mXs.view.read (Elt F) (mXs.view.writes (Elt F) f1 [(⟨⟨(⟨![3, 0], S64x128.size, ![4, 1], i3⟩ : LoadRect S256x128), pos⟩, k0_pay133 v⟩ : View.Piece (Elt F) S256x128 .f32),
      ⟨⟨(⟨![2, 0], S64x128.size, ![4, 1], i2⟩ : LoadRect S256x128), pos⟩, k0_pay132 v⟩, ⟨⟨(⟨![1, 0], S64x128.size, ![4, 1], i1⟩ : LoadRect S256x128), pos⟩, k0_pay131 v⟩,
      ⟨⟨(⟨![0, 0], S64x128.size, ![4, 1], i0⟩ : LoadRect S256x128), pos⟩, k0_pay130 v⟩]) = xsV d2 m :=
  st_read mXs.view f1 _ _ _ _ i0 i1 i2 i3 pos _
    (fun y h => xs_of hv 0 y h ⟨(y 0).val / 4, by have h : (y 0).val < 256 := (y 0).isLt; omega⟩ rfl (pay130_at v _ _))
    (fun y h => xs_of hv 1 y h ⟨(y 0).val / 4, by have h : (y 0).val < 256 := (y 0).isLt; omega⟩ rfl (pay131_at v _ _))
    (fun y h => xs_of hv 2 y h ⟨(y 0).val / 4, by have h : (y 0).val < 256 := (y 0).isLt; omega⟩ rfl (pay132_at v _ _))
    (fun y h => xs_of hv 3 y h ⟨(y 0).val / 4, by have h : (y 0).val < 256 := (y 0).isLt; omega⟩ rfl (pay133_at v _ _))

theorem m_first {A : Vec F S256x128 .f32} {acc acc' : Vec F S256x512 .f32} {xs xs' : Vec F S256x128 .f32} {w w' b b' : Vec F S1x512 .f32} {n : ℕ}
    (hn : n = 32) (ha : acc = acc') (hx : xs = xs') (hw : w = w') (hb : b = b') : upTo A (mFst acc xs w b) n = mFst acc' xs' w' b' := by
  subst hn ha hx hw hb; exact upTo_all _ _
theorem s_first {A : Vec F S256x128 .f32} {acc acc' : Vec F S256x512 .f32} {xs xs' : Vec F S256x128 .f32} {w w' b b' : Vec F S1x512 .f32} {n : ℕ}
    (hn : n = 32) (ha : acc = acc') (hx : xs = xs') (hw : w = w') (hb : b = b') : upTo A (sFst acc xs w b) n = sFst acc' xs' w' b' := by
  subst hn ha hx hw hb; exact upTo_all _ _
theorem m_fin {d2 : Vec F S512x4 .f32} {fx : Vec F S2048x2560 .fp8e4m3} {fw : Vec F S2560x4096 .fp8e4m3} {gws gb : Vec F S1x4096 .f32} {m n : ℕ}
    {xs g : Vec F S256x128 .f32} (hn : n = 7) (hx : xs = xsV d2 m) (hg : g = mFst (accOf fx fw m 0) (xsV d2 m) (colsOf gws 0) (colsOf gb 0)) :
    mIter (accOf fx fw m) xs (colsOf gws) (colsOf gb) g n = mFin d2 fx fw gws gb m := by
  subst hn hx hg; rfl
theorem s_fin {d2 : Vec F S512x4 .f32} {fx : Vec F S2048x2560 .fp8e4m3} {fw : Vec F S2560x4096 .fp8e4m3} {gws gb : Vec F S1x4096 .f32} {m n : ℕ}
    {xs g h : Vec F S256x128 .f32} (hn : n = 7) (hx : xs = xsV d2 m) (hg : g = mFst (accOf fx fw m 0) (xsV d2 m) (colsOf gws 0) (colsOf gb 0))
    (hh : h = sFst (accOf fx fw m 0) (xsV d2 m) (colsOf gws 0) (colsOf gb 0)) :
    sIter (accOf fx fw m) xs (colsOf gws) (colsOf gb) g h n = sFin d2 fx fw gws gb m := by
  subst hn hx hg hh; rfl
theorem l_fin {A M M' S S' : Vec F S256x128 .f32} {n : ℕ} (hn : n = 32) (hM : M = M') (hS : S = S') : upTo A (finV M S) n = finV M' S' := by
  subst hn hM hS; exact upTo_all _ _

theorem rd_st {κ sp} (v : View sig κ sp S256x128 .f32) (f : v.ty.Contents (Elt F)) (b : Fin 4) (inb) (i : Fin 64) (l : Fin 128) :
    v.readAt (Elt F) (⟨![b.val, 0], S64x128.size, ![4, 1], inb⟩ : LoadRect S256x128) f (ix2 i l)
      = v.read (Elt F) f (ix2 ⟨(4 * i.val + b.val) % 256, Nat.mod_lt _ (by decide)⟩ l) := by
  rw [View.readAt_apply, st_idx]; rfl

/-- The rows a trip writes are the closed form's. -/
theorem z_trip {d2 : Vec F S512x4 .f32} {fx : Vec F S2048x2560 .fp8e4m3} {fw : Vec F S2560x4096 .fp8e4m3} {gws gb : Vec F S1x4096 .f32} {m : ℕ}
    {gL : mLse.view.ty.Contents (Elt F)} (i0 i1 i2 i3)
    (hL : mLse.view.read (Elt F) gL = finV (mFin d2 fx fw gws gb m) (sFin d2 fx fw gws gb m)) (j : S64x4.Idx) (y : S512x4.Idx) (h0 : (y 0).val = 64 * m + (j 0).val) (h1 : (y 1).val = (j 1).val) :
    k0_pay379 (k0_pay241 (mLse.view.readAt (Elt F) (⟨![0, 0], S64x128.size, ![4, 1], i0⟩ : LoadRect S256x128) gL)
      (mLse.view.readAt (Elt F) (⟨![1, 0], S64x128.size, ![4, 1], i1⟩ : LoadRect S256x128) gL)
      (mLse.view.readAt (Elt F) (⟨![2, 0], S64x128.size, ![4, 1], i2⟩ : LoadRect S256x128) gL)
      (mLse.view.readAt (Elt F) (⟨![3, 0], S64x128.size, ![4, 1], i3⟩ : LoadRect S256x128) gL)) (Scalar.ofBits .f32 0x41051592#32) j
    = zAll d2 fx fw gws gb y := by
  refine (z241 (mLse.view.read (Elt F) gL) _ _ _ _ (rd_st mLse.view gL 0 i0) (rd_st mLse.view gL 1 i1) (rd_st mLse.view gL 2 i2) (rd_st mLse.view gL 3 i3) j).trans ?_
  have hj : (j 0).val < 64 := (j 0).isLt
  have hd : (y 0).val / 64 = m := by omega
  have e : (ix2 ⟨(y 0).val % 64, Nat.mod_lt _ (by decide)⟩ (y 1) : S64x4.Idx) = j := by
    funext a; fin_cases a
    · exact Fin.ext (show (y 0).val % 64 = (j 0).val by omega)
    · exact Fin.ext h1
  unfold zAll
  simp only [e, hd, hL]

section
variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

set_option warn.classDefReducibility false in
@[sl_loop] def vloop5 (fa2 : arg2.view.ty.Contents (Elt F)) (fx : HbBuf (F := F) c hX) (fw : HbBuf (F := F) c hW) (gws : HbBuf (F := F) c mWs)
    (gb : HbBuf (F := F) c mBias) (z0 : Vec F S512x4 .f32) (v121 : IVec S8x128 32) (v137 : IVec S8x128 32) (v175 : IVec S8x128 32) (v191 : IVec S8x128 32) (v217 : IVec S8x128 32) (v243 : IVec S8x128 32) (v259 : IVec S8x128 32) (v262 : IVec S8x128 1) (v270 : IVec S8x128 32) (v273 : IVec S8x128 1) (v281 : IVec S8x128 32) (v286 : IVec S8x128 32) (v291 : IVec S8x128 32) (v435 : IVec S8x128 1) (v439 : IVec S8x128 1) (v472 : IVec S8x128 32) (v474 : IVec S8x128 1) (v475 : FVec F S8x128 .f32) (v484 : FVec F S8x128 .f32) (v493 : FVec F S8x128 .f32) (init : FVec F S8x128 FTy.f32 × FVec F S8x128 FTy.f32 × FVec F S8x128 FTy.f32 × FVec F S8x128 FTy.f32 × FVec F S8x128 FTy.f32 × FVec F S8x128 FTy.f32) :
    LoopInvTy_k0_t5 (F := F) Unit ℕ (Pipeline.UD sig nD τ) ℕ Variants.none c none Set.univ hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14 v121 v137 v175 v191 v217 v243 v259 v262 v270 v273 v281 v286 v291 v435 v439 v472 v474 v475 v484 v493 init where
  inv k _ := iprop(pt c arg2 fa2 ∗ (∃ f9, pt c arg9 f9 ∗ ⌜arg9.view.read (Elt F) f9 = zUp z0 (zAll (arg2.view.read (Elt F) fa2) fx fw gws gb) k⌝)
    ∗ xState c fx (k + 1) ∗ hbPt c mW (toW fw) ∗ hbPt c mWs gws ∗ hbPt c mBias gb
    ∗ (∃ f, hbPt (F := F) c mXs f) ∗ (∃ f, hbPt (F := F) c mAcc f) ∗ (∃ f, hbPt (F := F) c mM f) ∗ (∃ f, hbPt (F := F) c mS f)
    ∗ (∃ f, hbPt (F := F) c mG f) ∗ (∃ f, hbPt (F := F) c mBl f) ∗ (∃ f, hbPt (F := F) c mLse f) ∗ (∃ f, hbPt (F := F) c mE f)
    ∗ (∃ f, hbPt (F := F) c mEb f) ∗ ∃ W, owes (c : Thread nD τ) 0 W)
  step k acc := by
    unfold k0_t5_body
    simp only [k0_part27_eq_skeleton, k0_part28_eq_skeleton, k0_part29_eq_skeleton, k0_part30_eq_skeleton, k0_part31_eq_skeleton, k0_part32_eq_skeleton,
      k0_part33_eq_skeleton, k0_part34_eq_skeleton, k0_part35_eq_skeleton, k0_part36_eq_skeleton, k0_part37_eq_skeleton, k0_part38_eq_skeleton,
      k0_part39_eq_skeleton, k0_part40_eq_skeleton, k0_part41_eq_skeleton]
    iintro ⟨Ha2, ⟨%f9, Ha9, %e9⟩, Hst, HW, HWs, HB, ⟨%f1, H1⟩, ⟨%f2, H2⟩, ⟨%f3, H3⟩, ⟨%f4, H4⟩, ⟨%f5, H5⟩, ⟨%f6, H6⟩, ⟨%f7, H7⟩, ⟨%f8, H8⟩, ⟨%f10, H10⟩, ⟨%W, HO⟩⟩
    ihave Hst := xState_take' c fx k $$ Hst
    icases Hst with ⟨Hlo, Hf, Hhi⟩
    have hx := x_in20 k
    sl_exec
    ihave Hst := xState_put' c fx k $$ [Hlo Hf_dst Hf_src Hf Hhi]
    · sl_close
    sl_step
    have hm := t5_lt k
    have hd : k0_pay134 (F := F) (View.readAt (Elt F) mX.view (Rect.unit (s := S2048x2560) (k0_off20 k) S256x2560.size (k0_off20_inb k)).toLoadRect (toX fx))
        (View.readAt (Elt F) mW.view (Rect.unit (s := S2560x4096) ![0, 0] S2560x512.size inb_S2560x4096_S2560x512_0_0).toLoadRect (toW fw))
        (constant S256x512 .f32 0x00000000#32) = accOf fx fw (k.val + 1) 0 :=
      (dot134 (F := F) _ _).trans (congrArg₂ (k0_pay373 (F := F)) (rd_xRows mX.view (k.val + 1) hm (by rw [k0_off20_eq]; exact congrArg (fun x => ![x, 0]) (by omega)) _ _)
        (rd_wCols mW.view 0 (by decide) rfl _ _))
    have ha := (acc_read _).trans ((whole_store (F := F) mAcc.view mAcc.view.junk (vloop5.sl.H2_1 c fx fw k) _ inb_S256x512_S256x512_0_0 rfl).trans hd)
    have hws := rd_colsOf (F := F) mWs.view 0 (by decide) rfl inb_S1x4096_S1x512_0_0 gws
    have hb := rd_colsOf (F := F) mBias.view 0 (by decide) rfl inb_S1x4096_S1x512_0_0 gb
    have hxs := (xs_read _).trans (xs_trip f1 _ (arg2.view.read (Elt F) fa2) (k.val + 1) inb_S256x128_S64x128_0_0_s_4_1 inb_S256x128_S64x128_1_0_s_4_1 inb_S256x128_S64x128_2_0_s_4_1 inb_S256x128_S64x128_3_0_s_4_1 spos_4_1
      (rd_d2 arg2.view (k.val + 1) hm (by rw [k0_off19_eq]; exact congrArg (fun x => ![x, 0]) (by omega)) (k0_off19_inb k) fa2))
    have hM := m_fin (d2 := arg2.view.read (Elt F) fa2) (fx := fx) (fw := fw) (gws := gws) (gb := gb) t7_trips hxs (m_first (A := f3) t6_trips ha hxs hws hb)
    have hS := s_fin (d2 := arg2.view.read (Elt F) fa2) (fx := fx) (fw := fw) (gws := gws) (gb := gb) t7_trips hxs (m_first (A := f3) t6_trips ha hxs hws hb) (s_first (A := f4) t6_trips ha hxs hws hb)
    have hL := l_fin (A := f7) t15_trips hM hS
    isplitl [Ha2]; · iexact Ha2
    isplitl [Ha9]
    · iexists _; isplitl [Ha9]; · iexact Ha9
      ipureintro
      refine zUp_store arg9.view k (k0_off19_eq k) (k0_off19_inb k) f9 _ z0 _ e9 fun j y h0 h1 => ?_
      exact z_trip (m := k.val + 1) _ _ _ _ ((ls_read _).trans hL) j y (by omega) h1
    isplitl [Hst]; · iexact Hst
    sl_close
end

end Cert.KernelIdeal.Hand

end
-- ==== Proof.KernelIdeal.RunV.lean ====
/-
  One run of the body, with the second result's buffer at its closed form.
-/
module

public import proofs.«01_k».proof.Proof.KernelIdeal.Rows5

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

variable (c : Dev nD) (arg2 : Memref sig .tc .vmem S512x4 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4x128 .i32) (harg5 : arg5.IsWhole) (arg6 : Memref sig .tc .smem S4 .i32) (harg6 : arg6.IsWhole) (arg7 : Memref sig .tc .smem S4 .i32) (harg7 : arg7.IsWhole) (arg8 : Memref sig .tc .vmem S1x4 .f32) (harg8 : arg8.IsWhole) (arg9 : Memref sig .tc .vmem S512x4 .f32) (harg9 : arg9.IsWhole) (arg10 : Memref sig .tc .vmem S4x257 .f32) (harg10 : arg10.IsWhole)

/-- The scales of the first row block as they are stored. -/
theorem xs_trip0 (f1 : mXs.view.ty.Contents (Elt F)) (v : Vec F S64x4 .f32) (d2 : Vec F S512x4 .f32) (m : ℕ) (i0 i1 i2 i3 pos)
    (hv : ∀ (i : Fin 64) (b : Fin 4), v (ix2 i b) = d2 (ix2 ⟨(64 * m + i.val) % 512, Nat.mod_lt _ (by decide)⟩ b)) :
    mXs.view.read (Elt F) (mXs.view.writes (Elt F) f1 [(⟨⟨(⟨![3, 0], S64x128.size, ![4, 1], i3⟩ : LoadRect S256x128), pos⟩, k0_pay367 v⟩ : View.Piece (Elt F) S256x128 .f32),
      ⟨⟨(⟨![2, 0], S64x128.size, ![4, 1], i2⟩ : LoadRect S256x128), pos⟩, k0_pay366 (k0_pay365 v)⟩, ⟨⟨(⟨![1, 0], S64x128.size, ![4, 1], i1⟩ : LoadRect S256x128), pos⟩, k0_pay364 v⟩,
      ⟨⟨(⟨![0, 0], S64x128.size, ![4, 1], i0⟩ : LoadRect S256x128), pos⟩, k0_pay363 v⟩]) = xsV d2 m :=
  st_read mXs.view f1 _ _ _ _ i0 i1 i2 i3 pos _
    (fun y h => xs_of hv 0 y h ⟨(y 0).val / 4, by have h : (y 0).val < 256 := (y 0).isLt; omega⟩ rfl (pay363_at v _ _))
    (fun y h => xs_of hv 1 y h ⟨(y 0).val / 4, by have h : (y 0).val < 256 := (y 0).isLt; omega⟩ rfl (pay364_at v _ _))
    (fun y h => xs_of hv 2 y h ⟨(y 0).val / 4, by have h : (y 0).val < 256 := (y 0).isLt; omega⟩ rfl (pay366_at v _ _))
    (fun y h => xs_of hv 3 y h ⟨(y 0).val / 4, by have h : (y 0).val < 256 := (y 0).isLt; omega⟩ rfl (pay367_at v _ _))

/-- A row stored whole is read back. -/
theorem row_store {κ sp} (v : View sig κ sp S1x4096 .f32) (f : v.ty.Contents (Elt F)) (w : Vec F S1x4096 .f32)
    (inb : ∀ a, (![0, 0] : Fin 2 → ℕ) a + S1x4096.size a ≤ S1x4096.size a) :
    v.read (Elt F) (v.writes (Elt F) f [(⟨Rect.unit (s := S1x4096) ![0, 0] S1x4096.size inb, w⟩ : View.Piece (Elt F) S1x4096 .f32)]) = w := by
  funext y
  refine (View.read_writes_cons_rows (off := ![0, 0]) (size := S1x4096.size) v f inb w [] y rfl (W := 1) rfl rfl).trans ?_
  have hy : (y 0).val < 1 := (y 0).isLt
  split
  · refine congrArg w ?_
    funext a; fin_cases a
    · exact Fin.ext (Nat.sub_zero _)
    · exact Fin.ext (Nat.sub_zero _)
  · omega

/-- A row loaded whole is the row. -/
theorem row_load {κ sp} (v : View sig κ sp S1x4096 .f32) (f : v.ty.Contents (Elt F))
    (inb : ∀ a, (![0, 0] : Fin 2 → ℕ) a + S1x4096.size a ≤ S1x4096.size a) :
    v.readAt (Elt F) (Rect.unit (s := S1x4096) ![0, 0] S1x4096.size inb).toLoadRect f = v.read (Elt F) f := by
  funext j
  exact rd_unit v ![0, 0] rfl inb f j j (fun a => by fin_cases a <;> exact (Nat.zero_add _).symm)

theorem ws_read (f : mWs.view.ty.Contents (Elt F)) : f = mWs.view.read (Elt F) f := rfl
theorem bias_read (f : mBias.view.ty.Contents (Elt F)) : f = mBias.view.read (Elt F) f := rfl

/-- The second result's rows: the first block from its own store, the others from the loop. -/
theorem z_all {κ sp} (v : View sig κ sp S512x4 .f32) (f : v.ty.Contents (Elt F)) (w : Vec F S64x4 .f32) (B : Vec F S512x4 .f32)
    (inb : ∀ a, (![0, 0] : Fin 2 → ℕ) a + S64x4.size a ≤ S512x4.size a) {n : ℕ} (hn : n = 7)
    (hw : ∀ (j : S64x4.Idx) (y : S512x4.Idx), (y 0).val = 64 * 0 + (j 0).val → (y 1).val = (j 1).val → w j = B y) :
    zUp (v.read (Elt F) (v.writes (Elt F) f [(⟨Rect.unit (s := S512x4) ![0, 0] S64x4.size inb, w⟩ : View.Piece (Elt F) S512x4 .f32)])) B n = B := by
  subst hn
  funext y
  have hy : (y 0).val < 512 := (y 0).isLt
  rw [zUp_apply]
  by_cases h : 64 ≤ (y 0).val
  · rw [if_pos (by omega)]
  · rw [if_neg (by omega)]
    refine (View.read_writes_cons_rows (off := ![0, 0]) (size := S64x4.size) v f inb w [] y rfl (W := 64) rfl rfl).trans ?_
    split
    swap; · omega
    exact hw _ y (by show (y 0).val = 64 * 0 + ((y 0).val - 0); omega) (by show (y 1).val = (y 1).val - 0; omega)

/-- … over inputs known only up to an equation. -/
theorem z_end {κ sp} (v : View sig κ sp S512x4 .f32) (f : v.ty.Contents (Elt F)) (w : Vec F S64x4 .f32) {d2 d2' : Vec F S512x4 .f32}
    {fx : Vec F S2048x2560 .fp8e4m3} {fw : Vec F S2560x4096 .fp8e4m3} {gws gws' gb gb' : Vec F S1x4096 .f32}
    (inb : ∀ a, (![0, 0] : Fin 2 → ℕ) a + S64x4.size a ≤ S512x4.size a) {n : ℕ} (hn : n = 7) (h2 : d2 = d2') (hs : gws = gws') (hb : gb = gb')
    (hw : ∀ (j : S64x4.Idx) (y : S512x4.Idx), (y 0).val = 64 * 0 + (j 0).val → (y 1).val = (j 1).val → w j = zAll d2 fx fw gws gb y) :
    zUp (v.read (Elt F) (v.writes (Elt F) f [(⟨Rect.unit (s := S512x4) ![0, 0] S64x4.size inb, w⟩ : View.Piece (Elt F) S512x4 .f32)])) (zAll d2 fx fw gws gb) n
      = zAll d2' fx fw gws' gb' := by
  subst h2 hs hb; exact z_all v f w _ inb hn hw

/-- The first row block as it is read after it has landed. -/
theorem x0_rd (c : Dev nD) (fx : HbBuf (F := F) c hX) (inb : ∀ a : Fin 2, (![0, 0] : Fin 2 → ℕ) a + S256x2560.size a ≤ S2048x2560.size a) :
    mX.view.readAt (Elt F) (Rect.unit (s := S2048x2560) ![0, 0] S256x2560.size inb).toLoadRect
      ((xB 0).view.writes (Elt F) (xB 0).view.junk [⟨Rect.whole S256x2560, (xhB 0).view.read (Elt F) fx⟩]) = xRows (show Vec F S2048x2560 .fp8e4m3 from fx) 0 := by
  refine Eq.trans ?_ (rd_xRows mX.view 0 (by decide) rfl inb (toX fx))
  funext j
  have hm : mX.view.emb ((Rect.unit (s := S2048x2560) ![0, 0] S256x2560.size inb).toLoadRect.idx j) ∈ (xB 0).view.set := by
    have h : mX.view.emb ((Rect.unit (s := S2048x2560) ![0, 0] S256x2560.size inb).toLoadRect.idx j) = (xB 0).view.emb j := by
      funext a; apply Fin.ext; fin_cases a <;> rfl
    rw [h]; exact (xB 0).view.emb_mem_set j
  rw [x_read, View.readAt_apply, View.readAt_apply, View.read_apply, View.read_apply]
  exact congrArg _ (landed (xB 0).view (toX fx) _ _ hm)

/-- The first column block as it is read after it has landed. -/
theorem w0_rd (c : Dev nD) (fw : HbBuf (F := F) c hW) (inb : ∀ a : Fin 2, (![0, 0] : Fin 2 → ℕ) a + S2560x512.size a ≤ S2560x4096.size a) :
    mW.view.readAt (Elt F) (Rect.unit (s := S2560x4096) ![0, 0] S2560x512.size inb).toLoadRect
      ((wB 0).view.writes (Elt F) (wB 0).view.junk [⟨Rect.whole S2560x512, (whB 0).view.read (Elt F) fw⟩]) = wCols (show Vec F S2560x4096 .fp8e4m3 from fw) 0 := by
  refine Eq.trans ?_ (rd_wCols mW.view 0 (by decide) rfl inb (toW fw))
  funext j
  have hm : mW.view.emb ((Rect.unit (s := S2560x4096) ![0, 0] S2560x512.size inb).toLoadRect.idx j) ∈ (wB 0).view.set := by
    have h : mW.view.emb ((Rect.unit (s := S2560x4096) ![0, 0] S2560x512.size inb).toLoadRect.idx j) = (wB 0).view.emb j := by
      funext a; apply Fin.ext; fin_cases a <;> rfl
    rw [h]; exact (wB 0).view.emb_mem_set j
  rw [w_read, View.readAt_apply, View.readAt_apply, View.read_apply, View.read_apply]
  exact congrArg _ (landed (wB 0).view (toW fw) _ _ hm)

theorem v2_trips' : Scf.trips k0_t2_loop.lb k0_t2_loop.ub k0_t2_loop.st = 7 := by decide +kernel
theorem v5_trips' : Scf.trips k0_t5_loop.lb k0_t5_loop.ub k0_t5_loop.st = 7 := by decide +kernel
theorem v2_trips : Scf.trips k0_t2_loop.lb k0_t2_loop.ub k0_t2_loop.st + 1 = 8 := by decide +kernel
theorem v5_trips : Scf.trips k0_t5_loop.lb k0_t5_loop.ub k0_t5_loop.st + 1 = 8 := by decide +kernel

set_option maxHeartbeats 4000000 in
/-- ONE RUN OF THE BODY. From the six staged inputs at the contents read, the three result buffers and the scratch at any
    contents, the DMA cells at zero and the two matrices in HBM, the body runs to its end with no fault, leaves the inputs
    and the matrices as they were, and gives everything back. -/
theorem runV (fx : HbBuf (F := F) c hX) (fw : HbBuf (F := F) c hW) (d2 : Vec F S512x4 .f32) (d3 d4 : Vec F S1x4096 .f32)
    (d5 : Vec F S4x128 .i32) (d6 d7 : Vec F S4 .i32) (W : Waits sig Unit) (K : PUnit → sProp 𝕄) :
  iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ (∃ d, owns (c : Thread nD τ) arg10 fullShare d)
     ∗ scrPt (F := F) c ∗ semsPt (F := F) c ∗ hbPt c hX fx ∗ hbPt c hW fw ∗ owes (c : Thread nD τ) 0 W
     ∗ ((owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ (∃ d, owns (c : Thread nD τ) arg8 fullShare d) ∗ owns (c : Thread nD τ) arg9 fullShare (zAll d2 (show Vec F S2048x2560 .fp8e4m3 from fx) (show Vec F S2560x4096 .fp8e4m3 from fw) (k0_pay312 d3) (k0_pay313 d4)) ∗ (∃ d, owns (c : Thread nD τ) arg10 fullShare d)
         ∗ scrPt (F := F) c ∗ semsPt (F := F) c ∗ hbPt c hX fx ∗ hbPt c hW fw ∗ (∃ W, owes (c : Thread nD τ) 0 W)) -∗ K PUnit.unit))
    ⊢ wp frame (wpE (defs₀ (F := F)) Variants.none c none) Set.univ (cc0_ctc_head hX (Memref.isWhole_whole _) hW (Memref.isWhole_whole _) arg2 harg2 arg3 harg3 arg4 harg4 arg5 harg5 arg6 harg6 arg7 harg7 arg8 harg8 arg9 harg9 arg10 harg10 mX (Memref.isWhole_whole _) mW (Memref.isWhole_whole _) mWs (Memref.isWhole_whole _) mBias (Memref.isWhole_whole _) mXs (Memref.isWhole_whole _) mM (Memref.isWhole_whole _) mS (Memref.isWhole_whole _) mG (Memref.isWhole_whole _) mBl (Memref.isWhole_whole _) mLse (Memref.isWhole_whole _) mE (Memref.isWhole_whole _) mEb (Memref.isWhole_whole _) mAcc (Memref.isWhole_whole _) cc0_scratch13 cc0_scratch14) K := by
  simp only [cc0_ctc_head_eq_skeleton]; unfold cc0_ctc_head_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩,
    ⟨⟨%gx, HX⟩, ⟨%gw, HW⟩, ⟨%gws, HWs⟩, ⟨%gb, HB⟩, ⟨%gxs, HXs⟩, ⟨%gm, HM⟩, ⟨%gs, HS⟩, ⟨%gg, HG⟩, ⟨%gbl, HBl⟩, ⟨%gl, HL⟩, ⟨%ge, HE⟩, ⟨%geb, HEb⟩, ⟨%ga, HA⟩⟩,
    ⟨Hq9, Hq10, Hq11, Hq12, Hq13, Hq14, Hq15, Hq16, Hq17, Hq18, Hq19, Hq20, Hq21, Hq22, Hq23, Hq24⟩, Hhx, Hhw, HO, Hk⟩
  ihave HX := (Entails.of_eq ((x_blocks c gx).trans (bigSep_fin8 _))) $$ HX
  ihave HW := (Entails.of_eq ((w_blocks c gw).trans (bigSep_fin8 _))) $$ HW
  ihave Hhx := (Entails.of_eq ((xh_blocks c fx).trans (bigSep_fin8 _))) $$ Hhx
  ihave Hhw := (Entails.of_eq ((wh_blocks c fw).trans (bigSep_fin8 _))) $$ Hhw
  icases HX with ⟨HX0, HX1, HX2, HX3, HX4, HX5, HX6, HX7⟩
  icases HW with ⟨HW0, HW1, HW2, HW3, HW4, HW5, HW6, HW7⟩
  icases Hhx with ⟨Hhx0, Hhx1, Hhx2, Hhx3, Hhx4, Hhx5, Hhx6, Hhx7⟩
  icases Hhw with ⟨Hhw0, Hhw1, Hhw2, Hhw3, Hhw4, Hhw5, Hhw6, Hhw7⟩
  set_option sl_exec.stopBefore "k0_part67" in sl_exec
  set_option sl_exec.maxSteps 12 in sl_exec
  unfold runV.sl.dma0 runV.sl.dma0_1 runV.sl.dma0_2 runV.sl.dma0_3 runV.sl.dma0_4 runV.sl.dma0_5 runV.sl.dma0_6 runV.sl.dma0_7 runV.sl.dma0_8 runV.sl.dma0_9 runV.sl.dma0_10 runV.sl.dma0_11 runV.sl.dma0_12 runV.sl.dma0_13 runV.sl.dma0_14 runV.sl.dma0_15
  ihave Hw := wState_one c fw $$ [HW0 Hhw0 Hq17 Hq18 Hq19 Hq20 Hq21 Hq22 Hq23 Hq24]
  · ihave HW0 := (Entails.of_eq (w_landed c 0 fw (wB 0).view.junk)) $$ HW0
    ihave Hq18 := wFly_mono c fw 1 gw $$ Hq18
    ihave Hq19 := wFly_mono c fw 2 gw $$ Hq19
    ihave Hq20 := wFly_mono c fw 3 gw $$ Hq20
    ihave Hq21 := wFly_mono c fw 4 gw $$ Hq21
    ihave Hq22 := wFly_mono c fw 5 gw $$ Hq22
    ihave Hq23 := wFly_mono c fw 6 gw $$ Hq23
    ihave Hq24 := wFly_mono c fw 7 gw $$ Hq24
    sl_close
  ihave HX0 := (Entails.of_eq (x_landed c 0 fx (xB 0).view.junk)) $$ HX0
  set_option sl_exec.stopBefore "k0_part68" in sl_exec
  ihave Hw := Entails.of_eq (congrArg (wState c fw) v2_trips) $$ Hw
  ihave Hw := wState_all c fw $$ Hw
  icases Hw with ⟨HW, Hhw, Hq17, Hq18, Hq19, Hq20, Hq21, Hq22, Hq23, Hq24⟩
  ihave Hx := xState_one c fx $$ [HX0 Hhx0 Hq9 Hq10 Hq11 Hq12 Hq13 Hq14 Hq15 Hq16]
  · ihave Hq10 := xFly_mono c fx 1 gx $$ Hq10
    ihave Hq11 := xFly_mono c fx 2 gx $$ Hq11
    ihave Hq12 := xFly_mono c fx 3 gx $$ Hq12
    ihave Hq13 := xFly_mono c fx 4 gx $$ Hq13
    ihave Hq14 := xFly_mono c fx 5 gx $$ Hq14
    ihave Hq15 := xFly_mono c fx 6 gx $$ Hq15
    ihave Hq16 := xFly_mono c fx 7 gx $$ Hq16
    sl_close
  sl_exec
  ihave Hx := Entails.of_eq (congrArg (xState c fx) v5_trips) $$ Hx
  ihave Hx := xState_all c fx $$ Hx
  icases Hx with ⟨HX, Hhx, Hq9, Hq10, Hq11, Hq12, Hq13, Hq14, Hq15, Hq16⟩
  sl_step
  iapply Hk
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _, _; isplitr; swap; · iexact H8
    ipureintro; rfl
  isplitl [H9]
  · iexists _; isplitr; swap; · iexact H9
    ipureintro
    have hz := hL2
    have hws : mWs.view.writes (Elt F) mWs.view.junk [(⟨Rect.unit (s := S1x4096) ![0, 0] S1x4096.size inb_S1x4096_S1x4096_0_0,
        k0_pay312 (View.readAt (Elt F) arg3.view (Rect.unit (s := S1x4096) ![0, 0] S1x4096.size inb_S1x4096_S1x4096_0_0).toLoadRect f3)⟩ : View.Piece (Elt F) S1x4096 .f32)] = k0_pay312 (F := F) d3 :=
      (ws_read _).trans ((row_store (F := F) mWs.view _ _ inb_S1x4096_S1x4096_0_0).trans (congrArg (k0_pay312 (F := F)) ((row_load arg3.view f3 _).trans e3)))
    have hb : mBias.view.writes (Elt F) mBias.view.junk [(⟨Rect.unit (s := S1x4096) ![0, 0] S1x4096.size inb_S1x4096_S1x4096_0_0,
        k0_pay313 (View.readAt (Elt F) arg4.view (Rect.unit (s := S1x4096) ![0, 0] S1x4096.size inb_S1x4096_S1x4096_0_0).toLoadRect f4)⟩ : View.Piece (Elt F) S1x4096 .f32)] = k0_pay313 (F := F) d4 :=
      (bias_read _).trans ((row_store (F := F) mBias.view _ _ inb_S1x4096_S1x4096_0_0).trans (congrArg (k0_pay313 (F := F)) ((row_load arg4.view f4 _).trans e4)))
    have hx : runV.sl.v527 c fx = xRows (show Vec F S2048x2560 .fp8e4m3 from fx) 0 := x0_rd c fx inb_S2048x2560_S256x2560_0_0
    have hw : runV.sl.v528 c fw = wCols (show Vec F S2560x4096 .fp8e4m3 from fw) 0 := w0_rd c fw inb_S2560x4096_S2560x512_0_0
    have hd : k0_pay368 (F := F) (runV.sl.v527 c fx) (runV.sl.v528 c fw) = accOf fx fw 0 0 := (dot368 (F := F) _ _).trans (congrArg₂ (k0_pay373 (F := F)) hx hw)
    have ha := (acc_read _).trans ((whole_store (F := F) mAcc.view mAcc.view.junk
      [(⟨Rect.unit (s := S256x512) ![0, 0] S256x512.size inb_S256x512_S256x512_0_0, k0_pay368 (runV.sl.v527 c fx) (runV.sl.v528 c fw)⟩ : View.Piece (Elt F) S256x512 .f32)] _ inb_S256x512_S256x512_0_0 rfl).trans hd)
    have hws0 : runV.sl.v533 c arg3 f3 = colsOf (mWs.view.writes (Elt F) mWs.view.junk [(⟨Rect.unit (s := S1x4096) ![0, 0] S1x4096.size inb_S1x4096_S1x4096_0_0,
        k0_pay312 (View.readAt (Elt F) arg3.view (Rect.unit (s := S1x4096) ![0, 0] S1x4096.size inb_S1x4096_S1x4096_0_0).toLoadRect f3)⟩ : View.Piece (Elt F) S1x4096 .f32)]) 0 :=
      (rd_colsOf (F := F) mWs.view 0 (by decide) rfl inb_S1x4096_S1x512_0_0 (mWs.view.writes (Elt F) mWs.view.junk [(⟨Rect.unit (s := S1x4096) ![0, 0] S1x4096.size inb_S1x4096_S1x4096_0_0,
        k0_pay312 (View.readAt (Elt F) arg3.view (Rect.unit (s := S1x4096) ![0, 0] S1x4096.size inb_S1x4096_S1x4096_0_0).toLoadRect f3)⟩ : View.Piece (Elt F) S1x4096 .f32)])).trans (congrArg (fun g => colsOf g 0) (ws_read (mWs.view.writes (Elt F) mWs.view.junk [(⟨Rect.unit (s := S1x4096) ![0, 0] S1x4096.size inb_S1x4096_S1x4096_0_0,
        k0_pay312 (View.readAt (Elt F) arg3.view (Rect.unit (s := S1x4096) ![0, 0] S1x4096.size inb_S1x4096_S1x4096_0_0).toLoadRect f3)⟩ : View.Piece (Elt F) S1x4096 .f32)])).symm)
    have hb0 : runV.sl.v534 c arg4 f4 = colsOf (mBias.view.writes (Elt F) mBias.view.junk [(⟨Rect.unit (s := S1x4096) ![0, 0] S1x4096.size inb_S1x4096_S1x4096_0_0,
        k0_pay313 (View.readAt (Elt F) arg4.view (Rect.unit (s := S1x4096) ![0, 0] S1x4096.size inb_S1x4096_S1x4096_0_0).toLoadRect f4)⟩ : View.Piece (Elt F) S1x4096 .f32)]) 0 :=
      (rd_colsOf (F := F) mBias.view 0 (by decide) rfl inb_S1x4096_S1x512_0_0 (mBias.view.writes (Elt F) mBias.view.junk [(⟨Rect.unit (s := S1x4096) ![0, 0] S1x4096.size inb_S1x4096_S1x4096_0_0,
        k0_pay313 (View.readAt (Elt F) arg4.view (Rect.unit (s := S1x4096) ![0, 0] S1x4096.size inb_S1x4096_S1x4096_0_0).toLoadRect f4)⟩ : View.Piece (Elt F) S1x4096 .f32)])).trans (congrArg (fun g => colsOf g 0) (bias_read (mBias.view.writes (Elt F) mBias.view.junk [(⟨Rect.unit (s := S1x4096) ![0, 0] S1x4096.size inb_S1x4096_S1x4096_0_0,
        k0_pay313 (View.readAt (Elt F) arg4.view (Rect.unit (s := S1x4096) ![0, 0] S1x4096.size inb_S1x4096_S1x4096_0_0).toLoadRect f4)⟩ : View.Piece (Elt F) S1x4096 .f32)])).symm)
    have hxs := (xs_read _).trans (xs_trip0 gxs _ (arg2.view.read (Elt F) f2) 0 inb_S256x128_S64x128_0_0_s_4_1 inb_S256x128_S64x128_1_0_s_4_1 inb_S256x128_S64x128_2_0_s_4_1 inb_S256x128_S64x128_3_0_s_4_1 spos_4_1
      (rd_d2 arg2.view 0 (by decide) rfl inb_S512x4_S64x4_0_0 f2))
    have hM := m_fin (d2 := arg2.view.read (Elt F) f2) (fx := fx) (fw := fw) (gws := (mWs.view.writes (Elt F) mWs.view.junk [(⟨Rect.unit (s := S1x4096) ![0, 0] S1x4096.size inb_S1x4096_S1x4096_0_0,
        k0_pay312 (View.readAt (Elt F) arg3.view (Rect.unit (s := S1x4096) ![0, 0] S1x4096.size inb_S1x4096_S1x4096_0_0).toLoadRect f3)⟩ : View.Piece (Elt F) S1x4096 .f32)]))
      (gb := (mBias.view.writes (Elt F) mBias.view.junk [(⟨Rect.unit (s := S1x4096) ![0, 0] S1x4096.size inb_S1x4096_S1x4096_0_0,
        k0_pay313 (View.readAt (Elt F) arg4.view (Rect.unit (s := S1x4096) ![0, 0] S1x4096.size inb_S1x4096_S1x4096_0_0).toLoadRect f4)⟩ : View.Piece (Elt F) S1x4096 .f32)])) v2_trips' hxs (m_first (A := gm) t1_trips ha hxs hws0 hb0)
    have hS := s_fin (d2 := arg2.view.read (Elt F) f2) (fx := fx) (fw := fw) (gws := (mWs.view.writes (Elt F) mWs.view.junk [(⟨Rect.unit (s := S1x4096) ![0, 0] S1x4096.size inb_S1x4096_S1x4096_0_0,
        k0_pay312 (View.readAt (Elt F) arg3.view (Rect.unit (s := S1x4096) ![0, 0] S1x4096.size inb_S1x4096_S1x4096_0_0).toLoadRect f3)⟩ : View.Piece (Elt F) S1x4096 .f32)]))
      (gb := (mBias.view.writes (Elt F) mBias.view.junk [(⟨Rect.unit (s := S1x4096) ![0, 0] S1x4096.size inb_S1x4096_S1x4096_0_0,
        k0_pay313 (View.readAt (Elt F) arg4.view (Rect.unit (s := S1x4096) ![0, 0] S1x4096.size inb_S1x4096_S1x4096_0_0).toLoadRect f4)⟩ : View.Piece (Elt F) S1x4096 .f32)])) v2_trips' hxs (m_first (A := gm) t1_trips ha hxs hws0 hb0) (s_first (A := gs) t1_trips ha hxs hws0 hb0)
    have hL := l_fin (A := gl) t4_trips hM hS
    refine hz.trans ?_
    refine z_end arg9.view f9 _ inb_S512x4_S64x4_0_0 v5_trips' e2 hws hb fun j y h0 h1 => ?_
    exact (congrFun (z378 _ _ _ _) j).trans (z_trip (m := 0) _ _ _ _ ((ls_read _).trans hL) j y h0 h1)
  isplitl [H10]
  · iexists _, _; isplitr; swap; · iexact H10
    ipureintro; rfl
  isplitl [HX HW HWs HB HXs HM HS HG HBl HL HE HEb HA]
  · isplitl [HX]; · iexists _; iexact HX
    isplitl [HW]; · iexists _; iexact HW
    isplitl [HWs]; · iexists _; iexact HWs
    isplitl [HB]; · iexists _; iexact HB
    isplitl [HXs]; · iexists _; iexact HXs
    isplitl [HM]; · iexists _; iexact HM
    isplitl [HS]; · iexists _; iexact HS
    isplitl [HG]; · iexists _; iexact HG
    isplitl [HBl]; · iexists _; iexact HBl
    isplitl [HL]; · iexists _; iexact HL
    isplitl [HE]; · iexists _; iexact HE
    isplitl [HEb]; · iexists _; iexact HEb
    iexists _; iexact HA
  isplitl [Hq9 Hq10 Hq11 Hq12 Hq13 Hq14 Hq15 Hq16 Hq17 Hq18 Hq19 Hq20 Hq21 Hq22 Hq23 Hq24]
  · isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    iexact Hq24
  isplitl [Hhx]; · iexact Hhx
  isplitl [Hhw]; · iexact Hhw
  iexists _; iexact HO

end Cert.KernelIdeal.Hand

end
-- ==== Proof.KernelIdeal.FrameV.lean ====
/-
  The frame with the second result's array at its closed form.
-/
module

public import proofs.«01_k».proof.Proof.KernelIdeal.RunV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The proof data: the second result at its closed form, the other two results' contents not named -/

/-- The windows whose contents are not named: the first and the third result. -/
def fgt : Fin cfg0.W → Bool := fun w => match w with
  | ⟨6, _⟩ | ⟨8, _⟩ => true
  | _ => false

/-- The second result, from the blocks of its row scales, column scales and bias and the two matrices in HBM. -/
def zOut (c : Dev nD) (t : Fin cfg0.N) : Vec F S512x4 .f32 :=
  zAll (show Vec F S512x4 .f32 from iblk m c 0 t) (show Vec F S2048x2560 .fp8e4m3 from V m c main_v0)
    (show Vec F S2560x4096 .fp8e4m3 from V m c main_arg2) (k0_pay312 (show Vec F S1x4096 .f32 from iblk m c 1 t)) (k0_pay313 (show Vec F S1x4096 .f32 from iblk m c 2 t))

/-- The proof data of the one pipeline on core `c`: the arrays as the region finds them, each input's buffer left at its
    block, the second result's at its closed form, the other results' at nothing in particular, the scratch, the cells and
    the two matrices held throughout. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => default
    | ⟨7, _⟩ => zOut m c t
    | ⟨8, _⟩ => fun _ => default
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
/-- Input window 0's buffer holds its block when the body is entered. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
/-- Input window 1's buffer holds its block when the body is entered. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
/-- Input window 2's buffer holds its block when the body is entered. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
/-- Input window 3's buffer holds its block when the body is entered. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
/-- Input window 4's buffer holds its block when the body is entered. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
/-- Input window 5's buffer holds its block when the body is entered. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

theorem after0_7 (c : Dev nD) (t : Fin cfg0.N) : (dats m 0 c).after 7 t = zOut m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d)
    ∗ (∃ d, owns (c : Thread nD τ) (win0_7.stage (cfg0.slots t 7)) fullShare ((dats m 0 c).before 7 t d))
    ∗ (∃ d, owns (c : Thread nD τ) (win0_8.stage (cfg0.slots t 8)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d)
    ∗ owns (c : Thread nD τ) (win0_7.stage (cfg0.slots t 7)) fullShare ((dats m 0 c).after 7 t)
    ∗ (∃ d, owns (c : Thread nD τ) (win0_8.stage (cfg0.slots t 8)) fullShare d))

/-- The body runs at the one point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_7]
  unfold zOut
  rw [show (dats m 0 c).Φ t.castSucc = Pipeline.ΦD osem0 spec0 H0 (V m) c from rfl, PhiD0_eq]
  simp only [before0_0, before0_1, before0_2, before0_3, before0_4, before0_5]
  unfold Dat.owesAt Pipeline.owesWithin
  rw [show (dats m 0 c).owed t.castSucc = 0 from rfl, show (dats m 0 c).owed t.succ = 0 from rfl]
  iintro ⟨⟨Hscr, Hg, Hq, ⟨Hhx, Hhw⟩⟩, ⟨%W, -, HO⟩, ⟨%x2, H2⟩, ⟨%x3, H3⟩, ⟨%x4, H4⟩, ⟨%x5, H5⟩, ⟨%x6, H6⟩, ⟨%x7, H7⟩, H8, ⟨%x9, H9⟩, H10⟩
  iapply (runV c _ _ _ _ _ _ _ _ _ _ _ _ _ _ _ _ _ _ (V m c main_v0) (V m c main_arg2) (iblk m c 0 t) (iblk m c 1 t) (iblk m c 2 t) (iblk m c 3 t) (iblk m c 4 t) (iblk m c 5 t) W _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [Hscr]; · iexact Hscr
  isplitl [Hq]; · iexact Hq
  isplitl [Hhx]; · iexact Hhx
  isplitl [Hhw]; · iexact Hhw
  isplitl [HO]; · iexact HO
  iintro ⟨H2, H3, H4, H5, H6, H7, H8, H9, H10, Hscr, Hq, Hhx, Hhw, ⟨%W', HO⟩⟩
  isplitl [Hscr Hg Hq Hhx Hhw]
  · isplitl [Hscr]; · iexact Hscr
    isplitl [Hg]; · iexact Hg
    isplitl [Hq]; · iexact Hq
    isplitl [Hhx]; · iexact Hhx
    iexact Hhw
  isplitl [HO]
  · iexists W'; isplitr; · ipureintro; exact fun _ _ => Or.inl trivial
    iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_dma_forget (Q' := _) cfgs (dats m) (0 : Fin 1) launch0 osem0 defs₀ Variants.none fgt ownSemFacts0 H0 H0_sub m ρ main
    (hbody := body_obligation m) (hshare := fun c => (dats m 0 c).share_full fun _ => rfl)
    (howed := fun _ _ => rfl) (V := V m) (hmain := hmain m Variants.none) (hA := A_eq m)
    (hin := fun _ => .rfl) (hout := fun _ => .rfl)

/-- An input window's array ends as the region found it. -/
theorem in_end (c : Dev nD) (w : Fin cfg0.W) (hw : (cfg0.win w).isOut = false) (hf : fgt w = false) (X) :
    ((dats m 0 c).toRForget fgt).ArrAt w cfg0.N X → X = V m c (Pipeline.arrRef spec0 w) := fun h =>
  ((Pipeline.Dat.toRForget_arrAt_iff (dats m 0 c) hf _ X).mp h).trans (((dats m 0 c).arrAt_in w hw _).trans (A_eq m c w))

/-- THE FRAME: every execution ends, the eight arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      (in_end m c 0 rfl rfl _ ((h.1 c).1 0)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (in_end m c 3 rfl rfl _ ((h.1 c).1 3)).trans (V_main_arg5 m c),
      (in_end m c 4 rfl rfl _ ((h.1 c).1 4)).trans (V_main_arg6 m c),
      (in_end m c 5 rfl rfl _ ((h.1 c).1 5)).trans (V_main_arg7 m c)⟩, h.2⟩) (run_main m ρ)

/-! ## The blocks are the arrays -/

theorem iblk0_eq (c : Dev nD) (t : Fin cfg0.N) : (show Vec F S512x4 .f32 from iblk m c 0 t) = (show Vec F S512x4 .f32 from V m c main_arg1) := by
  funext j
  show V m c main_arg1 (((cfg0.win 0).blk t).view.emb j) = V m c main_arg1 j
  refine congrArg (V m c main_arg1) ?_
  funext a; apply Fin.ext
  match a with
  | ⟨0, _⟩ => show 0 * 512 + 1 * (j 0).val = (j 0).val; omega
  | ⟨1, _⟩ => show 0 * 4 + 1 * (j 1).val = (j 1).val; omega
theorem iblk1_eq (c : Dev nD) (t : Fin cfg0.N) : (show Vec F S1x4096 .f32 from iblk m c 1 t) = (show Vec F S1x4096 .f32 from V m c main_v1) := by
  funext j
  show V m c main_v1 (((cfg0.win 1).blk t).view.emb j) = V m c main_v1 j
  refine congrArg (V m c main_v1) ?_
  funext a; apply Fin.ext
  match a with
  | ⟨0, _⟩ => show 0 * 1 + 1 * (j 0).val = (j 0).val; omega
  | ⟨1, _⟩ => show 0 * 4096 + 1 * (j 1).val = (j 1).val; omega
theorem iblk2_eq (c : Dev nD) (t : Fin cfg0.N) : (show Vec F S1x4096 .f32 from iblk m c 2 t) = (show Vec F S1x4096 .f32 from V m c main_v2) := by
  funext j
  show V m c main_v2 (((cfg0.win 2).blk t).view.emb j) = V m c main_v2 j
  refine congrArg (V m c main_v2) ?_
  funext a; apply Fin.ext
  match a with
  | ⟨0, _⟩ => show 0 * 1 + 1 * (j 0).val = (j 0).val; omega
  | ⟨1, _⟩ => show 0 * 4096 + 1 * (j 1).val = (j 1).val; omega

/-! ## The host's reshapes -/

theorem V_v0 (c : Dev nD) : V m c main_v0 = shapeCast S2048x2560 (show Vec F S512x4x2560 .fp8e4m3 from m ((c : Thread nD τ).loc main_arg0)) shapeCasts_S512x4x2560_S2048x2560 := by
  show StableHlo.after hostOps0 _ (Proc.devRef .tc main_v0) = _
  after_results
  rfl
theorem V_v1 (c : Dev nD) : V m c main_v1 = shapeCast S1x4096 (show Vec F S4096 .f32 from m ((c : Thread nD τ).loc main_arg3)) shapeCasts_S4096_S1x4096 := by
  show StableHlo.after hostOps0 _ (Proc.devRef .tc main_v1) = _
  after_results
  rfl
theorem V_v2 (c : Dev nD) : V m c main_v2 = shapeCast S1x4096 (show Vec F S4096 .f32 from m ((c : Thread nD τ).loc main_arg4)) shapeCasts_S4096_S1x4096 := by
  show StableHlo.after hostOps0 _ (Proc.devRef .tc main_v2) = _
  after_results
  rfl

/-- The second result as a function of the arguments: row scales, activations, matrix, column scales, bias. -/
def zRes (a1 : Vec F S512x4 .f32) (a0 : Vec F S512x4x2560 .fp8e4m3) (a2 : Vec F S2560x4096 .fp8e4m3) (a3 a4 : Vec F S4096 .f32) : Vec F S512x4 .f32 :=
  zAll a1 (shapeCast S2048x2560 a0 shapeCasts_S512x4x2560_S2048x2560) a2 (k0_pay312 (shapeCast S1x4096 a3 shapeCasts_S4096_S1x4096))
    (k0_pay313 (shapeCast S1x4096 a4 shapeCasts_S4096_S1x4096))

theorem zOut_eq (c : Dev nD) (t : Fin cfg0.N) : zOut m c t = zRes (m ((c : Thread nD τ).loc main_arg1)) (m ((c : Thread nD τ).loc main_arg0))
    (m ((c : Thread nD τ).loc main_arg2)) (m ((c : Thread nD τ).loc main_arg3)) (m ((c : Thread nD τ).loc main_arg4)) := by
  unfold zOut zRes
  rw [iblk0_eq, iblk1_eq, iblk2_eq, V_v0, V_v1, V_v2, V_main_arg1, V_main_arg2]

/-- The second result's array at the end. -/
theorem final7 (c : Dev nD) : (dats m 0 c).arrAt 7 cfg0.N = zRes (m ((c : Thread nD τ).loc main_arg1)) (m ((c : Thread nD τ).loc main_arg0))
    (m ((c : Thread nD τ).loc main_arg2)) (m ((c : Thread nD τ).loc main_arg3)) (m ((c : Thread nD τ).loc main_arg4)) := by
  refine (dats m 0 c).arrAt_eq_of_after_last 7 (⟨0, by decide⟩ : Fin cfg0.N) (by decide +kernel) _ fun j => ?_
  rw [after0_7, zOut_eq]
  rfl

/-- THE RUN WITH THE SECOND RESULT: every execution ends, the second result's array at its closed form and the eight
    arguments as they were. -/
theorem run_value : θ_run defs (onTc (τ := τ) (main (F := F))) ⟨m, fun _ => 0, ρ⟩ (fun r => ∀ c : Dev nD,
      r.2.mem ((c.tc : Thread nD τ).loc main_v3_1) = zRes (m ((c : Thread nD τ).loc main_arg1)) (m ((c : Thread nD τ).loc main_arg0))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h => fun c => ⟨
      ((Pipeline.Dat.toRForget_arrAt_iff (dats m 0 c) (w := 7) rfl _ _).mp ((h.1 c).1 7)).trans (final7 m c),
      ((h.1 c).2 main_arg0 (Pipeline.mem_restRefs_of main_arg0 (by decide) (by decide))).trans (V_main_arg0 m c),
      (in_end m c 0 rfl rfl _ ((h.1 c).1 0)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (in_end m c 3 rfl rfl _ ((h.1 c).1 3)).trans (V_main_arg5 m c),
      (in_end m c 4 rfl rfl _ ((h.1 c).1 4)).trans (V_main_arg6 m c),
      (in_end m c 5 rfl rfl _ ((h.1 c).1 5)).trans (V_main_arg7 m c)⟩) (run_main m ρ)

end Cert.KernelIdeal.Hand

end
-- ==== Proof.KernelIdeal.Result.lean ====
/-
  The second result over extended reals is the reference's.
-/
module

public import proofs.«01_k».proof.Proof.KernelIdeal.Ideal
public import proofs.«01_k».proof.Proof.KernelIdeal.FrameV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

theorem logit_at (a0 : Vec Ideal S512x4x2560 .fp8e4m3) (a2 : Vec Ideal S2560x4096 .fp8e4m3) (a1 : Vec Ideal S512x4 .f32) (a3 a4 : Vec Ideal S4096 .f32) (i : Fin 512) (j : Fin 4) (k : Fin 4096) :
    logit a1 (shapeCast S2048x2560 a0 shapeCasts_S512x4x2560_S2048x2560) a2 (shapeCast S1x4096 a3 shapeCasts_S4096_S1x4096) (shapeCast S1x4096 a4 shapeCasts_S4096_S1x4096) i j k
      = (∑ l, a0 (ix3 i j l) * a2 (ix2 l k)) * a1 (ix2 i j) * a3 (ix1 k) + a4 (ix1 k) := by
  have h0 : ∀ l : Fin 2560, shapeCast S2048x2560 a0 shapeCasts_S512x4x2560_S2048x2560 (ix2 ⟨4 * i.val + j.val, by omega⟩ l) = a0 (ix3 i j l) := fun l => by
    pointwise
  have h3 : shapeCast S1x4096 a3 shapeCasts_S4096_S1x4096 (ix2 0 k) = a3 (ix1 k) := by pointwise
  have h4 : shapeCast S1x4096 a4 shapeCasts_S4096_S1x4096 (ix2 0 k) = a4 (ix1 k) := by pointwise
  unfold logit
  rw [h3, h4]
  simp only [h0]

/-- THE SECOND RESULT OVER EXTENDED REALS: the kernel's closed form is the reference's. -/
theorem zRes_eq (a1 : Vec Ideal S512x4 .f32) (a0 : Vec Ideal S512x4x2560 .fp8e4m3) (a2 : Vec Ideal S2560x4096 .fp8e4m3) (a3 a4 : Vec Ideal S4096 .f32) :
    zRes (F := Ideal) a1 a0 a2 a3 a4 = Cert.ReferenceIdeal.Gen.k0_pay1 (F := Ideal) a0 a2 a1 a3 a4 := by
  funext y
  idx_vars y
  exact (zAll_at ..).trans (ref_at a0 a2 a1 a3 a4 _ _ _ (logit_at a0 a2 a1 a3 a4 _ _)).symm

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Result
public import Idealize.ShloMosaic.Adequacy
public import Idealize.ShloMosaic.Init

@[expose] public section

noncomputable section

namespace Cert.Proof

open Idealize.ShloMosaic Idealize.SL.Sem

/-- The two literals are the constants the ideal kernel names: `1 / log 2` and `log 2`. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩

/-- THE SECOND RESULT: over extended reals the kernel and the reference, from the same arguments, end with the same array. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.zRes (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run_value m g, (θ_run _ _ _).mono (fun r h c => ?_) (Cert.ReferenceIdeal.Value.run m' g')⟩
  refine ⟨(h c).1.trans ?_, (h c).2⟩
  obtain ⟨e0, e1, e2, e3, e4, -, -, -⟩ := hargs c
  rw [e0, e1, e2, e3, e4]
  exact (Cert.KernelIdeal.Hand.zRes_eq _ _ _ _ _).symm

theorem claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.ReferenceIdeal.Gen.frame m g,
    preserves, algebraic⟩

end Cert.Proof

end
